-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2 = (fun _ => 1#1)

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecRefIdeal (m : (ℓ : Loc Cert.RecRefIdeal.nD Cert.RecRefIdeal.τ Cert.RecRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v17_0)) (v1 : (c : Dev Cert.AttnIdeal.nD) → Buf (Elt Ideal) ((c.tc : Thread Cert.AttnIdeal.nD Cert.AttnIdeal.τ).loc Cert.AttnIdeal.main_v17_3)) (v2 : (c : Dev Cert.AttnIdeal.nD) → Buf (Elt Ideal) ((c.tc : Thread Cert.AttnIdeal.nD Cert.AttnIdeal.τ).loc Cert.AttnIdeal.main_v17_1)) (v3 : (c : Dev Cert.AttnIdeal.nD) → Buf (Elt Ideal) ((c.tc : Thread Cert.AttnIdeal.nD Cert.AttnIdeal.τ).loc Cert.AttnIdeal.main_v17_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v17_0) = v0 c
          ∧ r.2.mem ((c.tc : Thread Cert.AttnIdeal.nD Cert.AttnIdeal.τ).loc Cert.AttnIdeal.main_v17_3) = v1 c
          ∧ r.2.mem ((c.tc : Thread Cert.AttnIdeal.nD Cert.AttnIdeal.τ).loc Cert.AttnIdeal.main_v17_1) = v2 c
          ∧ r.2.mem ((c.tc : Thread Cert.AttnIdeal.nD Cert.AttnIdeal.τ).loc Cert.AttnIdeal.main_v17_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v82) = v0 c
          ∧ r.2.mem ((c.tc : Thread Cert.AttnRefIdeal.nD Cert.AttnRefIdeal.τ).loc Cert.AttnRefIdeal.main_v81) = v1 c
          ∧ r.2.mem ((c.tc : Thread Cert.AttnRefIdeal.nD Cert.AttnRefIdeal.τ).loc Cert.AttnRefIdeal.main_v83) = v2 c
          ∧ r.2.mem ((c.tc : Thread Cert.AttnRefIdeal.nD Cert.AttnRefIdeal.τ).loc Cert.AttnRefIdeal.main_v84) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Rec_RecIdeal : Prop :=
  True

def algebraic_RecIdeal_RecRefIdeal [hRecIdeal : Cert.RecIdeal.Facts] [hRecRefIdeal : Cert.RecRefIdeal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)) →
    ∃ (v0 : (c : Dev Cert.RecIdeal.nD) → Buf (Elt Ideal) ((c.tc : Thread Cert.RecIdeal.nD Cert.RecIdeal.τ).loc Cert.RecIdeal.main_v6)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v6) = v0 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v2) = v0 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v6)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v6) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hRec : Cert.Rec.Facts) (hRecIdeal : Cert.RecIdeal.Facts) (hRecRefIdeal : Cert.RecRefIdeal.Facts) (hKv : Cert.Kv.Facts) (hKvIdeal : Cert.KvIdeal.Facts) (hKvRefIdeal : Cert.KvRefIdeal.Facts) (hPre_finite : Cert.Pre_finite.Facts) (hPre_finite_ffn : Cert.Pre_finite_ffn.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Rec (hRec := hRec)
    ∧ quiescent_RecIdeal (hRecIdeal := hRecIdeal)
    ∧ quiescent_RecRefIdeal (hRecRefIdeal := hRecRefIdeal)
    ∧ quiescent_Kv (hKv := hKv)
    ∧ quiescent_KvIdeal (hKvIdeal := hKvIdeal)
    ∧ quiescent_KvRefIdeal (hKvRefIdeal := hKvRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Rec_RecIdeal
    ∧ algebraic_RecIdeal_RecRefIdeal (hRecIdeal := hRecIdeal) (hRecRefIdeal := hRecRefIdeal)
    ∧ preserves_Kv_KvIdeal
    ∧ algebraic_KvIdeal_KvRefIdeal (hKvIdeal := hKvIdeal) (hKvRefIdeal := hKvRefIdeal)
-- ==== Pre_finite.lean ====
abbrev S4x2048x1024 : Shape := ⟨3, ![4, 2048, 1024]⟩
abbrev S4x2048x2048 : Shape := ⟨3, ![4, 2048, 2048]⟩
abbrev S16x513 : Shape := ⟨2, ![16, 513]⟩
abbrev S1024 : Shape := ⟨1, ![1024]⟩
abbrev S2048x2048 : Shape := ⟨2, ![2048, 2048]⟩
abbrev S5632x2048 : Shape := ⟨2, ![5632, 2048]⟩
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S2048x8192 : Shape := ⟨2, ![2048, 8192]⟩

class Facts : Prop where
  bcast_S_S4x2048x1024 : S_.BroadcastsInDim S4x2048x1024 (![] : Fin 0 → Fin S4x2048x1024.rank)
  slices_S4x2048x2048_S4x2048x1024_0_0_0 : S4x2048x2048.Slices ![0, 0, 0] S4x2048x1024
  bcast_S_S16x513 : S_.BroadcastsInDim S16x513 (![] : Fin 0 → Fin S16x513.rank)
  bcast_S_S4x2048 : S_.BroadcastsInDim S4x2048 (![] : Fin 0 → Fin S4x2048.rank)
  slices_S2048x12288_S2048x8192_0_4096 : S2048x12288.Slices ![0, 4096] S2048x8192
  bcast_S_S2048x8192 : S_.BroadcastsInDim S2048x8192 (![] : Fin 0 → Fin S2048x8192.rank)

variable [Facts]

def fn {F : FTy → Type} [FloatOps F] (main_arg0 : FVec F S4x2048x1024 .bf16) (main_arg1 : FVec F S4x2048x2048 .bf16) (main_arg2 : FVec F S16x513 .f32) (main_arg3 : FVec F S1024 .f32) (main_arg4 : FVec F S2048x2048 .f32) (main_arg5 : FVec F S5632x2048 .f32) (main_arg6 : FVec F S4x2048 .f32) (main_arg7 : FVec F S2048x12288 .f32) (main_arg8 : FVec F S12288 .f32) : IVec S4x2048x1024 1 × IVec S4x2048x1024 1 × IVec S16x513 1 × IVec S4x2048 1 × IVec S2048x8192 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_v3 : FVec F S4x2048x1024 .bf16 := (extractStridedSlice S4x2048x1024 ![0, 0, 0] · slices_S4x2048x2048_S4x2048x1024_0_0_0) main_arg1
  let main_v4 : FVec F S4x2048x1024 .bf16 := Host.absf main_v3
  let main_cst_0 : FVec F S_ .bf16 := constant S_ .bf16 0x7F80#16
  let main_v5 : FVec F S4x2048x1024 .bf16 := broadcastInDim S4x2048x1024 ![] bcast_S_S4x2048x1024 main_cst_0
  let main_v6 : IVec S4x2048x1024 1 := cmpf .olt main_v4 main_v5
  let main_v7 : FVec F S16x513 .f32 := Host.absf main_arg2
  let main_cst_1 : FVec F S_ .f32 := constant S_ .f32 0x7F800000#32
  let main_v8 : FVec F S16x513 .f32 := broadcastInDim S16x513 ![] bcast_S_S16x513 main_cst_1
  let main_v9 : IVec S16x513 1 := cmpf .olt main_v7 main_v8
  let main_v10 : FVec F S4x2048 .f32 := Host.absf main_arg6
  let main_cst_2 : FVec F S_ .f32 := constant S_ .f32 0x7F800000#32
  let main_v11 : FVec F S4x2048 .f32 := broadcastInDim S4x2048 ![] bcast_S_S4x2048 main_cst_2
  let main_v12 : IVec S4x2048 1 := cmpf .olt main_v10 main_v11
  let main_v13 : FVec F S2048x8192 .f32 := (extractStridedSlice S2048x8192 ![0, 4096] · slices_S2048x12288_S2048x8192_0_4096) main_arg7
  let main_v14 : FVec F S2048x8192 .f32 := Host.absf main_v13
  let main_cst_3 : FVec F S_ .f32 := constant S_ .f32 0x7F800000#32
  let main_v15 : FVec F S2048x8192 .f32 := broadcastInDim S2048x8192 ![] bcast_S_S2048x8192 main_cst_3
  let main_v16 : IVec S2048x8192 1 := cmpf .olt main_v14 main_v15
  (main_v2, main_v6, main_v9, main_v12, main_v16)
-- ==== Pre_finite_ffn.lean ====
abbrev S2048x11264 : Shape := ⟨2, ![2048, 11264]⟩
abbrev S5632x2048 : Shape := ⟨2, ![5632, 2048]⟩
abbrev S4x2048x2048 : Shape := ⟨3, ![4, 2048, 2048]⟩
abbrev S4x8192 : Shape := ⟨2, ![4, 8192]⟩
abbrev S2048 : Shape := ⟨1, ![2048]⟩
abbrev S2048x5632 : Shape := ⟨2, ![2048, 5632]⟩
abbrev S_ : Shape := ⟨0, ![]⟩
abbrev S4x4096 : Shape := ⟨2, ![4, 4096]⟩

class Facts : Prop where
  slices_S2048x11264_S2048x5632_0_0 : S2048x11264.Slices ![0, 0] S2048x5632
  bcast_S_S2048x5632 : S_.BroadcastsInDim S2048x5632 (![] : Fin 0 → Fin S2048x5632.rank)
  slices_S4x8192_S4x4096_0_2048 : S4x8192.Slices ![0, 2048] S4x4096
  bcast_S_S4x4096 : S_.BroadcastsInDim S4x4096 (![] : Fin 0 → Fin S4x4096.rank)

variable [Facts]

def fn {F : FTy → Type} [FloatOps F] (main_arg0 : FVec F S2048x11264 .bf16) (main_arg1 : FVec F S5632x2048 .bf16) (main_arg2 : FVec F S4x2048x2048 .f32) (main_arg3 : FVec F S4x8192 .f32) (main_arg4 : FVec F S2048 .f32) (main_arg5 : FVec F S2048 .f32) : IVec S2048x5632 1 × IVec S4x4096 1 :=
  let main_v0 : FVec F S2048x5632 .bf16 := (extractStridedSlice S2048x5632 ![0, 0] · slices_S2048x11264_S2048x5632_0_0) main_arg0
  let main_v1 : FVec F S2048x5632 .bf16 := Host.absf main_v0
  let main_cst : FVec F S_ .bf16 := constant S_ .bf16 0x7F80#16
  let main_v2 : FVec F S2048x5632 .bf16 := broadcastInDim S2048x5632 ![] bcast_S_S2048x5632 main_cst
  let main_v3 : IVec S2048x5632 1 := cmpf .olt main_v1 main_v2
  let main_v4 : FVec F S4x4096 .f32 := (extractStridedSlice S4x4096 ![0, 2048] · slices_S4x8192_S4x4096_0_2048) main_arg3
  let main_v5 : FVec F S4x4096 .f32 := Host.absf main_v4
  let main_cst_0 : FVec F S_ .f32 := constant S_ .f32 0x7F800000#32
  let main_v6 : FVec F S4x4096 .f32 := broadcastInDim S4x4096 ![] bcast_S_S4x4096 main_cst_0
  let main_v7 : IVec S4x4096 1 := cmpf .olt main_v5 main_v6
  (main_v3, main_v7)
-- ==== Attn.lean ====
abbrev S4x2048x1024 : Shape := ⟨3, ![4, 2048, 1024]⟩
abbrev S4x2048x2048 : Shape := ⟨3, ![4, 2048, 2048]⟩
abbrev S16x513 : Shape := ⟨2, ![16, 513]⟩
abbrev S1024 : Shape := ⟨1, ![1024]⟩
abbrev S2048x2048 : Shape := ⟨2, ![2048, 2048]⟩
abbrev S5632x2048 : Shape := ⟨2, ![5632, 2048]⟩
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S768 : Shape := ⟨1, ![768]⟩
abbrev S768x1 : Shape := ⟨2, ![768, 1]⟩
abbrev S16x768 : Shape := ⟨2, ![16, 768]⟩
abbrev S8x2x768 : Shape := ⟨3, ![8, 2, 768]⟩
abbrev S8x1x128 : Shape := ⟨3, ![8, 1, 128]⟩
abbrev S4x8192 : Shape := ⟨2, ![4, 8192]⟩
abbrev S1x2048x128 : Shape := ⟨3, ![1, 2048, 128]⟩
abbrev S1x2x768 : Shape := ⟨3, ![1, 2, 768]⟩
abbrev S1x1x128 : Shape := ⟨3, ![1, 1, 128]⟩
abbrev S64x2048 : Shape := ⟨2, ![64, 2048]⟩
abbrev S176x2048 : Shape := ⟨2, ![176, 2048]⟩
abbrev S2048x256 : Shape := ⟨2, ![2048, 256]⟩
abbrev S1x256 : Shape := ⟨2, ![1, 256]⟩
abbrev S4x256 : Shape := ⟨2, ![4, 256]⟩
abbrev S128x2048 : Shape := ⟨2, ![128, 2048]⟩
abbrev S2x128x640 : Shape := ⟨3, ![2, 128, 640]⟩
abbrev S128x1280 : Shape := ⟨2, ![128, 1280]⟩
abbrev S128x128 : Shape := ⟨2, ![128, 128]⟩
abbrev S128x640 : Shape := ⟨2, ![128, 640]⟩
abbrev S1x1x768 : Shape := ⟨3, ![1, 1, 768]⟩
abbrev S1x768 : Shape := ⟨2, ![1, 768]⟩
abbrev S1x1024 : Shape := ⟨2, ![1, 1024]⟩
abbrev S128x1024 : Shape := ⟨2, ![128, 1024]⟩
abbrev S1x128x640 : Shape := ⟨3, ![1, 128, 640]⟩
abbrev S1x128 : Shape := ⟨2, ![1, 128]⟩
abbrev S1x128x128 : Shape := ⟨3, ![1, 128, 128]⟩
abbrev S128x256 : Shape := ⟨2, ![128, 256]⟩
abbrev S256x256 : Shape := ⟨2, ![256, 256]⟩
abbrev S128x512 : Shape := ⟨2, ![128, 512]⟩
abbrev S1x128x256 : Shape := ⟨3, ![1, 128, 256]⟩
abbrev S256x512 : Shape := ⟨2, ![256, 512]⟩
abbrev S128x384 : Shape := ⟨2, ![128, 384]⟩
abbrev S128x768 : Shape := ⟨2, ![128, 768]⟩
abbrev S1x128x384 : Shape := ⟨3, ![1, 128, 384]⟩
abbrev S256x768 : Shape := ⟨2, ![256, 768]⟩
abbrev S128 : Shape := ⟨1, ![128]⟩
abbrev S128x1 : Shape := ⟨2, ![128, 1]⟩
abbrev S1x128x512 : Shape := ⟨3, ![1, 128, 512]⟩
abbrev S256x1024 : Shape := ⟨2, ![256, 1024]⟩
abbrev S512x256 : Shape := ⟨2, ![512, 256]⟩
abbrev S16x2048 : Shape := ⟨2, ![16, 2048]⟩
abbrev S256x1280 : Shape := ⟨2, ![256, 1280]⟩
abbrev S384x256 : Shape := ⟨2, ![384, 256]⟩
abbrev S768x256 : Shape := ⟨2, ![768, 256]⟩
abbrev S1024x256 : Shape := ⟨2, ![1024, 256]⟩
abbrev S640x256 : Shape := ⟨2, ![640, 256]⟩
abbrev S1280x256 : Shape := ⟨2, ![1280, 256]⟩
abbrev S24x2048 : Shape := ⟨2, ![24, 2048]⟩
abbrev S24x256 : Shape := ⟨2, ![24, 256]⟩
abbrev S8x256 : Shape := ⟨2, ![8, 256]⟩

abbrev nBuf : Space → Nat
  | .hbm => 43
  | .vmem => 35
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S16x513, .f32⟩
  | .hbm, ⟨3, _⟩ => ⟨S1024, .f32⟩
  | .hbm, ⟨4, _⟩ => ⟨S2048x2048, .f32⟩
  | .hbm, ⟨5, _⟩ => ⟨S5632x2048, .f32⟩
  | .hbm, ⟨6, _⟩ => ⟨S4x2048, .f32⟩
  | .hbm, ⟨7, _⟩ => ⟨S2048x12288, .f32⟩
  | .hbm, ⟨8, _⟩ => ⟨S12288, .f32⟩
  | .hbm, ⟨9, _⟩ => ⟨S_, .i32⟩
  | .hbm, ⟨10, _⟩ => ⟨S_, .f32⟩
  | .hbm, ⟨11, _⟩ => ⟨S8x2048, .f32⟩
  | .hbm, ⟨12, _⟩ => ⟨S1x12288, .f32⟩
  | .hbm, ⟨13, _⟩ => ⟨S768, .i32⟩
  | .hbm, ⟨14, _⟩ => ⟨S_, .i32⟩
  | .hbm, ⟨15, _⟩ => ⟨S768, .i32⟩
  | .hbm, ⟨16, _⟩ => ⟨S768, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S768, .i32⟩
  | .hbm, ⟨21, _⟩ => ⟨S768, .i32⟩
  | .hbm, ⟨22, _⟩ => ⟨S_, .i32⟩
  | .hbm, ⟨23, _⟩ => ⟨S768, .i32⟩
  | .hbm, ⟨24, _⟩ => ⟨S768, .i32⟩
  | .hbm, ⟨25, _⟩ => ⟨S_, .i32⟩
  | .hbm, ⟨26, _⟩ => ⟨S768, .i32⟩
  | .hbm, ⟨27, _⟩ => ⟨S768, .i32⟩
  | .hbm, ⟨28, _⟩ => ⟨S_, .i32⟩
  | .hbm, ⟨29, _⟩ => ⟨S768, .i32⟩
  | .hbm, ⟨30, _⟩ => ⟨S768, .i1⟩
  | .hbm, ⟨31, _⟩ => ⟨S_, .i32⟩
  | .hbm, ⟨32, _⟩ => ⟨S768, .i32⟩
  | .hbm, ⟨33, _⟩ => ⟨S768, .i32⟩
  | .hbm, ⟨34, _⟩ => ⟨S768, .i32⟩
  | .hbm, ⟨35, _⟩ => ⟨S768x1, .i32⟩
  | .hbm, ⟨36, _⟩ => ⟨S16x768, .f32⟩
  | .hbm, ⟨37, _⟩ => ⟨S8x2x768, .f32⟩
  | .hbm, ⟨38, _⟩ => ⟨S8x1x128, .f32⟩
  | .hbm, ⟨39, _⟩ => ⟨S4x2048x1024, .bf16⟩
  | .hbm, ⟨40, _⟩ => ⟨S2048x2048, .bf16⟩
  | .hbm, ⟨41, _⟩ => ⟨S5632x2048, .bf16⟩
  | .hbm, ⟨42, _⟩ => ⟨S4x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2x768, .f32⟩
  | .local _ .vmem, ⟨7, _⟩ => ⟨S1x2x768, .f32⟩
  | .local _ .vmem, ⟨8, _⟩ => ⟨S1x1x128, .f32⟩
  | .local _ .vmem, ⟨9, _⟩ => ⟨S1x1x128, .f32⟩
  | .local _ .vmem, ⟨10, _⟩ => ⟨S64x2048, .f32⟩
  | .local _ .vmem, ⟨11, _⟩ => ⟨S64x2048, .f32⟩
  | .local _ .vmem, ⟨12, _⟩ => ⟨S176x2048, .f32⟩
  | .local _ .vmem, ⟨13, _⟩ => ⟨S176x2048, .f32⟩
  | .local _ .vmem, ⟨14, _⟩ => ⟨S8x2048, .f32⟩
  | .local _ .vmem, ⟨15, _⟩ => ⟨S2048x256, .f32⟩
  | .local _ .vmem, ⟨16, _⟩ => ⟨S2048x256, .f32⟩
  | .local _ .vmem, ⟨17, _⟩ => ⟨S1x256, .f32⟩
  | .local _ .vmem, ⟨18, _⟩ => ⟨S1x256, .f32⟩
  | .local _ .vmem, ⟨19, _⟩ => ⟨S1x2048x128, .bf16⟩
  | .local _ .vmem, ⟨20, _⟩ => ⟨S1x2048x128, .bf16⟩
  | .local _ .vmem, ⟨21, _⟩ => ⟨S64x2048, .bf16⟩
  | .local _ .vmem, ⟨22, _⟩ => ⟨S64x2048, .bf16⟩
  | .local _ .vmem, ⟨23, _⟩ => ⟨S176x2048, .bf16⟩
  | .local _ .vmem, ⟨24, _⟩ => ⟨S176x2048, .bf16⟩
  | .local _ .vmem, ⟨25, _⟩ => ⟨S4x256, .f32⟩
  | .local _ .vmem, ⟨26, _⟩ => ⟨S4x256, .f32⟩
  | .local _ .vmem, ⟨27, _⟩ => ⟨S128x2048, .bf16⟩
  | .local _ .vmem, ⟨28, _⟩ => ⟨S128x2048, .bf16⟩
  | .local _ .vmem, ⟨29, _⟩ => ⟨S2048x256, .bf16⟩
  | .local _ .vmem, ⟨30, _⟩ => ⟨S2048x256, .bf16⟩
  | .local _ .vmem, ⟨31, _⟩ => ⟨S2x128x640, .bf16⟩
  | .local _ .vmem, ⟨32, _⟩ => ⟨S128x1280, .f32⟩
  | .local _ .vmem, ⟨33, _⟩ => ⟨S128x1280, .f32⟩
  | .local _ .vmem, ⟨34, _⟩ => ⟨S128x1280, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v5 : Ref sig .tc := ⟨.hbm, 24, rfl⟩
abbrev main_c_3 : Ref sig .tc := ⟨.hbm, 25, rfl⟩
abbrev main_v6 : Ref sig .tc := ⟨.hbm, 26, rfl⟩
abbrev main_v7 : Ref sig .tc := ⟨.hbm, 27, rfl⟩
abbrev main_c_4 : Ref sig .tc := ⟨.hbm, 28, rfl⟩
abbrev main_v8 : Ref sig .tc := ⟨.hbm, 29, rfl⟩
abbrev main_v9 : Ref sig .tc := ⟨.hbm, 30, rfl⟩
abbrev main_c_5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev main_v17_2 : Ref sig .tc := ⟨.hbm, 41, rfl⟩
abbrev main_v17_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![c0_i32.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![c0_i32.toNat, v2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S4x2048x1024 : Shape := ⟨3, ![4, 2048, 1024]⟩
abbrev S4x2048x2048 : Shape := ⟨3, ![4, 2048, 2048]⟩
abbrev S16x513 : Shape := ⟨2, ![16, 513]⟩
abbrev S1024 : Shape := ⟨1, ![1024]⟩
abbrev S2048x2048 : Shape := ⟨2, ![2048, 2048]⟩
abbrev S5632x2048 : Shape := ⟨2, ![5632, 2048]⟩
abbrev S4x2048 : Shape := ⟨2, ![4, 2048]⟩
abbrev S2048x12288 : Shape := ⟨2, ![2048, 12288]⟩
abbrev S12288 : Shape := ⟨1, ![12288]⟩
abbrev S4x2048x16x64 : Shape := ⟨4, ![4, 2048, 16, 64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048x1 : Shape := ⟨3, ![2048, 2048, 1]⟩
abbrev S16x2048x2048 : Shape := ⟨3, ![16, 2048, 2048]⟩
abbrev S4x16x2048x2048 : Shape := ⟨4, ![4, 16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩
abbrev S4x16x64x2048 : Shape := ⟨4, ![4, 16, 64, 2048]⟩
abbrev S4x2048x16 : Shape := ⟨3, ![4, 2048, 16]⟩
abbrev S4x2048x16x1 : Shape := ⟨4, ![4, 2048, 16, 1]⟩
abbrev S16x64 : Shape := ⟨2, ![16, 64]⟩
abbrev S1x1x16x64 : Shape := ⟨4, ![1, 1, 16, 64]⟩
abbrev S2048x8192 : Shape := ⟨2, ![2048, 8192]⟩
abbrev S4x8192 : Shape := ⟨2, ![4, 8192]⟩
abbrev S8192 : Shape := ⟨1, ![8192]⟩
abbrev S1x8192 : Shape := ⟨2, ![1, 8192]⟩

abbrev nBuf : Space → Nat
  | .hbm => 160
  | .vmem => 0
  | .smem => 0
  | _ => 0

abbrev hbmTy0_0 (i : Nat) : BufTy := match i % 128 with
  | 0 => ⟨S4x2048x1024, .bf16⟩
  | 1 => ⟨S4x2048x2048, .bf16⟩
  | 2 => ⟨S16x513, .f32⟩
  | 3 => ⟨S1024, .f32⟩
  | 4 => ⟨S2048x2048, .f32⟩
  | 5 => ⟨S5632x2048, .f32⟩
  | 6 => ⟨S4x2048, .f32⟩
  | 7 => ⟨S2048x12288, .f32⟩
  | 8 => ⟨S12288, .f32⟩
  | 9 => ⟨S4x2048x1024, .f32⟩
  | 10 => ⟨S4x2048x16x64, .f32⟩
  | 11 => ⟨S_, .f32⟩
  | 12 => ⟨S_, .f32⟩
  | 13 => ⟨S_, .f32⟩
  | 14 => ⟨S_, .f32⟩
  | 15 => ⟨S4x2048x16x64, .f32⟩
  | 16 => ⟨S4x2048x16x64, .f32⟩
  | 17 => ⟨S4x2048x1024, .bf16⟩
  | 18 => ⟨S4x2048x1024, .f32⟩
  | 19 => ⟨S4x2048x16x64, .f32⟩
  | 20 => ⟨S4x2048x1024, .bf16⟩
  | 21 => ⟨S4x2048x1024, .f32⟩
  | 22 => ⟨S4x2048x16x64, .f32⟩
  | 23 => ⟨S2048, .i32⟩
  | 24 => ⟨S2048x1, .i32⟩
  | 25 => ⟨S2048, .i32⟩
  | 26 => ⟨S1x2048, .i32⟩
  | 27 => ⟨S2048x2048, .i32⟩
  | 28 => ⟨S2048x2048, .i32⟩
  | 29 => ⟨S2048x2048, .i32⟩
  | 30 => ⟨S_, .i32⟩
  | 31 => ⟨S_, .i32⟩
  | 32 => ⟨S_, .i32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S_, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S_, .i32⟩
  | 45 => ⟨S2048x2048, .i32⟩
  | 46 => ⟨S2048x2048, .i32⟩
  | 47 => ⟨S2048x2048, .i32⟩
  | 48 => ⟨S2048x2048x1, .i32⟩
  | 49 => ⟨S16x2048x2048, .f32⟩
  | 50 => ⟨S4x16x2048x2048, .f32⟩
  | 51 => ⟨S_, .f32⟩
  | 52 => ⟨S4x16x2048x2048, .f32⟩
  | 53 => ⟨S4x16x2048x2048, .f32⟩
  | 54 => ⟨S1x16x2048x2048, .f32⟩
  | 55 => ⟨S4x16x2048x2048, .f32⟩
  | 56 => ⟨S4x16x2048x2048, .f32⟩
  | 57 => ⟨S_, .i32⟩
  | 58 => ⟨S_, .i32⟩
  | 59 => ⟨S2048x1, .i32⟩
  | 60 => ⟨S2048x1, .i32⟩
  | 61 => ⟨S2048x1, .i32⟩
  | 62 => ⟨S_, .i32⟩
  | 63 => ⟨S2048x1, .i32⟩
  | 64 => ⟨S2048x1, .i1⟩
  | 65 => ⟨S2048x1, .i32⟩
  | 66 => ⟨S2048x1, .i32⟩
  | 67 => ⟨S_, .i32⟩
  | 68 => ⟨S2048x1, .i32⟩
  | 69 => ⟨S2048x1, .i1⟩
  | 70 => ⟨S2048x1, .i1⟩
  | 71 => ⟨S_, .i32⟩
  | 72 => ⟨S2048x1, .i32⟩
  | 73 => ⟨S2048x1, .i32⟩
  | 74 => ⟨S2048x1, .i32⟩
  | 75 => ⟨S_, .i32⟩
  | 76 => ⟨S_, .i32⟩
  | 77 => ⟨S1x2048, .i32⟩
  | 78 => ⟨S1x2048, .i32⟩
  | 79 => ⟨S1x2048, .i32⟩
  | 80 => ⟨S_, .i32⟩
  | 81 => ⟨S1x2048, .i32⟩
  | 82 => ⟨S1x2048, .i1⟩
  | 83 => ⟨S1x2048, .i32⟩
  | 84 => ⟨S1x2048, .i32⟩
  | 85 => ⟨S_, .i32⟩
  | 86 => ⟨S1x2048, .i32⟩
  | 87 => ⟨S1x2048, .i1⟩
  | 88 => ⟨S1x2048, .i1⟩
  | 89 => ⟨S_, .i32⟩
  | 90 => ⟨S1x2048, .i32⟩
  | 91 => ⟨S1x2048, .i32⟩
  | 92 => ⟨S1x2048, .i32⟩
  | 93 => ⟨S2048x2048, .i32⟩
  | 94 => ⟨S2048x2048, .i32⟩
  | 95 => ⟨S2048x2048, .i1⟩
  | 96 => ⟨S_, .i32⟩
  | 97 => ⟨S2048x1, .i32⟩
  | 98 => ⟨S2048x1, .i32⟩
  | 99 => ⟨S2048x2048, .i32⟩
  | 100 => ⟨S2048x2048, .i32⟩
  | 101 => ⟨S2048x2048, .i1⟩
  | 102 => ⟨S2048x2048, .i1⟩
  | 103 => ⟨S_, .f32⟩
  | 104 => ⟨S_, .f32⟩
  | 105 => ⟨S4x16x2048x2048, .i1⟩
  | 106 => ⟨S4x16x2048x2048, .f32⟩
  | 107 => ⟨S4x16x2048x2048, .f32⟩
  | 108 => ⟨S_, .f32⟩
  | 109 => ⟨S4x16x2048, .f32⟩
  | 110 => ⟨S_, .f32⟩
  | 111 => ⟨S4x16x2048, .f32⟩
  | 112 => ⟨S4x16x2048, .f32⟩
  | 113 => ⟨S4x16x2048x1, .f32⟩
  | 114 => ⟨S4x16x2048x2048, .f32⟩
  | 115 => ⟨S4x16x2048x2048, .f32⟩
  | 116 => ⟨S4x16x2048x2048, .f32⟩
  | 117 => ⟨S_, .f32⟩
  | 118 => ⟨S4x16x2048, .f32⟩
  | 119 => ⟨S4x16x2048x1, .f32⟩
  | 120 => ⟨S4x16x2048x2048, .f32⟩
  | 121 => ⟨S4x16x2048x2048, .f32⟩
  | 122 => ⟨S4x16x64x2048, .f32⟩
  | 123 => ⟨S4x2048x16x64, .f32⟩
  | 124 => ⟨S4x2048x16x64, .f32⟩
  | 125 => ⟨S_, .f32⟩
  | 126 => ⟨S4x2048x16, .f32⟩
  | 127 => ⟨S4x2048x16x1, .f32⟩
  | _ => ⟨S4x2048x1024, .bf16⟩

abbrev hbmTy0_1 (i : Nat) : BufTy := match i % 128 with
  | 0 => ⟨S_, .f32⟩
  | 1 => ⟨S4x2048x16x1, .f32⟩
  | 2 => ⟨S4x2048x16x1, .f32⟩
  | 3 => ⟨S_, .f32⟩
  | 4 => ⟨S4x2048x16x1, .f32⟩
  | 5 => ⟨S4x2048x16x1, .f32⟩
  | 6 => ⟨S4x2048x16x1, .f32⟩
  | 7 => ⟨S4x2048x16x64, .f32⟩
  | 8 => ⟨S4x2048x16x64, .f32⟩
  | 9 => ⟨S16x64, .f32⟩
  | 10 => ⟨S1x1x16x64, .f32⟩
  | 11 => ⟨S4x2048x16x64, .f32⟩
  | 12 => ⟨S4x2048x16x64, .f32⟩
  | 13 => ⟨S4x2048x1024, .f32⟩
  | 14 => ⟨S4x2048, .f32⟩
  | 15 => ⟨S4x2048, .f32⟩
  | 16 => ⟨S_, .f32⟩
  | 17 => ⟨S4x2048, .f32⟩
  | 18 => ⟨S4x2048, .f32⟩
  | 19 => ⟨S_, .f32⟩
  | 20 => ⟨S4x2048, .f32⟩
  | 21 => ⟨S4x2048, .f32⟩
  | 22 => ⟨S4x2048, .f32⟩
  | 23 => ⟨S2048x8192, .f32⟩
  | 24 => ⟨S4x8192, .f32⟩
  | 25 => ⟨S8192, .f32⟩
  | 26 => ⟨S1x8192, .f32⟩
  | 27 => ⟨S4x8192, .f32⟩
  | 28 => ⟨S4x8192, .f32⟩
  | 29 => ⟨S4x2048x1024, .bf16⟩
  | 30 => ⟨S2048x2048, .bf16⟩
  | 31 => ⟨S5632x2048, .bf16⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v35 : Ref sig .tc := ⟨.hbm, 74, rfl⟩
abbrev main_c_7 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_c_8 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_9 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v46 : Ref sig .tc := ⟨.hbm, 107, rfl⟩
abbrev main_cst_10 : Ref sig .tc := ⟨.hbm, 108, rfl⟩
abbrev main_v47 : Ref sig .tc := ⟨.hbm, 109, rfl⟩
abbrev main_cst_11 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_12 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_13 : Ref sig .tc := ⟨.hbm, 125, rfl⟩
abbrev main_v61 : Ref sig .tc := ⟨.hbm, 126, rfl⟩
abbrev main_v62 : Ref sig .tc := ⟨.hbm, 127, rfl⟩
abbrev main_cst_14 : Ref sig .tc := ⟨.hbm, 128, rfl⟩
abbrev main_v63 : Ref sig .tc := ⟨.hbm, 129, rfl⟩
abbrev main_v64 : Ref sig .tc := ⟨.hbm, 130, rfl⟩
abbrev main_cst_15 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_call4_v5 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩

abbrev nD : Nat := 1
abbrev τ : Topo := Topo.v7x

variable {F : FTy → Type} [FloatOps F]
-- ==== Ffn.lean ====
abbrev S2048x11264 : Shape := ⟨2, ![2048, 11264]⟩
abbrev S5632x2048 : Shape := ⟨2, ![5632, 2048]⟩
abbrev S4x2048x2048 : Shape := ⟨3, ![4, 2048, 2048]⟩
abbrev S4x8192 : Shape := ⟨2, ![4, 8192]⟩
abbrev S2048 : Shape := ⟨1, ![2048]⟩
abbrev S1x2048 : Shape := ⟨2, ![1, 2048]⟩
abbrev S2048x512 : Shape := ⟨2, ![2048, 512]⟩
abbrev S512x2048 : Shape := ⟨2, ![512, 2048]⟩
abbrev S1x1024x2048 : Shape := ⟨3, ![1, 1024, 2048]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S1024x1024 : Shape := ⟨2, ![1024, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 9
  | .vmem => 14
  | .smem => 0
  | _ => 0

abbrev bufTy : (tb : Table) → Fin (tcTables nBuf tb) → BufTy
  | .hbm, ⟨0, _⟩ => ⟨S2048x11264, .bf16⟩
  | .hbm, ⟨1, _⟩ => ⟨S5632x2048, .bf16⟩
  | .hbm, ⟨2, _⟩ => ⟨S4x2048x2048, .f32⟩
  | .hbm, ⟨3, _⟩ => ⟨S4x8192, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4x2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x1024x2048, .f32⟩
  | .local _ .vmem, ⟨7, _⟩ => ⟨S1x1024x2048, .f32⟩
  | .local _ .vmem, ⟨8, _⟩ => ⟨S4x8192, .f32⟩
  | .local _ .vmem, ⟨9, _⟩ => ⟨S1x2048, .f32⟩
  | .local _ .vmem, ⟨10, _⟩ => ⟨S1x2048, .f32⟩
  | .local _ .vmem, ⟨11, _⟩ => ⟨S1x1024x2048, .f32⟩
  | .local _ .vmem, ⟨12, _⟩ => ⟨S1x1024x2048, .f32⟩
  | .local _ .vmem, ⟨13, _⟩ => ⟨S1024x2048, .bf16⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 2, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v11 : Index := Scalar.indexCast arg0
  let c2048 : Index := 2048#32
  ![v11.toNat, 2048]
def k0_off2 (i : grid0.Coords) : Fin 2 → Nat :=
  let arg0 : BitVec 32 := BitVec.ofNat 32 (i 0).val
  let v13 : Index := Scalar.indexCast arg0
  let c4096 : Index := 4096#32
  ![v13.toNat, 4096]
def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def k0_off3 (i : grid0.Coords) : Fin 2 → Nat :=
  let arg0 : BitVec 32 := BitVec.ofNat 32 (i 0).val
  let v11 : Index := Scalar.indexCast arg0
  let c6144 : Index := 6144#32
  ![v11.toNat, 6144]
def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnRefIdeal.lean ====
abbrev S2048x11264 : Shape := ⟨2, ![2048, 11264]⟩
abbrev S5632x2048 : Shape := ⟨2, ![5632, 2048]⟩
abbrev S4x2048x2048 : Shape := ⟨3, ![4, 2048, 2048]⟩
abbrev S4x8192 : Shape := ⟨2, ![4, 8192]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S4x2048x11264 : Shape := ⟨3, ![4, 2048, 11264]⟩
abbrev S4x2048x5632 : Shape := ⟨3, ![4, 2048, 5632]⟩
abbrev S1x1x2048 : Shape := ⟨3, ![1, 1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S5632x2048, .bf16⟩
  | .hbm, ⟨2, _⟩ => ⟨S4x2048x2048, .f32⟩
  | .hbm, ⟨3, _⟩ => ⟨S4x8192, .f32⟩
  | .hbm, ⟨4, _⟩ => ⟨S2048, .f32⟩
  | .hbm, ⟨5, _⟩ => ⟨S2048, .f32⟩
  | .hbm, ⟨6, _⟩ => ⟨S4x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S2048x11264, .f32⟩
  | .hbm, ⟨43, _⟩ => ⟨S4x2048x11264, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S_, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S5632x2048, .f32⟩
  | .hbm, ⟨57, _⟩ => ⟨S4x2048x2048, .f32⟩
  | .hbm, ⟨58, _⟩ => ⟨S_, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x2048, .f32⟩
  | .hbm, ⟨71, _⟩ => ⟨S4x2048x2048, .f32⟩
  | .hbm, ⟨72, _⟩ => ⟨S4x2048x2048, .f32⟩
  | .hbm, ⟨73, _⟩ => ⟨S_, .f32⟩
  | .hbm, ⟨74, _⟩ => ⟨S4x2048, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S4x2048x2048, .f32⟩
  | .hbm, ⟨80, _⟩ => ⟨S4x2048x2048, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S4x2048x1, .f32⟩
  | .hbm, ⟨85, _⟩ => ⟨S4x2048x2048, .f32⟩
  | .hbm, ⟨86, _⟩ => ⟨S4x2048x2048, .f32⟩
  | .hbm, ⟨87, _⟩ => ⟨S1x1x2048, .f32⟩
  | .hbm, ⟨88, _⟩ => ⟨S4x2048x2048, .f32⟩
  | .hbm, ⟨89, _⟩ => ⟨S4x2048x2048, .f32⟩
  | .hbm, ⟨90, _⟩ => ⟨S1x1x2048, .f32⟩
  | .hbm, ⟨91, _⟩ => ⟨S4x2048x2048, .f32⟩
  | .hbm, ⟨92, _⟩ => ⟨S4x2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Rec.lean ====
abbrev S8192x2048 : Shape := ⟨2, ![8192, 2048]⟩
abbrev S2048x7168 : Shape := ⟨2, ![2048, 7168]⟩
abbrev S7168 : Shape := ⟨1, ![7168]⟩
abbrev S_ : Shape := ⟨0, ![]⟩
abbrev S1x7168 : Shape := ⟨2, ![1, 7168]⟩
abbrev S8192x4096 : Shape := ⟨2, ![8192, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .f32⟩
  | .hbm, ⟨2, _⟩ => ⟨S7168, .i32⟩
  | .hbm, ⟨3, _⟩ => ⟨S_, .i32⟩
  | .hbm, ⟨4, _⟩ => ⟨S7168, .i32⟩
  | .hbm, ⟨5, _⟩ => ⟨S7168, .i1⟩
  | .hbm, ⟨6, _⟩ => ⟨S_, .f32⟩
  | .hbm, ⟨7, _⟩ => ⟨S_, .f32⟩
  | .hbm, ⟨8, _⟩ => ⟨S7168, .f32⟩
  | .hbm, ⟨9, _⟩ => ⟨S7168, .f32⟩
  | .hbm, ⟨10, _⟩ => ⟨S7168, .f32⟩
  | .hbm, ⟨11, _⟩ => ⟨S7168, .f32⟩
  | .hbm, ⟨12, _⟩ => ⟨S1x7168, .f32⟩
  | .hbm, ⟨13, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RecRefIdeal.lean ====
abbrev S8192x2048 : Shape := ⟨2, ![8192, 2048]⟩
abbrev S2048x7168 : Shape := ⟨2, ![2048, 7168]⟩
abbrev S8192x7168 : Shape := ⟨2, ![8192, 7168]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .f32⟩
  | .hbm, ⟨2, _⟩ => ⟨S8192x2048, .f32⟩
  | .hbm, ⟨3, _⟩ => ⟨S8192x7168, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S8192x2048 : Shape := ⟨2, ![8192, 2048]⟩
abbrev S2048x7168 : Shape := ⟨2, ![2048, 7168]⟩
abbrev S7168 : Shape := ⟨1, ![7168]⟩
abbrev S_ : Shape := ⟨0, ![]⟩
abbrev S1x7168 : Shape := ⟨2, ![1, 7168]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .f32⟩
  | .hbm, ⟨2, _⟩ => ⟨S7168, .i32⟩
  | .hbm, ⟨3, _⟩ => ⟨S_, .i32⟩
  | .hbm, ⟨4, _⟩ => ⟨S7168, .i32⟩
  | .hbm, ⟨5, _⟩ => ⟨S7168, .i1⟩
  | .hbm, ⟨6, _⟩ => ⟨S_, .f32⟩
  | .hbm, ⟨7, _⟩ => ⟨S_, .f32⟩
  | .hbm, ⟨8, _⟩ => ⟨S7168, .f32⟩
  | .hbm, ⟨9, _⟩ => ⟨S7168, .f32⟩
  | .hbm, ⟨10, _⟩ => ⟨S7168, .f32⟩
  | .hbm, ⟨11, _⟩ => ⟨S7168, .f32⟩
  | .hbm, ⟨12, _⟩ => ⟨S1x7168, .f32⟩
  | .hbm, ⟨13, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .f32⟩
  | .hbm, ⟨2, _⟩ => ⟨S8192x2048, .f32⟩
  | .hbm, ⟨3, _⟩ => ⟨S8192x7168, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
module
public import proofs.«01_k».proof.Proof.Gen.AttnIdeal.Frame
public import Idealize.ShloMosaic.Lib.Pipeline.ValueKit
/-!
# One grid point of the kernel, step by step

A grid point holds one pair of heads of one batch row and walks over sixteen blocks of 128 queries.
Step `n` stores the scores of query block `n`, and the same step of the walk later turns them into an output block.
The definitions here name what a step stores, from the blocks it loads.
-/
@[expose] public section
set_option maxRecDepth 16384
noncomputable section
namespace Cert.AttnIdeal.Own
open Cert.AttnIdeal Cert.AttnIdeal.Gen Idealize.ShloMosaic Idealize.ShloMosaic.TcCoe Idealize.SL.Sem

/-- What a load of a buffer gives, for each box it may be read through. -/
abbrev Ld (s : Shape) (e : EltTy) : Type := (r : LoadRect s) → r.shape.Idx → Elt Ideal e

/-- A block of 128 queries lies inside the queries. -/
theorem inbQ {o : ℕ} (h : o + 128 ≤ 2048) :
    ∀ a, (![0, o, 0] : Fin 3 → ℕ) a + S1x128x128.size a ≤ S1x2048x128.size a := by
  intro a; fin_cases a <;> simp <;> omega
/-- A window of keys lies inside the transposed keys. -/
theorem inbK {o w : ℕ} (h : o + w ≤ 2048) :
    ∀ a, (![0, o] : Fin 2 → ℕ) a + (![128, w] : Fin 2 → ℕ) a ≤ S128x2048.size a := by
  intro a; fin_cases a <;> simp <;> omega
/-- A window of rows and columns lies inside the masked values. -/
theorem inbV {o p w v : ℕ} (h : o + w ≤ 2048) (h' : p + v ≤ 256) :
    ∀ a, (![o, p] : Fin 2 → ℕ) a + (![w, v] : Fin 2 → ℕ) a ≤ S2048x256.size a := by
  intro a; fin_cases a <;> simp <;> omega
/-- A window of columns of one head lies inside the bias tables. -/
theorem inbT {g o w : ℕ} (h : o + w ≤ 640) (h' : g < 2) :
    ∀ a, (![g, 0, o] : Fin 3 → ℕ) a + (![1, 128, w] : Fin 3 → ℕ) a ≤ S2x128x640.size a := by
  intro a; fin_cases a <;> simp <;> omega

/-- The block of 128 rows of a staged operand that starts at row `o`. -/
def blk (x : Ld S1x2048x128 .bf16) (o : ℕ) (h : o + 128 ≤ 2048) : FVec Ideal S1x128x128 .bf16 :=
  x (Rect.unit (s := S1x2048x128) ![0, o, 0] S1x128x128.size (inbQ h)).toLoadRect

/-- The part of one head's bias table that starts at lane `o`. -/
def tabAt (T : Ld S2x128x640 .bf16) (g o w : ℕ) (h : o + w ≤ 640) (h' : g < 2) :
    FVec Ideal ⟨3, ![1, 128, w]⟩ .bf16 :=
  T (Rect.unit (s := S2x128x640) ![g, 0, o] ![1, 128, w] (inbT h h')).toLoadRect

/-- A key block stored, transposed and with the lanes of the other head masked to zero. -/
def kPiece (K : Ld S1x2048x128 .bf16) (mask : FVec Ideal S128x128 .bf16) (n : ℕ) (h : 128 * n + 128 ≤ 2048) :
    View.Piece (Elt Ideal) S128x2048 .bf16 :=
  ⟨Rect.unit ![0, 128 * n] S128x128.size (inbK h),
    shapeCast S128x128 (mulf (k0_pay14 (blk K (128 * n) h)) mask) shapeCasts_S128x128_S128x128⟩

/-- The key blocks stored before step `n`. -/
def kPieces (K : Ld S1x2048x128 .bf16) (mask : FVec Ideal S128x128 .bf16) :
    (n : ℕ) → 128 * n ≤ 2048 → List (View.Piece (Elt Ideal) S128x2048 .bf16)
  | 0, _ => []
  | n + 1, h => kPiece K mask n (by omega) :: kPieces K mask n (by omega)

/-- A value block stored, with the lanes of the other head masked to zero. -/
def vPiece (V : Ld S1x2048x128 .bf16) (mask : FVec Ideal S128x128 .bf16) (n : ℕ) (h : 128 * n + 128 ≤ 2048) :
    View.Piece (Elt Ideal) S2048x256 .bf16 :=
  ⟨Rect.unit ![128 * n, 0] S128x128.size (inbV h (by omega)),
    shapeCast S128x128 (mulf (shapeCast S128x128 (blk V (128 * n) h) shapeCasts_S1x128x128_S128x128) mask)
      shapeCasts_S128x128_S128x128⟩

/-- The mask stored beside a value block, whose product with the weights gives the denominators. -/
def onePiece (mask : FVec Ideal S128x128 .bf16) (n : ℕ) (h : 128 * n + 128 ≤ 2048) :
    View.Piece (Elt Ideal) S2048x256 .bf16 :=
  ⟨Rect.unit ![128 * n, 128] S128x128.size (inbV h (by omega)), shapeCast S128x128 mask shapeCasts_S128x128_S128x128⟩

/-- The value blocks and masks stored before step `n`. -/
def vPieces (V : Ld S1x2048x128 .bf16) (mask : FVec Ideal S128x128 .bf16) :
    (n : ℕ) → 128 * n ≤ 2048 → List (View.Piece (Elt Ideal) S2048x256 .bf16)
  | 0, _ => []
  | n + 1, h => onePiece mask n (by omega) :: vPiece V mask n (by omega) :: vPieces V mask n (by omega)

/-- The scores of a query block against 128 keys, for the two heads side by side. -/
def score128 (q : FVec Ideal S1x128x128 .bf16) (k0 k1 : FVec Ideal S128x128 .bf16) (t0 t1 : FVec Ideal S1x128x128 .bf16) :
    FVec Ideal S128x256 .f32 :=
  shapeCast S128x256 (matmul dot_S128x256_S256x256_S128x256_1_0_0_1_n_n none
    (concatenate S128x256 1 [⟨S128x128, shapeCast S128x128 q shapeCasts_S1x128x128_S128x128⟩, ⟨S128x128, k0_pay12⟩]
      concatenates_S128x128_S128x128_S128x256_d1)
    (concatenate S256x256 0
      [⟨S128x256, concatenate S128x256 1 [⟨S128x128, k0⟩, ⟨S128x128, k1⟩] concatenates_S128x128_S128x128_S128x256_d1⟩,
       ⟨S128x256, concatenate S128x256 1
         [⟨S128x128, shapeCast S128x128 t0 shapeCasts_S1x128x128_S128x128⟩,
          ⟨S128x128, shapeCast S128x128 t1 shapeCasts_S1x128x128_S128x128⟩] concatenates_S128x128_S128x128_S128x256_d1⟩]
      concatenates_S128x256_S128x256_S256x256_d0)
    (constant S128x256 .f32 0#32)) shapeCasts_S128x256_S128x256

/-- One head's weights over 128 keys: two to the score less the row's largest. -/
def wt128 (s : FVec Ideal S128x128 .f32) : FVec Ideal S128x128 .f32 :=
  exp2 (subf s (broadcastTo S128x128 (shapeCast S128x1
    (multiReduction .maximumf [1] S128 s 4286578688#32 reduces_S128x128_S128 (by decide) (by decide)) shapeCasts_S128_S128x1)
    broadcasts_S128x1_S128x128))

/-- Numerators and denominators of a query block over 128 keys, side by side. -/
def sums128 (s : FVec Ideal S128x256 .f32) (v0 v1 : FVec Ideal S128x256 .bf16) : FVec Ideal S128x256 .f32 :=
  matmul dot_S128x256_S256x256_S128x256_1_0_0_1_n_n none
    (truncf .bf16 (concatenate S128x256 1
      [⟨S128x128, wt128 (extractStridedSlice S128x128 ![0, 0] s slices_S128x256_o0_0_S128x128)⟩,
       ⟨S128x128, wt128 (extractStridedSlice S128x128 ![0, 128] s slices_S128x256_o0_128_S128x128)⟩]
      concatenates_S128x128_S128x128_S128x256_d1) bitsLt_bf16_f32)
    (concatenate S256x256 0 [⟨S128x256, v0⟩, ⟨S128x256, v1⟩] concatenates_S128x256_S128x256_S256x256_d0)
    (constant S128x256 .f32 0#32)

/-- The scores of a query block against 256 keys, for the two heads side by side. -/
def score256 (q : FVec Ideal S1x128x128 .bf16) (k0 k1 : FVec Ideal S128x256 .bf16) (t0 t1 : FVec Ideal S1x128x256 .bf16) :
    FVec Ideal S128x512 .f32 :=
  shapeCast S128x512 (matmul dot_S128x256_S256x512_S128x512_1_0_0_1_n_n none
    (concatenate S128x256 1 [⟨S128x128, shapeCast S128x128 q shapeCasts_S1x128x128_S128x128⟩, ⟨S128x128, k0_pay12⟩]
      concatenates_S128x128_S128x128_S128x256_d1)
    (concatenate S256x512 0
      [⟨S128x512, concatenate S128x512 1 [⟨S128x256, k0⟩, ⟨S128x256, k1⟩] concatenates_S128x256_S128x256_S128x512_d1⟩,
       ⟨S128x512, concatenate S128x512 1
         [⟨S128x256, shapeCast S128x256 t0 shapeCasts_S1x128x256_S128x256⟩,
          ⟨S128x256, shapeCast S128x256 t1 shapeCasts_S1x128x256_S128x256⟩] concatenates_S128x256_S128x256_S128x512_d1⟩]
      concatenates_S128x512_S128x512_S256x512_d0)
    (constant S128x512 .f32 0#32)) shapeCasts_S128x512_S128x512

/-- One head's weights over 256 keys: two to the score less the row's largest. -/
def wt256 (s : FVec Ideal S128x256 .f32) : FVec Ideal S128x256 .f32 :=
  exp2 (subf s (broadcastTo S128x256 (shapeCast S128x1
    (multiReduction .maximumf [1] S128 s 4286578688#32 reduces_S128x256_S128 (by decide) (by decide)) shapeCasts_S128_S128x1)
    broadcasts_S128x1_S128x256))

/-- Numerators and denominators of a query block over 256 keys, side by side. -/
def sums256 (s : FVec Ideal S128x512 .f32) (v0 v1 : FVec Ideal S256x256 .bf16) : FVec Ideal S128x256 .f32 :=
  matmul dot_S128x512_S512x256_S128x256_1_0_0_1_n_n none
    (truncf .bf16 (concatenate S128x512 1
      [⟨S128x256, wt256 (extractStridedSlice S128x256 ![0, 0] s slices_S128x512_o0_0_S128x256)⟩,
       ⟨S128x256, wt256 (extractStridedSlice S128x256 ![0, 256] s slices_S128x512_o0_256_S128x256)⟩]
      concatenates_S128x256_S128x256_S128x512_d1) bitsLt_bf16_f32)
    (concatenate S512x256 0 [⟨S256x256, v0⟩, ⟨S256x256, v1⟩] concatenates_S256x256_S256x256_S512x256_d0)
    (constant S128x256 .f32 0#32)

/-- The scores of a query block against 384 keys, for the two heads side by side. -/
def score384 (q : FVec Ideal S1x128x128 .bf16) (k0 k1 : FVec Ideal S128x384 .bf16) (t0 t1 : FVec Ideal S1x128x384 .bf16) :
    FVec Ideal S128x768 .f32 :=
  shapeCast S128x768 (matmul dot_S128x256_S256x768_S128x768_1_0_0_1_n_n none
    (concatenate S128x256 1 [⟨S128x128, shapeCast S128x128 q shapeCasts_S1x128x128_S128x128⟩, ⟨S128x128, k0_pay12⟩]
      concatenates_S128x128_S128x128_S128x256_d1)
    (concatenate S256x768 0
      [⟨S128x768, concatenate S128x768 1 [⟨S128x384, k0⟩, ⟨S128x384, k1⟩] concatenates_S128x384_S128x384_S128x768_d1⟩,
       ⟨S128x768, concatenate S128x768 1
         [⟨S128x384, shapeCast S128x384 t0 shapeCasts_S1x128x384_S128x384⟩,
          ⟨S128x384, shapeCast S128x384 t1 shapeCasts_S1x128x384_S128x384⟩] concatenates_S128x384_S128x384_S128x768_d1⟩]
      concatenates_S128x768_S128x768_S256x768_d0)
    (constant S128x768 .f32 0#32)) shapeCasts_S128x768_S128x768

/-- One head's weights over 384 keys: two to the score less the row's largest. -/
def wt384 (s : FVec Ideal S128x384 .f32) : FVec Ideal S128x384 .f32 :=
  exp2 (subf s (broadcastTo S128x384 (shapeCast S128x1
    (multiReduction .maximumf [1] S128 s 4286578688#32 reduces_S128x384_S128 (by decide) (by decide)) shapeCasts_S128_S128x1)
    broadcasts_S128x1_S128x384))

/-- Numerators and denominators of a query block over 384 keys, side by side. -/
def sums384 (s : FVec Ideal S128x768 .f32) (v0 v1 : FVec Ideal S384x256 .bf16) : FVec Ideal S128x256 .f32 :=
  matmul dot_S128x768_S768x256_S128x256_1_0_0_1_n_n none
    (truncf .bf16 (concatenate S128x768 1
      [⟨S128x384, wt384 (extractStridedSlice S128x384 ![0, 0] s slices_S128x768_o0_0_S128x384)⟩,
       ⟨S128x384, wt384 (extractStridedSlice S128x384 ![0, 384] s slices_S128x768_o0_384_S128x384)⟩]
      concatenates_S128x384_S128x384_S128x768_d1) bitsLt_bf16_f32)
    (concatenate S768x256 0 [⟨S384x256, v0⟩, ⟨S384x256, v1⟩] concatenates_S384x256_S384x256_S768x256_d0)
    (constant S128x256 .f32 0#32)

/-- The scores of a query block against 512 keys, for the two heads side by side. -/
def score512 (q : FVec Ideal S1x128x128 .bf16) (k0 k1 : FVec Ideal S128x512 .bf16) (t0 t1 : FVec Ideal S1x128x512 .bf16) :
    FVec Ideal S128x1024 .f32 :=
  shapeCast S128x1024 (matmul dot_S128x256_S256x1024_S128x1024_1_0_0_1_n_n none
    (concatenate S128x256 1 [⟨S128x128, shapeCast S128x128 q shapeCasts_S1x128x128_S128x128⟩, ⟨S128x128, k0_pay12⟩]
      concatenates_S128x128_S128x128_S128x256_d1)
    (concatenate S256x1024 0
      [⟨S128x1024, concatenate S128x1024 1 [⟨S128x512, k0⟩, ⟨S128x512, k1⟩] concatenates_S128x512_S128x512_S128x1024_d1⟩,
       ⟨S128x1024, concatenate S128x1024 1
         [⟨S128x512, shapeCast S128x512 t0 shapeCasts_S1x128x512_S128x512⟩,
          ⟨S128x512, shapeCast S128x512 t1 shapeCasts_S1x128x512_S128x512⟩] concatenates_S128x512_S128x512_S128x1024_d1⟩]
      concatenates_S128x1024_S128x1024_S256x1024_d0)
    (constant S128x1024 .f32 0#32)) shapeCasts_S128x1024_S128x1024

/-- One head's weights over 512 keys: two to the score less the row's largest. -/
def wt512 (s : FVec Ideal S128x512 .f32) : FVec Ideal S128x512 .f32 :=
  exp2 (subf s (broadcastTo S128x512 (shapeCast S128x1
    (multiReduction .maximumf [1] S128 s 4286578688#32 reduces_S128x512_S128 (by decide) (by decide)) shapeCasts_S128_S128x1)
    broadcasts_S128x1_S128x512))

/-- Numerators and denominators of a query block over 512 keys, side by side. -/
def sums512 (s : FVec Ideal S128x1024 .f32) (v0 v1 : FVec Ideal S512x256 .bf16) : FVec Ideal S128x256 .f32 :=
  matmul dot_S128x1024_S1024x256_S128x256_1_0_0_1_n_n none
    (truncf .bf16 (concatenate S128x1024 1
      [⟨S128x512, wt512 (extractStridedSlice S128x512 ![0, 0] s slices_S128x1024_o0_0_S128x512)⟩,
       ⟨S128x512, wt512 (extractStridedSlice S128x512 ![0, 512] s slices_S128x1024_o0_512_S128x512)⟩]
      concatenates_S128x512_S128x512_S128x1024_d1) bitsLt_bf16_f32)
    (concatenate S1024x256 0 [⟨S512x256, v0⟩, ⟨S512x256, v1⟩] concatenates_S512x256_S512x256_S1024x256_d0)
    (constant S128x256 .f32 0#32)

/-- The scores of a query block against 640 keys, for the two heads side by side. -/
def score640 (q : FVec Ideal S1x128x128 .bf16) (k0 k1 : FVec Ideal S128x640 .bf16) (t0 t1 : FVec Ideal S1x128x640 .bf16) :
    FVec Ideal S128x1280 .f32 :=
  shapeCast S128x1280 (matmul dot_S128x256_S256x1280_S128x1280_1_0_0_1_n_n none
    (concatenate S128x256 1 [⟨S128x128, shapeCast S128x128 q shapeCasts_S1x128x128_S128x128⟩, ⟨S128x128, k0_pay12⟩]
      concatenates_S128x128_S128x128_S128x256_d1)
    (concatenate S256x1280 0
      [⟨S128x1280, concatenate S128x1280 1 [⟨S128x640, k0⟩, ⟨S128x640, k1⟩] concatenates_S128x640_S128x640_S128x1280_d1⟩,
       ⟨S128x1280, concatenate S128x1280 1
         [⟨S128x640, shapeCast S128x640 t0 shapeCasts_S1x128x640_S128x640⟩,
          ⟨S128x640, shapeCast S128x640 t1 shapeCasts_S1x128x640_S128x640⟩] concatenates_S128x640_S128x640_S128x1280_d1⟩]
      concatenates_S128x1280_S128x1280_S256x1280_d0)
    (constant S128x1280 .f32 0#32)) shapeCasts_S128x1280_S128x1280

/-- One head's weights over 640 keys: two to the score less the row's largest. -/
def wt640 (s : FVec Ideal S128x640 .f32) : FVec Ideal S128x640 .f32 :=
  exp2 (subf s (broadcastTo S128x640 (shapeCast S128x1
    (multiReduction .maximumf [1] S128 s 4286578688#32 reduces_S128x640_S128 (by decide) (by decide)) shapeCasts_S128_S128x1)
    broadcasts_S128x1_S128x640))

/-- Numerators and denominators of a query block over 640 keys, side by side. -/
def sums640 (s : FVec Ideal S128x1280 .f32) (v0 v1 : FVec Ideal S640x256 .bf16) : FVec Ideal S128x256 .f32 :=
  matmul dot_S128x1280_S1280x256_S128x256_1_0_0_1_n_n none
    (truncf .bf16 (concatenate S128x1280 1
      [⟨S128x640, wt640 (extractStridedSlice S128x640 ![0, 0] s slices_S128x1280_o0_0_S128x640)⟩,
       ⟨S128x640, wt640 (extractStridedSlice S128x640 ![0, 640] s slices_S128x1280_o0_640_S128x640)⟩]
      concatenates_S128x640_S128x640_S128x1280_d1) bitsLt_bf16_f32)
    (concatenate S1280x256 0 [⟨S640x256, v0⟩, ⟨S640x256, v1⟩] concatenates_S640x256_S640x256_S1280x256_d0)
    (constant S128x256 .f32 0#32)

/-- The attention of a query block: numerators over denominators. -/
def quot (u : FVec Ideal S128x256 .f32) : FVec Ideal S128x128 .f32 :=
  mulf (extractStridedSlice S128x128 ![0, 0] u slices_S128x256_o0_0_S128x128)
    (divf (broadcast S128x128 (FloatOps.ofBits .f32 1065353216#32))
      (extractStridedSlice S128x128 ![0, 128] u slices_S128x256_o0_128_S128x128))

/-- The mean over one head's lanes, as a column. -/
def mean (y : FVec Ideal S128x128 .f32) : FVec Ideal S128x1 .f32 :=
  divf (shapeCast S128x1 (multiReduction .add [1] S128 y 0#32 reduces_S128x128_S128 (by decide) (by decide)) shapeCasts_S128_S128x1)
    (broadcast S128x1 (FloatOps.ofBits .f32 1115684864#32))

/-- A column along the 128 lanes. -/
def lanes (y : FVec Ideal S128x1 .f32) : FVec Ideal S128x128 .f32 :=
  broadcastTo S128x128 (shapeCast S128x1 y shapeCasts_S128x1_S128x1) broadcasts_S128x1_S128x128

/-- The output block: the attention, scaled by its root mean square over each head and by the gain. -/
def norm (o : FVec Ideal S128x128 .f32) (g : FVec Ideal S1x1x128 .f32) : FVec Ideal S1x128x128 .bf16 :=
  shapeCast S1x128x128 (truncf .bf16 (mulf (mulf o (rsqrt (addf
    (select k0_pay5 (lanes (mean (select k0_pay5 (mulf o o) (broadcast S128x128 (FloatOps.ofBits .f32 0#32)))))
      (lanes (mean (select k0_pay5 (broadcast S128x128 (FloatOps.ofBits .f32 0#32)) (mulf o o)))))
    (broadcast S128x128 (FloatOps.ofBits .f32 925353388#32)))))
    (broadcastTo S128x128 (k0_pay13 g) broadcasts_S1x128_S128x128)) bitsLt_bf16_f32) shapeCasts_S128x128_S1x128x128

section walk
variable (Q K V : Ld S1x2048x128 .bf16) (T : Ld S2x128x640 .bf16) (g : FVec Ideal S1x1x128 .f32)
variable (a16 a17 : Memref sig .tc .vmem S128x2048 .bf16) (a18 a19 : Memref sig .tc .vmem S2048x256 .bf16)
variable (a21 a22 a23 : Memref sig .tc .vmem S128x1280 .f32)

/-- The keys a step reads back, `w` of them from key `o`, for the first head. -/
def kRead (a : Memref sig .tc .vmem S128x2048 .bf16) (mask : FVec Ideal S128x128 .bf16) (n o w : ℕ) (hn : 128 * n ≤ 2048)
    (h : o + w ≤ 2048) : FVec Ideal ⟨2, ![128, w]⟩ .bf16 :=
  a.view.readCov (kPieces K mask n hn) (Rect.unit (s := S128x2048) ![0, o] ![128, w] (inbK h)).toLoadRect

/-- The values and masks a step reads back, `w` rows from row `o`. -/
def vRead (a : Memref sig .tc .vmem S2048x256 .bf16) (mask : FVec Ideal S128x128 .bf16) (n o w : ℕ) (hn : 128 * n ≤ 2048)
    (h : o + w ≤ 2048) : FVec Ideal ⟨2, ![w, 256]⟩ .bf16 :=
  a.view.readCov (vPieces V mask n hn) (Rect.unit (s := S2048x256) ![o, 0] ![w, 256] (inbV h (by omega))).toLoadRect

/-- A window of columns lies inside a score buffer. -/
theorem inbS {w : ℕ} (h : w ≤ 1280) :
    ∀ a, (![0, 0] : Fin 2 → ℕ) a + (![128, w] : Fin 2 → ℕ) a ≤ S128x1280.size a := by
  intro a; fin_cases a <;> simp <;> omega

/-- The scores stored for query block 0, whose keys are all those before its end. -/
def sVal0 : FVec Ideal S128x256 .f32 :=
  score128 (blk Q 0 (by omega)) (kRead K a16 k0_pay9 1 0 128 (by omega) (by omega))
    (kRead K a17 k0_pay10 1 0 128 (by omega) (by omega)) (tabAt T 0 512 128 (by omega) (by omega))
    (tabAt T 1 512 128 (by omega) (by omega))

/-- The scores stored for query block 1, whose keys are all those before its end. -/
def sVal1 : FVec Ideal S128x512 .f32 :=
  score256 (blk Q 128 (by omega)) (kRead K a16 k0_pay9 2 0 256 (by omega) (by omega))
    (kRead K a17 k0_pay10 2 0 256 (by omega) (by omega)) (tabAt T 0 384 256 (by omega) (by omega))
    (tabAt T 1 384 256 (by omega) (by omega))

/-- The scores stored for query block 2, whose keys are all those before its end. -/
def sVal2 : FVec Ideal S128x768 .f32 :=
  score384 (blk Q 256 (by omega)) (kRead K a16 k0_pay9 3 0 384 (by omega) (by omega))
    (kRead K a17 k0_pay10 3 0 384 (by omega) (by omega)) (tabAt T 0 256 384 (by omega) (by omega))
    (tabAt T 1 256 384 (by omega) (by omega))

/-- The scores stored for query block 3, whose keys are all those before its end. -/
def sVal3 : FVec Ideal S128x1024 .f32 :=
  score512 (blk Q 384 (by omega)) (kRead K a16 k0_pay9 4 0 512 (by omega) (by omega))
    (kRead K a17 k0_pay10 4 0 512 (by omega) (by omega)) (tabAt T 0 128 512 (by omega) (by omega))
    (tabAt T 1 128 512 (by omega) (by omega))

/-- The scores stored for query block `n + 4`, whose keys are the 640 before its end. -/
def sValS (n : ℕ) (h : n < 12) : FVec Ideal S128x1280 .f32 :=
  score640 (blk Q (128 * (n + 4)) (by omega)) (kRead K a16 k0_pay9 (n + 5) (128 * n) 640 (by omega) (by omega))
    (kRead K a17 k0_pay10 (n + 5) (128 * n) 640 (by omega) (by omega)) (tabAt T 0 0 640 (by omega) (by omega))
    (tabAt T 1 0 640 (by omega) (by omega))

/-- The scores stored for query block `n`, with the part of the scratch they fill. -/
def sPiece : (n : ℕ) → n < 16 → View.Piece (Elt Ideal) S128x1280 .f32
  | 0, _ => ⟨Rect.unit ![0, 0] S128x256.size (inbS (w := 256) (by omega)), sVal0 Q K T a16 a17⟩
  | 1, _ => ⟨Rect.unit ![0, 0] S128x512.size (inbS (w := 512) (by omega)), sVal1 Q K T a16 a17⟩
  | 2, _ => ⟨Rect.unit ![0, 0] S128x768.size (inbS (w := 768) (by omega)), sVal2 Q K T a16 a17⟩
  | 3, _ => ⟨Rect.unit ![0, 0] S128x1024.size (inbS (w := 1024) (by omega)), sVal3 Q K T a16 a17⟩
  | n + 4, h => ⟨Rect.unit ![0, 0] S128x1280.size (inbS (w := 1280) (by omega)), sValS Q K T a16 a17 n (by omega)⟩

/-- The scores stored in one of the three scratch buffers up to query block `n`. -/
def sPieces : (n : ℕ) → n < 16 → List (View.Piece (Elt Ideal) S128x1280 .f32)
  | 0, h => [sPiece Q K T a16 a17 0 h]
  | 1, h => [sPiece Q K T a16 a17 1 h]
  | 2, h => [sPiece Q K T a16 a17 2 h]
  | n + 3, h => sPiece Q K T a16 a17 (n + 3) h :: sPieces n (by omega)

/-- The scratch buffer of query block `n`. -/
def sBuf : ℕ → Memref sig .tc .vmem S128x1280 .f32
  | 0 => a21
  | 1 => a22
  | 2 => a23
  | n + 3 => sBuf n

/-- The scores read back for query block `n`. -/
def sRead (n w : ℕ) (h : n < 16) (hw : w ≤ 1280) : FVec Ideal ⟨2, ![128, w]⟩ .f32 :=
  (sBuf a21 a22 a23 n).view.readCov (sPieces Q K T a16 a17 n h) (Rect.unit (s := S128x1280) ![0, 0] ![128, w] (inbS hw)).toLoadRect

/-- Output block 0. -/
def oVal0 (e : ℕ) (he : 128 * e ≤ 2048) : FVec Ideal S1x128x128 .bf16 :=
  norm (quot (sums128 (sRead Q K T a16 a17 a21 a22 a23 0 256 (by omega) (by omega))
    (vRead V a18 k0_pay6 e 0 128 he (by omega)) (vRead V a19 k0_pay7 e 0 128 he (by omega)))) g

/-- Output block 1. -/
def oVal1 (e : ℕ) (he : 128 * e ≤ 2048) : FVec Ideal S1x128x128 .bf16 :=
  norm (quot (sums256 (sRead Q K T a16 a17 a21 a22 a23 1 512 (by omega) (by omega))
    (vRead V a18 k0_pay6 e 0 256 he (by omega)) (vRead V a19 k0_pay7 e 0 256 he (by omega)))) g

/-- Output block 2. -/
def oVal2 (e : ℕ) (he : 128 * e ≤ 2048) : FVec Ideal S1x128x128 .bf16 :=
  norm (quot (sums384 (sRead Q K T a16 a17 a21 a22 a23 2 768 (by omega) (by omega))
    (vRead V a18 k0_pay6 e 0 384 he (by omega)) (vRead V a19 k0_pay7 e 0 384 he (by omega)))) g

/-- Output block 3. -/
def oVal3 (e : ℕ) (he : 128 * e ≤ 2048) : FVec Ideal S1x128x128 .bf16 :=
  norm (quot (sums512 (sRead Q K T a16 a17 a21 a22 a23 3 1024 (by omega) (by omega))
    (vRead V a18 k0_pay6 e 0 512 he (by omega)) (vRead V a19 k0_pay7 e 0 512 he (by omega)))) g

/-- Output block `n + 4`. -/
def oValS (n : ℕ) (h : n < 12) (e : ℕ) (he : 128 * e ≤ 2048) : FVec Ideal S1x128x128 .bf16 :=
  norm (quot (sums640 (sRead Q K T a16 a17 a21 a22 a23 (n + 4) 1280 (by omega) (by omega))
    (vRead V a18 k0_pay6 e (128 * n) 640 he (by omega)) (vRead V a19 k0_pay7 e (128 * n) 640 he (by omega)))) g

/-- Output block `n`, read when `e` blocks of values are stored. -/
def oVal (e : ℕ) (he : 128 * e ≤ 2048) : (n : ℕ) → n < 16 → FVec Ideal S1x128x128 .bf16
  | 0, _ => oVal0 Q K V T g a16 a17 a18 a19 a21 a22 a23 e he
  | 1, _ => oVal1 Q K V T g a16 a17 a18 a19 a21 a22 a23 e he
  | 2, _ => oVal2 Q K V T g a16 a17 a18 a19 a21 a22 a23 e he
  | 3, _ => oVal3 Q K V T g a16 a17 a18 a19 a21 a22 a23 e he
  | n + 4, h => oValS Q K V T g a16 a17 a18 a19 a21 a22 a23 n (by omega) e he

/-- Output block `n` as stored: the value buffers then hold `n + 3` blocks, or all sixteen. -/
def oPiece (n : ℕ) (h : n < 16) : View.Piece (Elt Ideal) S1x2048x128 .bf16 :=
  ⟨Rect.unit ![0, 128 * n, 0] S1x128x128.size (inbQ (by omega)),
    oVal Q K V T g a16 a17 a18 a19 a21 a22 a23 (min (n + 3) 16) (by omega) n h⟩

/-- The output blocks stored before block `n`. -/
def oPieces : (n : ℕ) → n ≤ 16 → List (View.Piece (Elt Ideal) S1x2048x128 .bf16)
  | 0, _ => []
  | n + 1, h => oPiece Q K V T g a16 a17 a18 a19 a21 a22 a23 n (by omega) :: oPieces n (by omega)
end walk
end Cert.AttnIdeal.Own
end
-- ==== Proof.Reads.lean ====
module
public import proofs.«01_k».proof.Proof.Steps
/-!
# What the steps read back

The key, value and score buffers are filled piece by piece; a read that stays inside what is filled gives the
operand's rows, masked to one head, and the scores as stored.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- A load function reads the array `X`. -/
def Reads {s : Shape} {e : EltTy} (L : Ld s e) (X : s.Idx → Elt Ideal e) : Prop := ∀ r j, L r j = X (r.idx j)

variable {K : Ld S1x2048x128 .bf16} {X : FVec Ideal S1x2048x128 .bf16} (hK : Reads K X)
include hK

/-- A block loaded holds the rows from its first on. -/
theorem blk_apply (o : ℕ) (h : o + 128 ≤ 2048) (r l : Fin 128) :
    blk K o h (ix3 0 r l) = X (ix3 0 ⟨o + r, by omega⟩ l) := by
  refine (hK _ _).trans (congrArg X ?_)
  funext a
  fin_cases a <;> refine Fin.ext ?_ <;> simp [LoadRect.idx, ix3]

variable {mask : FVec Ideal S128x128 .bf16} {μ : Fin 128 → EReal}

/-- A key piece holds the transposed rows, masked lane by lane. -/
theorem kPiece_apply (hm : ∀ l j, mask (ix2 l j) = μ l) (n : ℕ) (h : 128 * n + 128 ≤ 2048) (i j : Fin 128) :
    (kPiece K mask n h).2 (ix2 i j) = X (ix3 0 ⟨128 * n + j, by omega⟩ i) * μ i := by
  show shapeCast S128x128 (mulf (k0_pay14 (blk K (128 * n) h)) mask) shapeCasts_S128x128_S128x128 (ix2 i j) = _
  rw [← hm i j, ← blk_apply hK _ h]
  generalize blk K (128 * n) h = y
  pointwise [k0_pay14]

/-- The value piece holds the rows, masked lane by lane. -/
theorem vPiece_apply (hm : ∀ j l, mask (ix2 j l) = μ l) (n : ℕ) (h : 128 * n + 128 ≤ 2048) (i j : Fin 128) :
    (vPiece K mask n h).2 (ix2 j i) = X (ix3 0 ⟨128 * n + j, by omega⟩ i) * μ i := by
  show shapeCast S128x128 (mulf (shapeCast S128x128 (blk K (128 * n) h) shapeCasts_S1x128x128_S128x128) mask)
    shapeCasts_S128x128_S128x128 (ix2 j i) = _
  rw [← hm j i, ← blk_apply hK _ h]
  generalize blk K (128 * n) h = y
  pointwise []

omit hK in
/-- The mask piece holds the mask. -/
theorem onePiece_apply (hm : ∀ j l, mask (ix2 j l) = μ l) (n : ℕ) (h : 128 * n + 128 ≤ 2048) (i j : Fin 128) :
    (onePiece mask n h).2 (ix2 j i) = μ i := by
  show shapeCast S128x128 mask shapeCasts_S128x128_S128x128 (ix2 j i) = _
  rw [← hm j i]
  pointwise []

/-- The masked transposed keys. -/
abbrev kAll (X : FVec Ideal S1x2048x128 .bf16) (μ : Fin 128 → EReal) (y : S128x2048.Idx) : EReal :=
  X (ix3 0 (y 1) (y 0)) * μ (y 0)

/-- The masked values beside the mask. -/
abbrev vAll (X : FVec Ideal S1x2048x128 .bf16) (μ : Fin 128 → EReal) (y : S2048x256.Idx) : EReal :=
  if h : (y 1).val < 128 then X (ix3 0 (y 0) ⟨(y 1).val, h⟩) * μ ⟨(y 1).val, h⟩
  else μ ⟨(y 1).val - 128, by have : (y 1).val < 256 := (y 1).isLt; omega⟩

/-- Every key piece is a part of the masked transposed keys. -/
theorem kPieces_part (hm : ∀ l j, mask (ix2 l j) = μ l) (n : ℕ) (hn : 128 * n ≤ 2048) :
    ∀ p ∈ kPieces K mask n hn, ∀ x : p.1.shape.Idx, p.2 x = kAll X μ (p.1.emb x) := by
  induction n with
  | zero => intro p hp; exact absurd hp (by simp [kPieces])
  | succ n ih =>
    intro p hp
    rcases List.mem_cons.1 hp with rfl | hp
    · intro x
      have hx : x = ix2 (x 0) (x 1) := by funext a; fin_cases a <;> rfl
      rw [hx]
      refine (kPiece_apply hK hm n _ (x 0) (x 1)).trans (congrArg₂ (· * ·) (congrArg X (congrArg₂ (ix3 0) ?_ ?_)) (congrArg μ ?_)) <;>
        refine Fin.ext ?_
      · show 128 * n + (x 1).val = 128 * n + 1 * (x 1).val; omega
      · show (x 0).val = 0 + 1 * (x 0).val; omega
      · show (x 0).val = 0 + 1 * (x 0).val; omega
    · exact ih (by omega) p hp

omit hK in
/-- The key pieces cover the keys before the step. -/
theorem kPieces_cover (n : ℕ) (hn : 128 * n ≤ 2048) (y : S128x2048.Idx) (hy : (y 1).val < 128 * n) :
    ∃ p ∈ kPieces K mask n hn, y ∈ p.1.set := by
  induction n with
  | zero => omega
  | succ n ih =>
    by_cases h : (y 1).val < 128 * n
    · obtain ⟨p, hp, hy⟩ := ih (by omega) h
      exact ⟨p, List.mem_cons_of_mem _ hp, hy⟩
    · refine ⟨_, List.mem_cons_self, ?_⟩
      simp only [kPiece, Rect.mem_set_unit]
      intro a
      have := (y 0).isLt
      fin_cases a <;> simp at * <;> omega

/-- What a step reads back of the keys. -/
theorem kRead_apply (hm : ∀ l j, mask (ix2 l j) = μ l) (a : Memref sig .tc .vmem S128x2048 .bf16) (n o w : ℕ) (hn : 128 * n ≤ 2048)
    (h : o + w ≤ 2048) (how : o + w ≤ 128 * n) (i : Fin 128) (j : Fin w) :
    kRead K a mask n o w hn h (ix2 i j) = X (ix3 0 ⟨o + j, by omega⟩ i) * μ i := by
  unfold kRead
  rw [View.readCov_eq_canon']
  refine (View.canon_apply_of_pieces (kAll X μ) _ (kPieces_part hK hm n hn) _ (kPieces_cover n hn _ ?_)).trans
    (congrArg₂ (· * ·) (congrArg X (congrArg₂ (ix3 0) ?_ ?_)) (congrArg μ ?_)) <;> try refine Fin.ext ?_
  · show o + 1 * j.val < 128 * n; omega
  · show o + 1 * j.val = o + j.val; omega
  · show 0 + 1 * i.val = i.val; omega
  · show 0 + 1 * i.val = i.val; omega

/-- Every value or mask piece is a part of the masked values beside the mask. -/
theorem vPieces_part (hm : ∀ j l, mask (ix2 j l) = μ l) (n : ℕ) (hn : 128 * n ≤ 2048) :
    ∀ p ∈ vPieces K mask n hn, ∀ x : p.1.shape.Idx, p.2 x = vAll X μ (p.1.emb x) := by
  induction n with
  | zero => intro p hp; exact absurd hp (by simp [vPieces])
  | succ n ih =>
    intro p hp
    rcases List.mem_cons.1 hp with rfl | hp
    · intro x
      have hx : x = ix2 (x 0) (x 1) := by funext a; fin_cases a <;> rfl
      have h1 : ((onePiece mask n (by omega)).1.emb x 1).val = 128 + (x 1).val := by
        show 128 + 1 * (x 1).val = _; omega
      rw [hx]
      refine (onePiece_apply hm n _ (x 1) (x 0)).trans ?_
      rw [← hx]
      refine (Eq.trans (dif_neg (by omega)) (congrArg μ (Fin.ext ?_))).symm
      show ((onePiece mask n (by omega)).1.emb x 1).val - 128 = (x 1).val
      omega
    rcases List.mem_cons.1 hp with rfl | hp
    · intro x
      have hx : x = ix2 (x 0) (x 1) := by funext a; fin_cases a <;> rfl
      have hl : (x 1).val < 128 := (x 1).isLt
      have h1 : ((vPiece K mask n (by omega)).1.emb x 1).val = (x 1).val := by
        show 0 + 1 * (x 1).val = _; omega
      rw [hx]
      refine (vPiece_apply hK hm n _ (x 1) (x 0)).trans ?_
      rw [← hx]
      refine (Eq.trans (dif_pos (by omega)) (congrArg₂ (· * ·) (congrArg X (congrArg₂ (ix3 0) ?_ ?_)) (congrArg μ ?_))).symm <;>
        refine Fin.ext ?_
      · show 128 * n + 1 * (x 0).val = 128 * n + (x 0).val; omega
      · exact h1
      · exact h1
    · exact ih (by omega) p hp

omit hK in
/-- The value and mask pieces cover the rows before the step. -/
theorem vPieces_cover (n : ℕ) (hn : 128 * n ≤ 2048) (y : S2048x256.Idx) (hy : (y 0).val < 128 * n) :
    ∃ p ∈ vPieces K mask n hn, y ∈ p.1.set := by
  induction n with
  | zero => omega
  | succ n ih =>
    by_cases h : (y 0).val < 128 * n
    · obtain ⟨p, hp, hy⟩ := ih (by omega) h
      exact ⟨p, List.mem_cons_of_mem _ (List.mem_cons_of_mem _ hp), hy⟩
    · have hl : (y 1).val < 256 := (y 1).isLt
      by_cases h1 : (y 1).val < 128
      · refine ⟨_, List.mem_cons_of_mem _ List.mem_cons_self, ?_⟩
        simp only [vPiece, Rect.mem_set_unit]
        intro a
        fin_cases a <;> simp at * <;> omega
      · refine ⟨_, List.mem_cons_self, ?_⟩
        simp only [onePiece, Rect.mem_set_unit]
        intro a
        fin_cases a <;> simp at * <;> omega

/-- What a step reads back of the values: the masked values. -/
theorem vRead_left (hm : ∀ j l, mask (ix2 j l) = μ l) (a : Memref sig .tc .vmem S2048x256 .bf16) (n o w : ℕ) (hn : 128 * n ≤ 2048)
    (h : o + w ≤ 2048) (how : o + w ≤ 128 * n) (j : Fin w) (i : Fin 256) (hi : i.val < 128) :
    vRead K a mask n o w hn h (ix2 j i) = X (ix3 0 ⟨o + j, by omega⟩ ⟨i, hi⟩) * μ ⟨i, hi⟩ := by
  unfold vRead
  rw [View.readCov_eq_canon']
  have h1 : 0 + 1 * i.val < 128 := by omega
  refine (View.canon_apply_of_pieces (vAll X μ) _ (vPieces_part hK hm n hn) _ (vPieces_cover n hn _ ?_)).trans (Eq.trans (dif_pos h1)
    (congrArg₂ (· * ·) (congrArg X (congrArg₂ (ix3 0) ?_ ?_)) (congrArg μ ?_))) <;> try refine Fin.ext ?_
  · show o + 1 * j.val < 128 * n; omega
  · show o + 1 * j.val = o + j.val; omega
  · show 0 + 1 * i.val = i.val; omega
  · show 0 + 1 * i.val = i.val; omega

/-- What a step reads back beside the values: the mask. -/
theorem vRead_right (hm : ∀ j l, mask (ix2 j l) = μ l) (a : Memref sig .tc .vmem S2048x256 .bf16) (n o w : ℕ) (hn : 128 * n ≤ 2048)
    (h : o + w ≤ 2048) (how : o + w ≤ 128 * n) (j : Fin w) (i : Fin 256) (hi : ¬ i.val < 128) :
    vRead K a mask n o w hn h (ix2 j i) = μ ⟨i - 128, by omega⟩ := by
  unfold vRead
  rw [View.readCov_eq_canon']
  have h1 : ¬ 0 + 1 * i.val < 128 := by omega
  refine (View.canon_apply_of_pieces (vAll X μ) _ (vPieces_part hK hm n hn) _ (vPieces_cover n hn _ ?_)).trans (Eq.trans (dif_neg h1)
    (congrArg μ (Fin.ext ?_)))
  · show o + 1 * j.val < 128 * n; omega
  · show 0 + 1 * i.val - 128 = i.val - 128; omega

end Cert.AttnIdeal.Own
end
-- ==== Proof.Heads.lean ====
module
public import proofs.«01_k».proof.Proof.Reads
/-!
# One head's softmax sums, over a window of keys and over all keys

Keys outside the window have the score minus infinity, so they add nothing to the row's largest score or to its sums.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- A sum over a window of keys is the sum over all keys, when the terms outside vanish. -/
theorem sum_window (w lo : ℕ) (h : lo + w ≤ 2048) (f : ℕ → EReal) (h0 : ∀ J < 2048, J < lo ∨ lo + w ≤ J → f J = 0) :
    ∑ x : Fin w, f (lo + x) = ∑ J : Fin 2048, f J := by
  rw [Fin.sum_univ_eq_sum_range (fun x => f (lo + x)) w, Fin.sum_univ_eq_sum_range f 2048]
  have e : ∑ x ∈ Finset.range w, f (lo + x) = ∑ x ∈ Finset.Ico lo (lo + w), f x := by
    rw [Finset.sum_Ico_eq_sum_range]; simp
  rw [e]
  refine Finset.sum_subset (fun x hx => ?_) (fun x hx hn => ?_)
  · simp at *; omega
  · simp at *; exact h0 x hx (by omega)

/-- The largest score of a window of keys is the largest of all keys, when the scores outside are minus infinity. -/
theorem max_window (w lo : ℕ) (h : lo + w ≤ 2048) (f : ℕ → EReal) (h0 : ∀ J < 2048, J < lo ∨ lo + w ≤ J → f J = ⊥) :
    Finset.univ.fold max ⊥ (fun x : Fin w => f (lo + x)) = Finset.univ.fold max ⊥ (fun J : Fin 2048 => f J) := by
  refine le_antisymm ?_ ?_
  · rw [Finset.fold_max_le]
    refine ⟨bot_le, fun x _ => ?_⟩
    rw [Finset.le_fold_max]
    exact Or.inr ⟨⟨lo + x, by omega⟩, Finset.mem_univ _, le_rfl⟩
  · rw [Finset.fold_max_le]
    refine ⟨bot_le, fun J _ => ?_⟩
    by_cases hJ : J.val < lo ∨ lo + w ≤ J.val
    · rw [h0 J J.isLt hJ]; exact bot_le
    · rw [Finset.le_fold_max]
      refine Or.inr ⟨⟨J - lo, by omega⟩, Finset.mem_univ _, ?_⟩
      show f J ≤ f (lo + (J - lo))
      rw [show lo + (J.val - lo) = J by omega]

/-- A head's weighted sum over `w` keys, the weights two to the score less the largest. -/
def head (w : ℕ) (σ v : Fin w → EReal) : EReal :=
  ∑ x, FloatOps.exp2 (F := Ideal) (φ := .f32) (σ x - Finset.univ.fold max (Ideal.ofBits .f32 4286578688#32) σ) * v x

/-- The same over all keys. -/
def full (σ v : ℕ → EReal) : EReal := head 2048 (fun J => σ J) (fun J => v J)

/-- The word of minus infinity. -/
theorem ninf : Ideal.ofBits .f32 4286578688#32 = ⊥ := by
  simp [Ideal.ofBits, Ideal.ieee]

/-- The base-two exponential of minus infinity is zero. -/
theorem exp2_bot : FloatOps.exp2 (F := Ideal) (φ := .f32) (⊥ : EReal) = (0 : EReal) := by
  rfl

/-- A head's sum over a window is its sum over all keys. -/
theorem head_window (w lo : ℕ) (h : lo + w ≤ 2048) (σ v : ℕ → EReal) (h0 : ∀ J < 2048, J < lo ∨ lo + w ≤ J → σ J = ⊥)
    (σ' v' : Fin w → EReal) (hσ : ∀ x, σ' x = σ (lo + x)) (hv : ∀ x, v' x = v (lo + x)) :
    head w σ' v' = full σ v := by
  obtain rfl : σ' = fun x : Fin w => σ (lo + x) := funext hσ
  obtain rfl : v' = fun x : Fin w => v (lo + x) := funext hv
  unfold full head
  rw [ninf, max_window w lo h σ h0]
  refine sum_window w lo h (fun J => FloatOps.exp2 (F := Ideal) (φ := .f32) (σ J -
    Finset.univ.fold max ⊥ (fun J : Fin 2048 => σ J)) * v J) (fun J hJ hn => ?_)
  show FloatOps.exp2 (F := Ideal) (φ := .f32) (σ J - Finset.univ.fold max ⊥ (fun J : Fin 2048 => σ J)) * v J = 0
  rw [h0 J hJ hn, sub_eq_add_neg, EReal.bot_add, exp2_bot, zero_mul]

/-- A product with the identity matrix picks a row. -/
theorem eye_sum (r : Fin 128) (f : Fin 128 → EReal) :
    ∑ x : Fin 128, FloatOps.sitofp (F := Ideal) .f32 (BitVec.setWidth 32 (IntOp.cmpi .eq (BitVec.ofNat 32 r) (BitVec.ofNat 32 x))) * f x = f r := by
  rw [Finset.sum_eq_single r]
  · simp [IntOp.cmpi, FloatOps.sitofp]
  · intro x _ hx
    have : ¬ BitVec.ofNat 32 r.val = BitVec.ofNat 32 x.val := by
      intro h
      apply hx
      have := congrArg BitVec.toNat h
      simp only [BitVec.toNat_ofNat] at this
      exact Fin.ext (by omega)
    simp [IntOp.cmpi, FloatOps.sitofp, beq_eq_false_iff_ne.2 this]
  · simp

end Cert.AttnIdeal.Own
end
-- ==== Proof.Widths.lean ====
module
public import proofs.«01_k».proof.Proof.Heads
/-!
# The operations of a step at an index

The five widths of a key window are five shapes, so each operation has one reading per width.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- A score of the first head: a query against a key, plus the bias table's entry. -/
theorem score128_left (q : FVec Ideal S1x128x128 .bf16) (k0 k1 : FVec Ideal S128x128 .bf16) (t0 t1 : FVec Ideal S1x128x128 .bf16)
    (r : Fin 128) (x : Fin 128) : score128 q k0 k1 t0 t1 (ix2 r ⟨x, by omega⟩) = ∑ l, q (ix3 0 r l) * k0 (ix2 l x) + t0 (ix3 0 r x) := by
  rw [← eye_sum r (fun l => t0 (ix3 0 l x))]
  pointwise [score128, k0_pay12]

/-- A score of the second head. -/
theorem score128_right (q : FVec Ideal S1x128x128 .bf16) (k0 k1 : FVec Ideal S128x128 .bf16) (t0 t1 : FVec Ideal S1x128x128 .bf16)
    (r : Fin 128) (x : Fin 128) : score128 q k0 k1 t0 t1 (ix2 r ⟨128 + x, by omega⟩) = ∑ l, q (ix3 0 r l) * k1 (ix2 l x) + t1 (ix3 0 r x) := by
  rw [← eye_sum r (fun l => t1 (ix3 0 l x))]
  pointwise [score128, k0_pay12]

/-- A numerator or denominator: the sums of the two heads, added. -/
theorem sums128_apply (s : FVec Ideal S128x256 .f32) (v0 v1 : FVec Ideal S128x256 .bf16) (r : Fin 128) (l : Fin 256) :
    sums128 s v0 v1 (ix2 r l) = head 128 (fun x => s (ix2 r ⟨x, by omega⟩)) (fun x => v0 (ix2 x l)) +
      head 128 (fun x => s (ix2 r ⟨128 + x, by omega⟩)) (fun x => v1 (ix2 x l)) := by
  pointwise [sums128, wt128, head]

/-- A score of the first head: a query against a key, plus the bias table's entry. -/
theorem score256_left (q : FVec Ideal S1x128x128 .bf16) (k0 k1 : FVec Ideal S128x256 .bf16) (t0 t1 : FVec Ideal S1x128x256 .bf16)
    (r : Fin 128) (x : Fin 256) : score256 q k0 k1 t0 t1 (ix2 r ⟨x, by omega⟩) = ∑ l, q (ix3 0 r l) * k0 (ix2 l x) + t0 (ix3 0 r x) := by
  rw [← eye_sum r (fun l => t0 (ix3 0 l x))]
  pointwise [score256, k0_pay12]

/-- A score of the second head. -/
theorem score256_right (q : FVec Ideal S1x128x128 .bf16) (k0 k1 : FVec Ideal S128x256 .bf16) (t0 t1 : FVec Ideal S1x128x256 .bf16)
    (r : Fin 128) (x : Fin 256) : score256 q k0 k1 t0 t1 (ix2 r ⟨256 + x, by omega⟩) = ∑ l, q (ix3 0 r l) * k1 (ix2 l x) + t1 (ix3 0 r x) := by
  rw [← eye_sum r (fun l => t1 (ix3 0 l x))]
  pointwise [score256, k0_pay12]

/-- A numerator or denominator: the sums of the two heads, added. -/
theorem sums256_apply (s : FVec Ideal S128x512 .f32) (v0 v1 : FVec Ideal S256x256 .bf16) (r : Fin 128) (l : Fin 256) :
    sums256 s v0 v1 (ix2 r l) = head 256 (fun x => s (ix2 r ⟨x, by omega⟩)) (fun x => v0 (ix2 x l)) +
      head 256 (fun x => s (ix2 r ⟨256 + x, by omega⟩)) (fun x => v1 (ix2 x l)) := by
  pointwise [sums256, wt256, head]

/-- A score of the first head: a query against a key, plus the bias table's entry. -/
theorem score384_left (q : FVec Ideal S1x128x128 .bf16) (k0 k1 : FVec Ideal S128x384 .bf16) (t0 t1 : FVec Ideal S1x128x384 .bf16)
    (r : Fin 128) (x : Fin 384) : score384 q k0 k1 t0 t1 (ix2 r ⟨x, by omega⟩) = ∑ l, q (ix3 0 r l) * k0 (ix2 l x) + t0 (ix3 0 r x) := by
  rw [← eye_sum r (fun l => t0 (ix3 0 l x))]
  pointwise [score384, k0_pay12]

/-- A score of the second head. -/
theorem score384_right (q : FVec Ideal S1x128x128 .bf16) (k0 k1 : FVec Ideal S128x384 .bf16) (t0 t1 : FVec Ideal S1x128x384 .bf16)
    (r : Fin 128) (x : Fin 384) : score384 q k0 k1 t0 t1 (ix2 r ⟨384 + x, by omega⟩) = ∑ l, q (ix3 0 r l) * k1 (ix2 l x) + t1 (ix3 0 r x) := by
  rw [← eye_sum r (fun l => t1 (ix3 0 l x))]
  pointwise [score384, k0_pay12]

/-- A numerator or denominator: the sums of the two heads, added. -/
theorem sums384_apply (s : FVec Ideal S128x768 .f32) (v0 v1 : FVec Ideal S384x256 .bf16) (r : Fin 128) (l : Fin 256) :
    sums384 s v0 v1 (ix2 r l) = head 384 (fun x => s (ix2 r ⟨x, by omega⟩)) (fun x => v0 (ix2 x l)) +
      head 384 (fun x => s (ix2 r ⟨384 + x, by omega⟩)) (fun x => v1 (ix2 x l)) := by
  pointwise [sums384, wt384, head]

/-- A score of the first head: a query against a key, plus the bias table's entry. -/
theorem score512_left (q : FVec Ideal S1x128x128 .bf16) (k0 k1 : FVec Ideal S128x512 .bf16) (t0 t1 : FVec Ideal S1x128x512 .bf16)
    (r : Fin 128) (x : Fin 512) : score512 q k0 k1 t0 t1 (ix2 r ⟨x, by omega⟩) = ∑ l, q (ix3 0 r l) * k0 (ix2 l x) + t0 (ix3 0 r x) := by
  rw [← eye_sum r (fun l => t0 (ix3 0 l x))]
  pointwise [score512, k0_pay12]

/-- A score of the second head. -/
theorem score512_right (q : FVec Ideal S1x128x128 .bf16) (k0 k1 : FVec Ideal S128x512 .bf16) (t0 t1 : FVec Ideal S1x128x512 .bf16)
    (r : Fin 128) (x : Fin 512) : score512 q k0 k1 t0 t1 (ix2 r ⟨512 + x, by omega⟩) = ∑ l, q (ix3 0 r l) * k1 (ix2 l x) + t1 (ix3 0 r x) := by
  rw [← eye_sum r (fun l => t1 (ix3 0 l x))]
  pointwise [score512, k0_pay12]

/-- A numerator or denominator: the sums of the two heads, added. -/
theorem sums512_apply (s : FVec Ideal S128x1024 .f32) (v0 v1 : FVec Ideal S512x256 .bf16) (r : Fin 128) (l : Fin 256) :
    sums512 s v0 v1 (ix2 r l) = head 512 (fun x => s (ix2 r ⟨x, by omega⟩)) (fun x => v0 (ix2 x l)) +
      head 512 (fun x => s (ix2 r ⟨512 + x, by omega⟩)) (fun x => v1 (ix2 x l)) := by
  pointwise [sums512, wt512, head]

/-- A score of the first head: a query against a key, plus the bias table's entry. -/
theorem score640_left (q : FVec Ideal S1x128x128 .bf16) (k0 k1 : FVec Ideal S128x640 .bf16) (t0 t1 : FVec Ideal S1x128x640 .bf16)
    (r : Fin 128) (x : Fin 640) : score640 q k0 k1 t0 t1 (ix2 r ⟨x, by omega⟩) = ∑ l, q (ix3 0 r l) * k0 (ix2 l x) + t0 (ix3 0 r x) := by
  rw [← eye_sum r (fun l => t0 (ix3 0 l x))]
  pointwise [score640, k0_pay12]

/-- A score of the second head. -/
theorem score640_right (q : FVec Ideal S1x128x128 .bf16) (k0 k1 : FVec Ideal S128x640 .bf16) (t0 t1 : FVec Ideal S1x128x640 .bf16)
    (r : Fin 128) (x : Fin 640) : score640 q k0 k1 t0 t1 (ix2 r ⟨640 + x, by omega⟩) = ∑ l, q (ix3 0 r l) * k1 (ix2 l x) + t1 (ix3 0 r x) := by
  rw [← eye_sum r (fun l => t1 (ix3 0 l x))]
  pointwise [score640, k0_pay12]

/-- A numerator or denominator: the sums of the two heads, added. -/
theorem sums640_apply (s : FVec Ideal S128x1280 .f32) (v0 v1 : FVec Ideal S640x256 .bf16) (r : Fin 128) (l : Fin 256) :
    sums640 s v0 v1 (ix2 r l) = head 640 (fun x => s (ix2 r ⟨x, by omega⟩)) (fun x => v0 (ix2 x l)) +
      head 640 (fun x => s (ix2 r ⟨640 + x, by omega⟩)) (fun x => v1 (ix2 x l)) := by
  pointwise [sums640, wt640, head]

end Cert.AttnIdeal.Own
end
-- ==== Proof.Walk.lean ====
module
public import proofs.«01_k».proof.Proof.Widths
/-!
# What the walk of one grid point computes

Each output block holds, for its queries, the softmax sums over all keys of the banded scores, divided and normalised.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- The row of a staged operand at a query or key. -/
def row (X : FVec Ideal S1x2048x128 .bf16) (J : ℕ) (l : Fin 128) : EReal := if h : J < 2048 then X (ix3 0 ⟨J, h⟩ l) else 0

/-- A row within bounds, by its number. -/
theorem row_eq (X : FVec Ideal S1x2048x128 .bf16) (J : ℕ) (h : J < 2048) (l : Fin 128) : X (ix3 0 ⟨J, h⟩ l) = row X J l := by
  simp [row, h]

/-- One on the lanes of head `g`, zero on those of the other. -/
def lane (g : ℕ) (l : Fin 128) : EReal := if l.val / 64 = g then 1 else 0

/-- The comparison of a lane with 64 chooses by the head of the lane. -/
theorem sel64 (l : Fin 128) (a b : EReal) :
    Scalar.select (IntOp.cmpi .slt (BitVec.ofNat 32 l.val) 64#32) a b = if l.val / 64 = 0 then a else b := by
  have h : ∀ l : Fin 128, IntOp.cmpi .slt (BitVec.ofNat 32 l.val) 64#32 = if l.val / 64 = 0 then 1#1 else 0#1 := by decide
  rw [h l]
  split_ifs <;> rfl

/-- The keys a query sees: those of its own block of 64 and of the eight before. -/
def band (t J : ℕ) : Prop := J / 64 ≤ t / 64 ∧ t / 64 ≤ J / 64 + 8

instance (t J : ℕ) : Decidable (band t J) := by unfold band; infer_instance

/-- The lanes of the bias table that are not masked. -/
def lit (r key : ℕ) : Prop := (r < 64 ∧ key < 576) ∨ (64 ≤ r ∧ 64 ≤ key)

instance (t J : ℕ) : Decidable (lit t J) := by unfold lit; infer_instance

/-- The bias table built from the bias rows `β`. -/
def Table (XT : FVec Ideal S2x128x640 .bf16) (β : ℕ → ℕ → EReal) : Prop :=
  ∀ (g : Fin 2) (r : Fin 128) (key : Fin 640), XT (ix3 g r key) = if lit r key then β g (key + 128 - r) else ⊥

/-- The score of head `g`, in the base-two scale of the weights. -/
def scr (XQ XK : FVec Ideal S1x2048x128 .bf16) (β : ℕ → ℕ → EReal) (g t J : ℕ) : EReal :=
  ∑ l, row XQ t l * (row XK J l * lane g l) + if band t J then β g (J + 640 - t) else ⊥

/-- Outside the band a score is minus infinity. -/
theorem scr_out (XQ XK : FVec Ideal S1x2048x128 .bf16) (β : ℕ → ℕ → EReal) (g t J : ℕ) (h : ¬ band t J) : scr XQ XK β g t J = ⊥ := by
  unfold scr
  rw [if_neg h, EReal.add_bot]

/-- The column of masked values, or of the mask, that gives lane `l` of the sums. -/
def vcol (XV : FVec Ideal S1x2048x128 .bf16) (g : ℕ) (l : Fin 256) (J : ℕ) : EReal :=
  if h : l.val < 128 then row XV J ⟨l, h⟩ * lane g ⟨l, h⟩ else lane g ⟨l - 128, by omega⟩

/-- The first head mask of the transposed keys. -/
theorem pay9 (i j : Fin 128) : (k0_pay9 (F := Ideal)) (ix2 i j) = lane 0 i := by
  pointwise [k0_pay9, k0_pay8]
  exact sel64 i 1 0
/-- The second head mask of the transposed keys. -/
theorem pay10 (i j : Fin 128) : (k0_pay10 (F := Ideal)) (ix2 i j) = lane 1 i := by
  pointwise [k0_pay10, k0_pay8]
  rw [sel64, lane]
  split_ifs <;> first | rfl | omega
/-- The first head mask of the values. -/
theorem pay6 (i j : Fin 128) : (k0_pay6 (F := Ideal)) (ix2 i j) = lane 0 j := by
  pointwise [k0_pay6, k0_pay5]
  exact sel64 j 1 0
/-- The second head mask of the values. -/
theorem pay7 (i j : Fin 128) : (k0_pay7 (F := Ideal)) (ix2 i j) = lane 1 j := by
  pointwise [k0_pay7, k0_pay5]
  rw [sel64, lane]
  split_ifs <;> first | rfl | omega

section walk
variable {Q K V : Ld S1x2048x128 .bf16} {T : Ld S2x128x640 .bf16} {g : FVec Ideal S1x1x128 .f32}
variable {XQ XK XV : FVec Ideal S1x2048x128 .bf16} {XT : FVec Ideal S2x128x640 .bf16} {β : ℕ → ℕ → EReal}
variable (hQ : Reads Q XQ) (hK : Reads K XK) (hV : Reads V XV) (hT : Reads T XT) (hβ : Table XT β)
variable (a16 a17 : Memref sig .tc .vmem S128x2048 .bf16) (a18 a19 : Memref sig .tc .vmem S2048x256 .bf16)
variable (a21 a22 a23 : Memref sig .tc .vmem S128x1280 .f32)

include hV in
/-- A window of masked values and mask columns, entry by entry. -/
theorem vRead_eq (mask : FVec Ideal S128x128 .bf16) (γ : ℕ) (hm : ∀ j l, mask (ix2 j l) = lane γ l)
    (a : Memref sig .tc .vmem S2048x256 .bf16) (n o w : ℕ) (hn : 128 * n ≤ 2048) (h : o + w ≤ 2048) (how : o + w ≤ 128 * n)
    (j : Fin w) (i : Fin 256) : vRead V a mask n o w hn h (ix2 j i) = vcol XV γ i (o + j) := by
  unfold vcol
  split_ifs with hi
  · rw [vRead_left hV hm a n o w hn h how j i hi, row_eq XV]
  · rw [vRead_right hV hm a n o w hn h how j i hi]

include hT in
/-- A window of the bias table of a head, entry by entry. -/
theorem tabAt_apply (γ o w : ℕ) (h : o + w ≤ 640) (h' : γ < 2) (r : Fin 128) (x : Fin w) :
    tabAt T γ o w h h' (ix3 0 r x) = XT (ix3 ⟨γ, h'⟩ r ⟨o + x, by omega⟩) := by
  refine (hT _ _).trans (congrArg XT ?_)
  funext a
  fin_cases a <;> refine Fin.ext ?_ <;> simp [LoadRect.idx, ix3]

include hQ hK hT hβ in
/-- A score of a window: the product of the loaded query and keys plus the table's entry is the banded score. -/
theorem score_eq (γ : ℕ) (hγ : γ < 2) (mask : FVec Ideal S128x128 .bf16) (hm : ∀ l j, mask (ix2 l j) = lane γ l)
    (a : Memref sig .tc .vmem S128x2048 .bf16) (n lo o w : ℕ) (hn : 128 * (n + 1) ≤ 2048) (hw : lo + w = 128 * (n + 1)) (ho : o + w = 640)
    (r : Fin 128) (x : Fin w) :
    ∑ l, blk Q (128 * n) (by omega) (ix3 0 r l) * kRead K a mask (n + 1) lo w hn (by omega) (ix2 l x) +
      tabAt T γ o w (by omega) hγ (ix3 0 r x) = scr XQ XK β γ (128 * n + r) (lo + x) := by
  unfold scr
  congr 1
  · refine Finset.sum_congr rfl fun l _ => ?_
    rw [blk_apply hQ, kRead_apply hK hm a (n + 1) lo w hn (by omega) (by omega), row_eq XQ, row_eq XK]
  · rw [tabAt_apply hT, hβ]
    have hb : lit r (o + x.val) ↔ band (128 * n + r) (lo + x) := by
      unfold lit band; omega
    simp only [hb]
    split_ifs with h
    · congr 1; omega
    · rfl

/-- A sum of the two heads' weighted columns, at one of the 256 lanes. -/
def both (XQ XK XV : FVec Ideal S1x2048x128 .bf16) (β : ℕ → ℕ → EReal) (t : ℕ) (l : Fin 256) : EReal :=
  full (scr XQ XK β 0 t) (vcol XV 0 l) + full (scr XQ XK β 1 t) (vcol XV 1 l)

/-- The two heads' products over a window are the sums of each head over the window. -/
theorem both_eq (n lo w : ℕ) (hw : lo + w = 128 * (n + 1)) (hn : 128 * (n + 1) ≤ 2048) (hlo : lo = 128 * (n + 1) - 640) (r : Fin 128) (l : Fin 256)
    (s0 s1 v0 v1 : Fin w → EReal)
    (h0 : ∀ x, s0 x = scr XQ XK β 0 (128 * n + r) (lo + x)) (h1 : ∀ x, s1 x = scr XQ XK β 1 (128 * n + r) (lo + x))
    (hv0 : ∀ x, v0 x = vcol XV 0 l (lo + x)) (hv1 : ∀ x, v1 x = vcol XV 1 l (lo + x)) :
    head w s0 v0 + head w s1 v1 = both XQ XK XV β (128 * n + r) l := by
  have out : ∀ J < 2048, J < lo ∨ lo + w ≤ J → ¬ band (128 * n + r) J := by
    intro J hJ h; unfold band; omega
  rw [head_window w lo (by omega) _ _ (fun J hJ h => scr_out XQ XK β 0 _ J (out J hJ h)) s0 v0 h0 hv0,
    head_window w lo (by omega) _ _ (fun J hJ h => scr_out XQ XK β 1 _ J (out J hJ h)) s1 v1 h1 hv1]
  rfl

/-- The attention of a query at a lane: numerators over denominators. -/
def att (XQ XK XV : FVec Ideal S1x2048x128 .bf16) (β : ℕ → ℕ → EReal) (t : ℕ) (l : Fin 128) : EReal :=
  both XQ XK XV β t ⟨l, by omega⟩ * Ideal.div 1 (both XQ XK XV β t ⟨128 + l, by omega⟩)

/-- The output at a lane: the attention over its root mean square within the head, times the gain. -/
def outAt (XQ XK XV : FVec Ideal S1x2048x128 .bf16) (β : ℕ → ℕ → EReal) (g : FVec Ideal S1x1x128 .f32) (t : ℕ) (l : Fin 128) : EReal :=
  att XQ XK XV β t l * Ideal.rsqrt (Ideal.div (∑ d : Fin 64, att XQ XK XV β t ⟨64 * (l / 64) + d, by omega⟩ *
    att XQ XK XV β t ⟨64 * (l / 64) + d, by omega⟩) (Ideal.ofBits .f32 1115684864#32) + Ideal.ofBits .f32 925353388#32) * g (ix3 0 0 l)

/-- A sum over 128 lanes, head by head. -/
theorem split64 (f : Fin 128 → EReal) : ∑ x, f x = ∑ d : Fin 64, f ⟨d, by omega⟩ + ∑ d : Fin 64, f ⟨64 + d, by omega⟩ :=
  Fin.sum_univ_add (a := 64) (b := 64) f

/-- The normalisation at an index. -/
theorem norm_apply (o : FVec Ideal S128x128 .f32) (g : FVec Ideal S1x1x128 .f32) (r l : Fin 128) :
    norm o g (ix3 0 r l) = o (ix2 r l) * Ideal.rsqrt (Ideal.div (∑ d : Fin 64, o (ix2 r ⟨64 * (l / 64) + d, by omega⟩) *
      o (ix2 r ⟨64 * (l / 64) + d, by omega⟩)) (Ideal.ofBits .f32 1115684864#32) + Ideal.ofBits .f32 925353388#32) * g (ix3 0 0 l) := by
  have e : norm o g (ix3 0 r l) = o (ix2 r l) *
        Ideal.rsqrt
          (Scalar.select (IntOp.cmpi CmpIPredicate.slt (BitVec.ofNat 32 ↑l) 64#32)
              (Ideal.div
                (∑ x : Fin 128,
                  Scalar.select (IntOp.cmpi CmpIPredicate.slt (BitVec.ofNat 32 ↑x) 64#32) (o (ix2 r x) * o (ix2 r x)) 0)
                (Ideal.ofBits FTy.f32 1115684864#32))
              (Ideal.div
                (∑ x : Fin 128,
                  Scalar.select (IntOp.cmpi CmpIPredicate.slt (BitVec.ofNat 32 ↑x) 64#32) 0 (o (ix2 r x) * o (ix2 r x)))
                (Ideal.ofBits FTy.f32 1115684864#32)) +
            Ideal.ofBits FTy.f32 925353388#32) *
      g (ix3 0 0 l) := by
    pointwise [norm, lanes, mean, k0_pay5, k0_pay13]
  rw [e]
  simp only [sel64]
  congr 4
  have hd (d : Fin 64) : d.val / 64 = 0 := by omega
  have hd' (d : Fin 64) : ¬ (64 + d.val) / 64 = 0 := by omega
  by_cases h : l.val / 64 = 0
  · rw [if_pos h]
    congr 1
    rw [split64]
    simp only [hd, hd', if_true, if_false, Finset.sum_const_zero, add_zero, h, mul_zero, zero_add]
  · have h : l.val / 64 = 1 := by omega
    rw [if_neg (by omega)]
    congr 1
    rw [split64]
    simp only [hd, hd', if_true, if_false, Finset.sum_const_zero, zero_add, h, mul_one]

/-- The quotient at an index. -/
theorem quot_apply (u : FVec Ideal S128x256 .f32) (r l : Fin 128) :
    quot u (ix2 r l) = u (ix2 r ⟨l, by omega⟩) * Ideal.div 1 (u (ix2 r ⟨128 + l, by omega⟩)) := by
  pointwise [quot]

/-- The output block from its sums. -/
theorem norm_quot (u : FVec Ideal S128x256 .f32) (t : ℕ) (r : Fin 128) (hu : ∀ l, u (ix2 r l) = both XQ XK XV β t l) (l : Fin 128) :
    norm (quot u) g (ix3 0 r l) = outAt XQ XK XV β g t l := by
  rw [norm_apply]
  simp only [quot_apply, hu]
  rfl

include hQ hK hV hT hβ

/-- Output block 0. -/
theorem oVal0_apply (e : ℕ) (he : 128 * e ≤ 2048) (hk : 128 ≤ 128 * e) (r l : Fin 128) :
    oVal0 Q K V T g a16 a17 a18 a19 a21 a22 a23 e he (ix3 0 r l) = outAt XQ XK XV β g (128 * 0 + r) l := by
  refine norm_quot _ _ r (fun l => ?_) l
  have hs : sRead Q K T a16 a17 a21 a22 a23 0 256 (by omega) (by omega) = sVal0 Q K T a16 a17 :=
    View.readCov_cons_toLoadRect _ _ _ _
  rw [hs, sums128_apply]
  refine both_eq 0 0 128 (by omega) (by omega) (by omega) r l _ _ _ _ (fun x => ?_) (fun x => ?_)
    (fun x => vRead_eq hV k0_pay6 0 pay6 a18 e 0 128 he (by omega) (by omega) x l)
    (fun x => vRead_eq hV k0_pay7 1 pay7 a19 e 0 128 he (by omega) (by omega) x l)
  · exact (score128_left _ _ _ _ _ r x).trans (score_eq hQ hK hT hβ 0 (by omega) k0_pay9 pay9 a16 0 0 512 128 (by omega) (by omega) (by omega) r x)
  · exact (score128_right _ _ _ _ _ r x).trans (score_eq hQ hK hT hβ 1 (by omega) k0_pay10 pay10 a17 0 0 512 128 (by omega) (by omega) (by omega) r x)

/-- Output block 1. -/
theorem oVal1_apply (e : ℕ) (he : 128 * e ≤ 2048) (hk : 256 ≤ 128 * e) (r l : Fin 128) :
    oVal1 Q K V T g a16 a17 a18 a19 a21 a22 a23 e he (ix3 0 r l) = outAt XQ XK XV β g (128 * 1 + r) l := by
  refine norm_quot _ _ r (fun l => ?_) l
  have hs : sRead Q K T a16 a17 a21 a22 a23 1 512 (by omega) (by omega) = sVal1 Q K T a16 a17 :=
    View.readCov_cons_toLoadRect _ _ _ _
  rw [hs, sums256_apply]
  refine both_eq 1 0 256 (by omega) (by omega) (by omega) r l _ _ _ _ (fun x => ?_) (fun x => ?_)
    (fun x => vRead_eq hV k0_pay6 0 pay6 a18 e 0 256 he (by omega) (by omega) x l)
    (fun x => vRead_eq hV k0_pay7 1 pay7 a19 e 0 256 he (by omega) (by omega) x l)
  · exact (score256_left _ _ _ _ _ r x).trans (score_eq hQ hK hT hβ 0 (by omega) k0_pay9 pay9 a16 1 0 384 256 (by omega) (by omega) (by omega) r x)
  · exact (score256_right _ _ _ _ _ r x).trans (score_eq hQ hK hT hβ 1 (by omega) k0_pay10 pay10 a17 1 0 384 256 (by omega) (by omega) (by omega) r x)

/-- Output block 2. -/
theorem oVal2_apply (e : ℕ) (he : 128 * e ≤ 2048) (hk : 384 ≤ 128 * e) (r l : Fin 128) :
    oVal2 Q K V T g a16 a17 a18 a19 a21 a22 a23 e he (ix3 0 r l) = outAt XQ XK XV β g (128 * 2 + r) l := by
  refine norm_quot _ _ r (fun l => ?_) l
  have hs : sRead Q K T a16 a17 a21 a22 a23 2 768 (by omega) (by omega) = sVal2 Q K T a16 a17 :=
    View.readCov_cons_toLoadRect _ _ _ _
  rw [hs, sums384_apply]
  refine both_eq 2 0 384 (by omega) (by omega) (by omega) r l _ _ _ _ (fun x => ?_) (fun x => ?_)
    (fun x => vRead_eq hV k0_pay6 0 pay6 a18 e 0 384 he (by omega) (by omega) x l)
    (fun x => vRead_eq hV k0_pay7 1 pay7 a19 e 0 384 he (by omega) (by omega) x l)
  · exact (score384_left _ _ _ _ _ r x).trans (score_eq hQ hK hT hβ 0 (by omega) k0_pay9 pay9 a16 2 0 256 384 (by omega) (by omega) (by omega) r x)
  · exact (score384_right _ _ _ _ _ r x).trans (score_eq hQ hK hT hβ 1 (by omega) k0_pay10 pay10 a17 2 0 256 384 (by omega) (by omega) (by omega) r x)

/-- Output block 3. -/
theorem oVal3_apply (e : ℕ) (he : 128 * e ≤ 2048) (hk : 512 ≤ 128 * e) (r l : Fin 128) :
    oVal3 Q K V T g a16 a17 a18 a19 a21 a22 a23 e he (ix3 0 r l) = outAt XQ XK XV β g (128 * 3 + r) l := by
  refine norm_quot _ _ r (fun l => ?_) l
  have hs : sRead Q K T a16 a17 a21 a22 a23 3 1024 (by omega) (by omega) = sVal3 Q K T a16 a17 :=
    View.readCov_cons_toLoadRect _ _ _ _
  rw [hs, sums512_apply]
  refine both_eq 3 0 512 (by omega) (by omega) (by omega) r l _ _ _ _ (fun x => ?_) (fun x => ?_)
    (fun x => vRead_eq hV k0_pay6 0 pay6 a18 e 0 512 he (by omega) (by omega) x l)
    (fun x => vRead_eq hV k0_pay7 1 pay7 a19 e 0 512 he (by omega) (by omega) x l)
  · exact (score512_left _ _ _ _ _ r x).trans (score_eq hQ hK hT hβ 0 (by omega) k0_pay9 pay9 a16 3 0 128 512 (by omega) (by omega) (by omega) r x)
  · exact (score512_right _ _ _ _ _ r x).trans (score_eq hQ hK hT hβ 1 (by omega) k0_pay10 pay10 a17 3 0 128 512 (by omega) (by omega) (by omega) r x)

/-- Output block `n + 4`. -/
theorem oValS_apply (n : ℕ) (h : n < 12) (e : ℕ) (he : 128 * e ≤ 2048) (hk : 128 * (n + 5) ≤ 128 * e) (r l : Fin 128) :
    oValS Q K V T g a16 a17 a18 a19 a21 a22 a23 n h e he (ix3 0 r l) = outAt XQ XK XV β g (128 * (n + 4) + r) l := by
  refine norm_quot _ _ r (fun l => ?_) l
  have hs : sRead Q K T a16 a17 a21 a22 a23 (n + 4) 1280 (by omega) (by omega) = sValS Q K T a16 a17 n h :=
    View.readCov_cons_toLoadRect _ _ _ _
  rw [hs, sums640_apply]
  refine both_eq (n + 4) (128 * n) 640 (by omega) (by omega) (by omega) r l _ _ _ _ (fun x => ?_) (fun x => ?_)
    (fun x => vRead_eq hV k0_pay6 0 pay6 a18 e (128 * n) 640 he (by omega) (by omega) x l)
    (fun x => vRead_eq hV k0_pay7 1 pay7 a19 e (128 * n) 640 he (by omega) (by omega) x l)
  · exact (score640_left _ _ _ _ _ r x).trans (score_eq hQ hK hT hβ 0 (by omega) k0_pay9 pay9 a16 (n + 4) (128 * n) 0 640 (by omega) (by omega) (by omega) r x)
  · exact (score640_right _ _ _ _ _ r x).trans (score_eq hQ hK hT hβ 1 (by omega) k0_pay10 pay10 a17 (n + 4) (128 * n) 0 640 (by omega) (by omega) (by omega) r x)

/-- Every output block, read when its own values and masks are stored. -/
theorem oVal_apply (e : ℕ) (he : 128 * e ≤ 2048) (n : ℕ) (h : n < 16) (hk : 128 * (n + 1) ≤ 128 * e) (r l : Fin 128) :
    oVal Q K V T g a16 a17 a18 a19 a21 a22 a23 e he n h (ix3 0 r l) = outAt XQ XK XV β g (128 * n + r) l := by
  match n, h, hk with
  | 0, _, hk => exact oVal0_apply hQ hK hV hT hβ a16 a17 a18 a19 a21 a22 a23 e he hk r l
  | 1, _, hk => exact oVal1_apply hQ hK hV hT hβ a16 a17 a18 a19 a21 a22 a23 e he hk r l
  | 2, _, hk => exact oVal2_apply hQ hK hV hT hβ a16 a17 a18 a19 a21 a22 a23 e he hk r l
  | 3, _, hk => exact oVal3_apply hQ hK hV hT hβ a16 a17 a18 a19 a21 a22 a23 e he hk r l
  | n + 4, _, hk => exact oValS_apply hQ hK hV hT hβ a16 a17 a18 a19 a21 a22 a23 n (by omega) e he hk r l

/-- Every stored block is a part of the whole output. -/
theorem oPieces_part (n : ℕ) (hn : n ≤ 16) : ∀ p ∈ oPieces Q K V T g a16 a17 a18 a19 a21 a22 a23 n hn, ∀ x : p.1.shape.Idx,
    p.2 x = (fun y : S1x2048x128.Idx => outAt XQ XK XV β g (y 1) (y 2)) (p.1.emb x) := by
  induction n with
  | zero => intro p hp; exact absurd hp (by simp [oPieces])
  | succ n ih =>
    intro p hp
    rcases List.mem_cons.1 hp with rfl | hp
    · intro x
      have hx : x = ix3 0 (x 1) (x 2) := by funext a; fin_cases a <;> first | rfl | (refine Fin.ext ?_; have : (x 0).val < 1 := (x 0).isLt; show (x 0).val = 0; omega)
      rw [hx]
      refine (oVal_apply hQ hK hV hT hβ a16 a17 a18 a19 a21 a22 a23 _ _ n _ (by omega) (x 1) (x 2)).trans
        (congrArg₂ (outAt XQ XK XV β g) ?_ (Fin.ext ?_))
      · show 128 * n + (x 1).val = 128 * n + 1 * (x 1).val; omega
      · show (x 2).val = 0 + 1 * (x 2).val; omega
    · exact ih (by omega) p hp

omit hQ hK hV hT hβ in
/-- The stored blocks cover the rows before the step. -/
theorem oPieces_cover (n : ℕ) (hn : n ≤ 16) (y : S1x2048x128.Idx) (hy : (y 1).val < 128 * n) :
    ∃ p ∈ oPieces Q K V T g a16 a17 a18 a19 a21 a22 a23 n hn, y ∈ p.1.set := by
  induction n with
  | zero => omega
  | succ n ih =>
    by_cases h : (y 1).val < 128 * n
    · obtain ⟨p, hp, hy⟩ := ih (by omega) h
      exact ⟨p, List.mem_cons_of_mem _ hp, hy⟩
    · refine ⟨_, List.mem_cons_self, ?_⟩
      simp only [oPiece, Rect.mem_set_unit]
      intro a
      have h0 : (y 0).val < 1 := (y 0).isLt
      have h2 : (y 2).val < 128 := (y 2).isLt
      fin_cases a <;> simp at * <;> omega

/-- The sixteen blocks stored leave the attention in the whole output block. -/
theorem oPieces_canon (y : S1x2048x128.Idx) :
    View.canon (oPieces Q K V T g a16 a17 a18 a19 a21 a22 a23 16 (by omega)) y = outAt XQ XK XV β g (y 1) (y 2) :=
  View.canon_apply_of_pieces (fun y : S1x2048x128.Idx => outAt XQ XK XV β g (y 1) (y 2)) _
    (oPieces_part hQ hK hV hT hβ a16 a17 a18 a19 a21 a22 a23 16 (by omega)) y
    (oPieces_cover a16 a17 a18 a19 a21 a22 a23 16 (by omega) y (y 1).isLt)

end walk
end Cert.AttnIdeal.Own
end
-- ==== Proof.Theory.lean ====
module
public import proofs.«01_k».proof.Proof.Walk
/-!
# Base-two softmax sums and the softmax

Over scores that are real in a band and minus infinity outside it, the sums of powers of two of `σ`, divided at the end,
are the softmax of `log 2 * σ`, divided first. The values may be infinite.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- A banded row: real scores in the band, minus infinity outside. -/
def banded (B : ℕ → Prop) [DecidablePred B] (f : ℕ → ℝ) (J : ℕ) : EReal := if B J then (f J : EReal) else ⊥

variable (B : ℕ → Prop) [DecidablePred B] (f : ℕ → ℝ)

/-- The largest score of a banded row is the real score that bounds the band. -/
theorem banded_max (J1 : Fin 2048) (h1 : B J1) (hle : ∀ J : Fin 2048, B J → f J ≤ f J1) :
    Finset.univ.fold max ⊥ (fun J : Fin 2048 => banded B f J) = (f J1 : EReal) := by
  refine le_antisymm ?_ ?_
  · rw [Finset.fold_max_le]
    refine ⟨bot_le, fun J _ => ?_⟩
    unfold banded
    by_cases h : B J
    · rw [if_pos h]; exact EReal.coe_le_coe_iff.2 (hle J h)
    · rw [if_neg h]; exact bot_le
  · rw [Finset.le_fold_max]
    refine Or.inr ⟨J1, Finset.mem_univ _, ?_⟩
    unfold banded
    rw [if_pos h1]

/-- A row with a key in its band has a largest score. -/
theorem banded_top (J0 : Fin 2048) (h0 : B J0) : ∃ J1 : Fin 2048, B J1 ∧ ∀ J : Fin 2048, B J → f J ≤ f J1 := by
  obtain ⟨J1, hm, hle⟩ := Finset.exists_max_image (Finset.univ.filter fun J : Fin 2048 => B J) (fun J => f J)
    ⟨J0, by simp [h0]⟩
  exact ⟨J1, (Finset.mem_filter.1 hm).2, fun J hJ => hle J (by simp [hJ])⟩

/-- A weight: the exponential of the score less the largest, nothing outside the band. -/
def wt (M : ℝ) (J : ℕ) : ℝ := if B J then Real.exp (Real.log 2 * (f J - M)) else 0

/-- Weights are not negative. -/
theorem wt_nonneg (M : ℝ) (J : ℕ) : 0 ≤ wt B f M J := by
  unfold wt; split_ifs
  · exact (Real.exp_pos _).le
  · exact le_rfl

/-- The base-two exponential of a banded score is its weight. -/
theorem wt_two (M : ℝ) (J : ℕ) : Ideal.exp2 (banded B f J - (M : EReal)) = (wt B f M J : EReal) := by
  unfold banded wt
  by_cases h : B J
  · rw [if_pos h, if_pos h, ← EReal.coe_sub, Ideal.exp2_coe]
    congr 1
    show (2 : ℝ) ^ (f J - M) = _
    rw [Real.rpow_def_of_pos (by norm_num)]
  · rw [if_neg h, if_neg h, sub_eq_add_neg, EReal.bot_add]; rfl

/-- The natural exponential of the same score, scaled by log 2, is the same weight. -/
theorem wt_e (M : ℝ) (J : ℕ) :
    Ideal.exp (banded B (fun J => Real.log 2 * f J) J - ((Real.log 2 * M : ℝ) : EReal)) = (wt B f M J : EReal) := by
  unfold banded wt
  by_cases h : B J
  · rw [if_pos h, if_pos h, ← EReal.coe_sub, Ideal.exp_coe, mul_sub]
  · rw [if_neg h, if_neg h, sub_eq_add_neg, EReal.bot_add]; rfl

/-- A sum of reals is the same over the extended reals. -/
theorem coe_sum {n : ℕ} (g : Fin n → ℝ) : ∑ J, (g J : EReal) = ((∑ J, g J : ℝ) : EReal) := by
  induction n with
  | zero => simp
  | succ n ih => rw [Fin.sum_univ_succ, Fin.sum_univ_succ, ih, EReal.coe_add]

/-- A factor that is real and not negative goes into a sum of extended reals. -/
theorem sum_mul_real {n : ℕ} (g : Fin n → EReal) (c : ℝ) (hc : 0 ≤ c) : (∑ J, g J) * (c : EReal) = ∑ J, g J * (c : EReal) := by
  induction n with
  | zero => simp
  | succ n ih =>
    rw [Fin.sum_univ_succ, Fin.sum_univ_succ, ← ih,
      EReal.right_distrib_of_nonneg_of_ne_top (EReal.coe_nonneg.2 hc) (EReal.coe_ne_top c)]

/-- The sums of powers of two, divided at the end, are the softmax's weighted sum. -/
theorem softmax_eq (v : ℕ → EReal) (J0 : Fin 2048) (h0 : B J0) (s : Fin 2048 → EReal)
    (hs : ∀ J : Fin 2048, s J = banded B (fun J => Real.log 2 * f J) J) :
    full (banded B f) v * Ideal.div 1 (full (banded B f) fun _ => 1) =
      ∑ J : Fin 2048, v J * Ideal.div (Ideal.exp (s J - Finset.univ.fold max ⊥ s))
        (∑ J : Fin 2048, Ideal.exp (s J - Finset.univ.fold max ⊥ s)) := by
  obtain rfl : s = fun J : Fin 2048 => banded B (fun J => Real.log 2 * f J) J := funext hs
  obtain ⟨J1, h1, hle⟩ := banded_top B f J0 h0
  have hl : 0 < Real.log 2 := Real.log_pos (by norm_num)
  have m1 := banded_max B f J1 h1 hle
  have m2 := banded_max B (fun J => Real.log 2 * f J) J1 h1 (fun J hJ => mul_le_mul_of_nonneg_left (hle J hJ) hl.le)
  have L : 0 < ∑ J : Fin 2048, wt B f (f J1) J :=
    Finset.sum_pos' (fun J _ => wt_nonneg B f _ J) ⟨J1, Finset.mem_univ _, by unfold wt; rw [if_pos h1]; exact Real.exp_pos _⟩
  have hfull (v : ℕ → EReal) : full (banded B f) v = ∑ J : Fin 2048, (wt B f (f J1) J : EReal) * v J := by
    unfold full head
    rw [ninf, m1]
    exact Finset.sum_congr rfl fun J _ => congrArg (· * v J) (wt_two B f (f J1) J)
  rw [hfull, hfull, m2]
  simp only [wt_e, mul_one, coe_sum]
  rw [Ideal.div_coe L.ne', one_mul, sum_mul_real _ _ (by positivity)]
  refine Finset.sum_congr rfl fun J _ => ?_
  rw [Ideal.div_coe L.ne', mul_right_comm, mul_comm]

end Cert.AttnIdeal.Own
end
-- ==== Proof.Ref.lean ====
module

public import proofs.«01_k».proof.Proof.Theory
public import proofs.«01_k».proof.Proof.Gen.AttnRefIdeal.Read
public import Idealize.ShloMosaic.Lib.ValueIdx

/-! The integer part of the reference: which pairs of positions its mask keeps, and which entry of the bias table
    a pair of positions takes. -/

@[expose] public section

set_option maxRecDepth 16384

noncomputable section

namespace Cert.AttnIdeal.Own

open Idealize Idealize.ShloMosaic
open Cert.AttnRefIdeal.Read

/-- The column of the bias table as a word, from the signed distance of the two positions: clipped to
    `[-256, 256]`, moved up by 256, and a negative one wrapped. -/
def colWord (z : BitVec 32) : BitVec 32 :=
  Scalar.select (IntOp.cmpi .slt (IntOp.addi (IntOp.minsi 256#32 (IntOp.maxsi 4294967040#32 z)) 256#32) 0#32)
    (IntOp.addi (IntOp.addi (IntOp.minsi 256#32 (IntOp.maxsi 4294967040#32 z)) 256#32) 513#32)
    (IntOp.addi (IntOp.minsi 256#32 (IntOp.maxsi 4294967040#32 z)) 256#32)

/-- The column of the bias table for a signed distance, held inside the table. -/
def col (z : BitVec 32) : Fin 513 := ⟨min (colWord z).toInt.toNat 512, by omega⟩

/-- Division of a word by 64 rounding down, as the reference spells it. -/
def floor64 (x : BitVec 32) : BitVec 32 :=
  Scalar.select (IntOp.andi (IntOp.cmpi .ne (if x = 0 then (0 : BitVec 32) else if x.msb then -1 else 1)
      (if (64#32) = 0 then (0 : BitVec 32) else if (64#32).msb then -1 else 1))
      (IntOp.cmpi .ne (IntOp.remsi .host x 64#32) 0#32))
    (IntOp.subi (IntOp.divsi .host x 64#32) 1#32) (IntOp.divsi .host x 64#32)

/-- On the positions the rounded division is the division of naturals. -/
theorem floor64_eq : ∀ t : Fin 2048, floor64 (BitVec.ofNat 32 t) = BitVec.ofNat 32 (t / 64) := by
  decide +kernel

/-- The two block comparisons of the mask, on block numbers. -/
theorem blocks_eq : ∀ a b : Fin 32, IntOp.andi (IntOp.cmpi .sle (BitVec.ofNat 32 b) (BitVec.ofNat 32 a))
    (IntOp.cmpi .sge (BitVec.ofNat 32 b) (IntOp.subi (BitVec.ofNat 32 a) 8#32)) =
      if b.val ≤ a.val ∧ a.val ≤ b.val + 8 then 1#1 else 0#1 := by
  decide +kernel

/-- The block number of a query position. -/
theorem ref_v35 (i : Cert.AttnRefIdeal.S2048x1.Idx) : val_main_v35 (F := Ideal) i = floor64 (BitVec.ofNat 32 (i 0)) := by
  simp only [val_main_v35_apply, val_main_call1_v11_apply, val_main_call1_v13_apply, val_main_call1_v2_apply,
    val_main_call1_v12_apply, val_main_call1_c_0_apply, val_main_call1_v10_apply, val_main_call1_v9_apply, val_main_call1_c_apply,
    val_main_call1_v8_apply, val_main_call1_v7_apply, val_main_call1_v6_apply, val_main_call1_v5_apply, val_main_call1_v1_apply,
    val_main_call1_v0_apply, val_main_c_6_apply, val_main_v13_apply, val_main_v12_apply, val_main_call1_v3, val_main_call1_v4,
    signi]
  unfold floor64
  rfl

/-- The block number of a key position. -/
theorem ref_v36 (i : Cert.AttnRefIdeal.S1x2048.Idx) : val_main_v36 (F := Ideal) i = floor64 (BitVec.ofNat 32 (i 1)) := by
  simp only [val_main_v36_apply, val_main_call2_v11_apply, val_main_call2_v13_apply, val_main_call2_v2_apply,
    val_main_call2_v12_apply, val_main_call2_c_0_apply, val_main_call2_v10_apply, val_main_call2_v9_apply, val_main_call2_c_apply,
    val_main_call2_v8_apply, val_main_call2_v7_apply, val_main_call2_v6_apply, val_main_call2_v5_apply, val_main_call2_v1_apply,
    val_main_call2_v0_apply, val_main_c_7_apply, val_main_v15_apply, val_main_v14_apply, val_main_call2_v3, val_main_call2_v4,
    signi]
  unfold floor64
  rfl

/-- The mask of the reference keeps exactly the band. -/
theorem ref_mask (t J : Fin 2048) : val_main_v45 (F := Ideal) (ix2 t J) = if band t J then 1#1 else 0#1 := by
  simp only [val_main_v45_apply, val_main_v39_apply, val_main_v44_apply, val_main_v37_apply, val_main_v38_apply,
    val_main_v42_apply, val_main_v43_apply, val_main_v41_apply, val_main_v40_apply, val_main_c_8_apply, ref_v35, ref_v36]
  have ht : t.val / 64 < 32 := by omega
  have hJ : J.val / 64 < 32 := by omega
  refine Eq.trans ?_ (blocks_eq ⟨t.val / 64, ht⟩ ⟨J.val / 64, hJ⟩)
  simp only []
  rw [← floor64_eq t, ← floor64_eq J]
  rfl

/-- The column word the reference computes for a pair of positions. -/
theorem ref_col (i : Cert.AttnRefIdeal.S2048x2048.Idx) : val_main_v26 (F := Ideal) i =
    colWord (BitVec.ofNat 32 (i 0) - BitVec.ofNat 32 (i 1)) := by
  simp only [val_main_v26_apply, val_main_v23_apply, val_main_v25_apply, val_main_v21_apply, val_main_v19_apply,
    val_main_call0_v4_apply, val_main_call0_v3_apply, val_main_c_1_apply, val_main_call0_v2_apply, val_main_call0_v1_apply,
    val_main_call0_v0_apply, val_main_c_apply, val_main_v18_apply, val_main_v16_apply, val_main_v17_apply, val_main_v13_apply,
    val_main_v15_apply, val_main_v12_apply, val_main_v14_apply, val_main_v20_apply, val_main_c_2_apply, val_main_v22_apply,
    val_main_c_3_apply, val_main_v24_apply, val_main_c_4_apply]
  rfl

open Cert.AttnRefIdeal in
/-- The bias the reference adds for a head and a pair of positions. -/
theorem ref_bias (x2 : S16x513.Idx → EReal) (h : Fin 16) (t J : Fin 2048) :
    val_main_v28 (F := Ideal) x2 (ix3 h t J) = x2 (ix2 h (col (BitVec.ofNat 32 t - BitVec.ofNat 32 J))) := by
  unfold val_main_v28 Host.gather
  refine congrArg x2 (funext fun a => Fin.ext ?_)
  show GatherDims.start _ _ _ a + GatherDims.batchCoord _ _ a + GatherDims.offCoord _ _ a = _
  rw [GatherDims.batchCoord_eq_zero _ _ _ List.not_mem_nil]
  match a with
  | 0 =>
    unfold GatherDims.start
    rw [dif_neg (show ¬ (0 : Fin 2) ∈ gather_S16x513_S2048x2048x1_S16x2048x2048_0_1_n_n_1_2_161.startIndexMap by decide)]
    unfold GatherDims.offCoord
    rw [dif_pos (show (0 : Fin 2) ∈ gather_S16x513_S2048x2048x1_S16x2048x2048_0_1_n_n_1_2_161.sKept by decide)]
    simp only [Nat.zero_add, Nat.add_zero]
    rfl
  | 1 =>
    rw [GatherDims.offCoord_eq_zero _ _ _ (show ¬ (1 : Fin 2) ∈ gather_S16x513_S2048x2048x1_S16x2048x2048_0_1_n_n_1_2_161.sKept by decide)]
    unfold GatherDims.start
    rw [dif_pos (show (1 : Fin 2) ∈ gather_S16x513_S2048x2048x1_S16x2048x2048_0_1_n_n_1_2_161.startIndexMap by decide)]
    have hi : gather_S16x513_S2048x2048x1_S16x2048x2048_0_1_n_n_1_2_161.siIdx (ix3 h t J)
        ⟨List.idxOf (1 : Fin 2) gather_S16x513_S2048x2048x1_S16x2048x2048_0_1_n_n_1_2_161.startIndexMap,
          List.idxOf_lt_length_iff.2 (by decide)⟩ = ix3 t J (0 : Fin 1) := by
      funext b
      refine Fin.ext ?_
      match b with
      | ⟨0, _⟩ => rfl
      | ⟨1, _⟩ => rfl
      | ⟨2, _⟩ => rfl
    have hj : idx_main_v27 (ix3 t J (0 : Fin 1)) = ix2 t J := by
      funext b
      match b with
      | ⟨0, _⟩ => rfl
      | ⟨1, _⟩ => rfl
    have hv : val_main_v27 (F := Ideal) (ix3 t J (0 : Fin 1)) = colWord (BitVec.ofNat 32 t - BitVec.ofNat 32 J) := by
      rw [val_main_v27_apply, hj, ref_col]
      rfl
    simp only [Nat.add_zero]
    refine (congrArg (fun i => min (val_main_v27 (F := Ideal) i).toInt.toNat 512) hi).trans ?_
    simp only [hv]
    rfl

end Cert.AttnIdeal.Own
-- ==== Proof.RefAttn.lean ====
module

public import proofs.«01_k».proof.Proof.Ref

/-! The attention of the reference, read at one entry. -/

@[expose] public section

set_option maxRecDepth 16384

noncomputable section

namespace Cert.AttnIdeal.Own

open Idealize Idealize.ShloMosaic
open Cert.AttnRefIdeal Cert.AttnRefIdeal.Read

/-- Lane `d` of head `h`. -/
def ln (h : Fin 16) (d : Fin 64) : Fin 1024 := ⟨64 * h + d, by omega⟩

/-- Lane `d` of head `h` among the values. -/
def lnV (h : Fin 16) (d : Fin 64) : Fin 2048 := ⟨1024 + (64 * h + d), by omega⟩

variable (x0 : S4x2048x1024.Idx → EReal) (x1 : S4x2048x2048.Idx → EReal) (x2 : S16x513.Idx → EReal) (x3 : S1024.Idx → EReal)
  (b : Fin 4) (h : Fin 16) (t J : Fin 2048) (d : Fin 64)

/-- The heads are the lanes cut in runs of 64. -/
theorem heads_q : idx_main_v1 (ix4 b t h d) = ix3 b t (ln h d) := by
  funext a
  match a with
  | ⟨0, _⟩ => refine Fin.ext ?_; show (((b.val * 2048 + t.val) * 16 + h.val) * 64 + d.val) / 2097152 = b.val; omega
  | ⟨1, _⟩ => refine Fin.ext ?_; show (((b.val * 2048 + t.val) * 16 + h.val) * 64 + d.val) / 1024 % 2048 = t.val; omega
  | ⟨2, _⟩ => refine Fin.ext ?_; show (((b.val * 2048 + t.val) * 16 + h.val) * 64 + d.val) % 1024 = 64 * h.val + d.val; omega

/-- The factor of the queries. -/
def qFactor : EReal := Ideal.log (Ideal.ofBits .f32 0x40000000#32) * Ideal.ofBits .f32 0x41000000#32

/-- The scaled queries. -/
theorem ref_v5 : val_main_v5 (F := Ideal) x0 (ix4 b t h d) = x0 (ix3 b t (ln h d)) * qFactor := by
  rw [val_main_v5_apply, val_main_v1_apply, heads_q]
  simp only [val_main_v4_apply, val_main_v3_apply, val_main_v2_apply]
  rfl

/-- The keys. -/
theorem ref_v8 : val_main_v8 (F := Ideal) x1 (ix4 b J h d) = x1 (ix3 b J ⟨ln h d, by omega⟩) := by
  rw [val_main_v8_apply, val_main_v7_apply, val_main_v6_apply]
  refine congrArg x1 (funext fun a => ?_)
  have hh := heads_q b h J d
  match a with
  | ⟨0, _⟩ => exact Fin.ext (congrArg (fun i : S4x2048x1024.Idx => (i 0).val) hh)
  | ⟨1, _⟩ => exact Fin.ext (congrArg (fun i : S4x2048x1024.Idx => (i 1).val) hh)
  | ⟨2, _⟩ => exact Fin.ext (congrArg (fun i : S4x2048x1024.Idx => (i 2).val) hh)

/-- The values. -/
theorem ref_v11 : val_main_v11 (F := Ideal) x1 (ix4 b J h d) = x1 (ix3 b J (lnV h d)) := by
  rw [val_main_v11_apply, val_main_v10_apply, val_main_v9_apply]
  refine congrArg x1 (funext fun a => ?_)
  have hh := heads_q b h J d
  match a with
  | ⟨0, _⟩ => exact Fin.ext (congrArg (fun i : S4x2048x1024.Idx => (i 0).val) hh)
  | ⟨1, _⟩ => exact Fin.ext (congrArg (fun i : S4x2048x1024.Idx => (i 1).val) hh)
  | ⟨2, _⟩ => exact Fin.ext (congrArg (fun i : S4x2048x1024.Idx => 1024 + (i 2).val) hh)

/-- The score of the reference where its mask keeps the pair. -/
def refScore : EReal :=
  (∑ d : Fin 64, x0 (ix3 b t (ln h d)) * qFactor * x1 (ix3 b J ⟨ln h d, by omega⟩)) * Ideal.ofBits .f32 0x3E000000#32 +
    x2 (ix2 h (col (BitVec.ofNat 32 t - BitVec.ofNat 32 J)))

/-- The masked scores of the reference. -/
theorem ref_v46 : val_main_v46 (F := Ideal) x0 x1 x2 (ix4 b h t J) = if band t J then refScore x0 x1 x2 b h t J else ⊥ := by
  rw [val_main_v46_apply, val_main_call3_v1_apply]
  rw [show idx_main_call3_v1 (ix4 b h t J) = ix2 t J from funext fun a => match a with | ⟨0, _⟩ => rfl | ⟨1, _⟩ => rfl]
  rw [ref_mask, val_main_v34_apply, val_main_v31_apply, val_main_v29_apply, val_main_v33_apply, val_main_v32_apply]
  rw [show idx_main_v32 (idx_main_v33 (ix4 b h t J)) = ix3 h t J from
    funext fun a => match a with | ⟨0, _⟩ => rfl | ⟨1, _⟩ => rfl | ⟨2, _⟩ => rfl]
  rw [ref_bias]
  have hl : ∀ k : Fin 64, lidx_main_v29 (ix4 b h t J) k = ix4 b t h k := fun k =>
    funext fun a => match a with | ⟨0, _⟩ => rfl | ⟨1, _⟩ => rfl | ⟨2, _⟩ => rfl | ⟨3, _⟩ => rfl
  have hr : ∀ k : Fin 64, ridx_main_v29 (ix4 b h t J) k = ix4 b J h k := fun k =>
    funext fun a => match a with | ⟨0, _⟩ => rfl | ⟨1, _⟩ => rfl | ⟨2, _⟩ => rfl | ⟨3, _⟩ => rfl
  simp only [hl, hr, ref_v5, ref_v8, val_main_v30_apply, val_main_cst_5_apply, val_main_call3_v2_apply, val_main_call3_v0_apply,
    val_main_cst_9_apply]
  by_cases hb : band t J
  · rw [if_pos hb, if_pos hb]
    rfl
  · rw [if_neg hb, if_neg hb]
    exact ninf

/-- The row maximum of the reference. -/
theorem ref_v47 : val_main_v47 (F := Ideal) x0 x1 x2 (ix3 b h t) =
    Finset.univ.fold max ⊥ fun J : Fin 2048 => val_main_v46 (F := Ideal) x0 x1 x2 (ix4 b h t J) := by
  unfold val_main_v47
  refine (Host.reduce_eq_fold_single (α := EReal) max (val_main_v46 (F := Ideal) x0 x1 x2) (val_main_cst_10 (F := Ideal)) _
    (by decide) (by decide) _).trans ?_
  refine congrArg₂ (fun i f => Finset.univ.fold max i f) ninf (funext fun k => ?_)
  refine congrArg (val_main_v46 (F := Ideal) x0 x1 x2) (funext fun a => Fin.ext ?_)
  match a with
  | ⟨0, _⟩ => rfl
  | ⟨1, _⟩ => rfl
  | ⟨2, _⟩ => rfl
  | ⟨3, _⟩ => rfl

/-- The exponentials of the reference. -/
theorem ref_v53 : val_main_v53 (F := Ideal) x0 x1 x2 (ix4 b h t J) =
    Ideal.exp (val_main_v46 (F := Ideal) x0 x1 x2 (ix4 b h t J) -
      Finset.univ.fold max ⊥ fun J : Fin 2048 => val_main_v46 (F := Ideal) x0 x1 x2 (ix4 b h t J)) := by
  rw [val_main_v53_apply, val_main_v52_apply, val_main_v51_apply, val_main_v50_apply, val_main_v49_apply]
  rw [show idx_main_v50 (idx_main_v51 (ix4 b h t J)) = ix3 b h t from
    funext fun a => match a with | ⟨0, _⟩ => rfl | ⟨1, _⟩ => rfl | ⟨2, _⟩ => rfl]
  rw [ref_v47, val_main_v48_apply, val_main_cst_11_apply]
  show Ideal.exp (_ - max (Ideal.ofBits .f32 4286578688#32) _) = _
  rw [ninf, max_eq_right bot_le]

/-- The zero word is zero. -/
theorem zero_word : Ideal.ofBits .f32 0x00000000#32 = 0 := by simp [Ideal.ofBits, Ideal.ieee]

/-- One entry of the reference's weighted sum of the values. -/
theorem ref_v59 : val_main_v59 (F := Ideal) x0 x1 x2 (ix4 b t h d) =
    ∑ J : Fin 2048, x1 (ix3 b J (lnV h d)) * Ideal.div
      (Ideal.exp (val_main_v46 (F := Ideal) x0 x1 x2 (ix4 b h t J) -
        Finset.univ.fold max ⊥ fun J : Fin 2048 => val_main_v46 (F := Ideal) x0 x1 x2 (ix4 b h t J)))
      (∑ J : Fin 2048, Ideal.exp (val_main_v46 (F := Ideal) x0 x1 x2 (ix4 b h t J) -
        Finset.univ.fold max ⊥ fun J : Fin 2048 => val_main_v46 (F := Ideal) x0 x1 x2 (ix4 b h t J))) := by
  rw [val_main_v59_apply]
  rw [show idx_main_v59 (ix4 b t h d) = ix4 b h d t from
    funext fun a => match a with | ⟨0, _⟩ => rfl | ⟨1, _⟩ => rfl | ⟨2, _⟩ => rfl | ⟨3, _⟩ => rfl]
  rw [val_main_v58_apply]
  refine Finset.sum_congr rfl fun J _ => ?_
  rw [show lidx_main_v58 (ix4 b h d t) J = ix4 b J h d from
    funext fun a => match a with | ⟨0, _⟩ => rfl | ⟨1, _⟩ => rfl | ⟨2, _⟩ => rfl | ⟨3, _⟩ => rfl]
  rw [show ridx_main_v58 (ix4 b h d t) J = ix4 b h t J from
    funext fun a => match a with | ⟨0, _⟩ => rfl | ⟨1, _⟩ => rfl | ⟨2, _⟩ => rfl | ⟨3, _⟩ => rfl]
  rw [ref_v11, val_main_v57_apply, val_main_v56_apply, val_main_v55_apply, val_main_v54_apply, ref_v53]
  have hi : ∀ k : Fin 2048, idx_main_v54 (idx_main_v55 (idx_main_v56 (ix4 b h t J))) k = ix4 b h t k := fun k =>
    funext fun a => match a with | ⟨0, _⟩ => rfl | ⟨1, _⟩ => rfl | ⟨2, _⟩ => rfl | ⟨3, _⟩ => rfl
  simp only [hi, ref_v53, val_main_cst_12_apply]
  refine congrArg (fun z : EReal => x1 (ix3 b J (lnV h d)) * Ideal.div _ z) ?_
  refine (congrArg (fun z : EReal => z + _) zero_word).trans (zero_add _)

/-- One entry of the reference's result, from the weighted sums of its head. -/
theorem ref_v82 : val_main_v82 (F := Ideal) x0 x1 x2 x3 (ix3 b t (ln h d)) =
    val_main_v59 (F := Ideal) x0 x1 x2 (ix4 b t h d) *
      Ideal.rsqrt (Ideal.div (∑ d : Fin 64, val_main_v59 (F := Ideal) x0 x1 x2 (ix4 b t h d) * val_main_v59 (F := Ideal) x0 x1 x2 (ix4 b t h d))
        (Ideal.ofBits .f32 1115684864#32) + Ideal.ofBits .f32 925353388#32) * x3 (ix1 (ln h d)) := by
  rw [val_main_v82_apply, val_main_v74_apply]
  rw [show idx_main_v74 (ix3 b t (ln h d)) = ix4 b t h d from funext fun a => match a with
    | ⟨0, _⟩ => by refine Fin.ext ?_; show ((b.val * 2048 + t.val) * 1024 + (64 * h.val + d.val)) / 2097152 = b.val; omega
    | ⟨1, _⟩ => by refine Fin.ext ?_; show ((b.val * 2048 + t.val) * 1024 + (64 * h.val + d.val)) / 1024 % 2048 = t.val; omega
    | ⟨2, _⟩ => by refine Fin.ext ?_; show ((b.val * 2048 + t.val) * 1024 + (64 * h.val + d.val)) / 64 % 16 = h.val; omega
    | ⟨3, _⟩ => by refine Fin.ext ?_; show ((b.val * 2048 + t.val) * 1024 + (64 * h.val + d.val)) % 64 = d.val; omega]
  rw [val_main_v73_apply, val_main_v69_apply, val_main_v68_apply, val_main_v67_apply, val_main_v66_apply, val_main_v64_apply,
    val_main_v62_apply, val_main_v61_apply, val_main_v72_apply, val_main_v71_apply, val_main_v70_apply, val_main_v63_apply,
    val_main_v65_apply, val_main_cst_14_apply, val_main_cst_15_apply, val_main_cst_13_apply]
  have hi : ∀ k : Fin 64, idx_main_v61 (idx_main_v62 (idx_main_v68 (ix4 b t h d))) k = ix4 b t h k := fun k =>
    funext fun a => match a with | ⟨0, _⟩ => rfl | ⟨1, _⟩ => rfl | ⟨2, _⟩ => rfl | ⟨3, _⟩ => rfl
  have hg : idx_main_v70 (idx_main_v71 (idx_main_v72 (ix4 b t h d))) = ix1 (ln h d) := funext fun a => match a with
    | ⟨0, _⟩ => by refine Fin.ext ?_; show h.val * 64 + d.val = 64 * h.val + d.val; omega
  simp only [hi, hg, val_main_v60_apply]
  refine congrArg (fun z : EReal => _ * Ideal.rsqrt (Ideal.div z _ + _) * x3 (ix1 (ln h d))) ?_
  refine (congrArg (fun z : EReal => z + _) zero_word).trans (zero_add _)

end Cert.AttnIdeal.Own
-- ==== Proof.Cases.lean ====
module
public import proofs.«01_k».proof.Proof.Steps
/-!
# What a grid point leaves in the attention block

Both kinds of grid point, the one that builds the bias table and the one that finds it built, store the blocks of
`oPieces`; they differ in where the bias table is read from.
-/
@[expose] public section
set_option maxRecDepth 16384
noncomputable section
namespace Cert.AttnIdeal.Own
open Cert.AttnIdeal Cert.AttnIdeal.Gen Idealize.ShloMosaic Idealize.ShloMosaic.TcCoe Idealize.SL.Sem

variable (m : (ℓ : Loc nD τ sig) → Buf (Elt Ideal) ℓ) (c : Dev nD) (t : Fin cfg0.N)

/-- The loads from the staged queries, keys, values, and from the scratch holding the bias table. -/
def ldQ : Ld S1x2048x128 .bf16 := fun r => View.readAt (Elt Ideal) (ms0_0 t).view r ((hs0_0 t).unread (iblk m c 0 t))
@[inherit_doc ldQ]
def ldK : Ld S1x2048x128 .bf16 := fun r => View.readAt (Elt Ideal) (ms0_1 t).view r ((hs0_1 t).unread (iblk m c 1 t))
@[inherit_doc ldQ]
def ldV : Ld S1x2048x128 .bf16 := fun r => View.readAt (Elt Ideal) (ms0_2 t).view r ((hs0_2 t).unread (iblk m c 2 t))
@[inherit_doc ldQ]
def ldT (x : Vec Ideal S2x128x640 .bf16) : Ld S2x128x640 .bf16 := fun r =>
  View.readAt (Elt Ideal) scM0_4.view r ((Memref.isWhole_whole _ : scM0_4.IsWhole).unread x)

/-- The gain of the pair of heads. -/
def ldG : FVec Ideal S1x1x128 .f32 :=
  View.readAt (Elt Ideal) (ms0_4 t).view (Rect.unit (s := S1x1x128) ![0, 0, 0] S1x1x128.size inb_S1x1x128_S1x1x128_0_0_0).toLoadRect
    ((hs0_4 t).unread (iblk m c 4 t))

/-- The two bias tables a grid point of the first kind stores, from the two bias rows. -/
def tPieces : List (View.Piece (Elt Ideal) S2x128x640 .bf16) :=
  [⟨Rect.unit (s := S2x128x640) ![1, 0, 0] S1x128x640.size inb_S2x128x640_S1x128x640_1_0_0, k0_pay11 k0_pay2 (k0_pay4
      (View.readAt (Elt Ideal) (ms0_3 t).view (Rect.unit (s := S1x2x768) ![0, 1, 0] S1x1x768.size inb_S1x2x768_S1x1x768_0_1_0).toLoadRect
        ((hs0_3 t).unread (iblk m c 3 t))))⟩,
   ⟨Rect.unit (s := S2x128x640) ![0, 0, 0] S1x128x640.size inb_S2x128x640_S1x128x640_0_0_0, k0_pay3
      (View.readAt (Elt Ideal) (ms0_3 t).view (Rect.unit (s := S1x2x768) ![0, 0, 0] S1x1x768.size inb_S1x2x768_S1x1x768_0_0_0).toLoadRect
        ((hs0_3 t).unread (iblk m c 3 t)))⟩]

set_option maxHeartbeats 4000000 in
/-- A grid point of the second kind stores the blocks of `oPieces`, the bias table read from what the point before left. -/
theorem out_B (h : ¬ t.val % 4 = 0) : (outsAt0 m c t.val t.isLt).1 =
    View.canon (oPieces (ldQ m c t) (ldK m c t) (ldV m c t)
      (ldT (outsAt0 m c (t.val - 1) (Nat.lt_of_le_of_lt (Nat.sub_le _ _) t.isLt)).2.2.2.2) (ldG m c t)
      scM0_0 scM0_1 scM0_2 scM0_3 scM0_5 scM0_6 scM0_7 16 (by omega)) := by
  rw [outsAt0_B m c t h]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  exact congrArg View.canon (by with_unfolding_all rfl)

set_option maxHeartbeats 4000000 in
/-- A grid point of the first kind stores the blocks of `oPieces`, the bias table read from what it has just stored. -/
theorem out_A (h : t.val % 4 = 0) : (outsAt0 m c t.val t.isLt).1 =
    View.canon (oPieces (ldQ m c t) (ldK m c t) (ldV m c t) (fun r => scM0_4.view.readCov (tPieces m c t) r) (ldG m c t)
      scM0_0 scM0_1 scM0_2 scM0_3 scM0_5 scM0_6 scM0_7 16 (by omega)) := by
  rw [outsAt0_A m c t h]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  exact congrArg View.canon (by with_unfolding_all rfl)
end Cert.AttnIdeal.Own
end
-- ==== Proof.Tables.lean ====
module
public import proofs.«01_k».proof.Proof.Cases
public import proofs.«01_k».proof.Proof.Walk
public import Idealize.ShloMosaic.Lib.WholeRead
/-!
# The bias table across grid points, and the attention block of every grid point

The first grid point of a pair of heads builds the table from the pair's two bias rows; the other three find it built.
-/
@[expose] public section
set_option maxRecDepth 16384
noncomputable section
namespace Cert.AttnIdeal.Own
open Cert.AttnIdeal Cert.AttnIdeal.Gen Idealize.ShloMosaic Idealize.ShloMosaic.TcCoe Idealize.SL.Sem Idealize.ShloMosaic.Tactic

/-- The masking constant of the table is minus infinity. -/
theorem mask_bot : (Named.named (F := Ideal) κ "mask" (φ := .f32) 0xF149F2CA#32 : EReal) = ⊥ := rfl

/-- The table's mask, as a condition on the row and the key. -/
theorem pay2_apply (r : Fin 128) (key : Fin 640) : (k0_pay2 (ix2 r key)) = if lit r key then 1#1 else 0#1 := by
  have h1 : ∀ r : Fin 128, IntOp.cmpi .slt (BitVec.ofNat 32 r.val) 64#32 = if r.val < 64 then 1#1 else 0#1 := by decide
  have h2 : ∀ r : Fin 128, IntOp.cmpi .sge (BitVec.ofNat 32 r.val) 64#32 = if 64 ≤ r.val then 1#1 else 0#1 := by decide
  have h3 : ∀ k : Fin 640, IntOp.cmpi .slt (BitVec.ofNat 32 k.val) 576#32 = if k.val < 576 then 1#1 else 0#1 := by decide +kernel
  have h4 : ∀ k : Fin 640, IntOp.cmpi .sge (BitVec.ofNat 32 k.val) 64#32 = if 64 ≤ k.val then 1#1 else 0#1 := by decide +kernel
  pointwise! [k0_pay2]
  rw [h1, h2, h3, h4]
  have h5 : (64 ≤ r.val) ↔ ¬ r.val < 64 := by omega
  simp only [lit, h5]
  by_cases a : r.val < 64 <;> by_cases b : key.val < 576 <;> by_cases d : 64 ≤ key.val <;>
    simp only [a, b, d, if_true, if_false, true_and, false_and, and_true, and_false, or_true, or_false, false_or, true_or,
      not_true_eq_false, not_false_eq_true] <;> rfl

/-- The scale of the table, the logarithm of e to base two, is the reciprocal of the natural logarithm of two. -/
theorem scale_eq : (Named.named (F := Ideal) κ "log2e" (φ := .f32) 0x3FB8AA3B#32 : EReal) = (((Real.log 2)⁻¹ : ℝ) : EReal) := rfl

/-- A bias row in base-two scale, by number. -/
def rowAt (x : Vec Ideal S1x1x768 .f32) (u : ℕ) : EReal :=
  if h : u < 768 then x (ix3 0 0 ⟨u, h⟩) * (((Real.log 2)⁻¹ : ℝ) : EReal) else 0

/-- An entry of the padded, rolled and masked bias row. -/
theorem roll_entry (x : Vec Ideal S1x1x768 .f32) (r : Fin 128) (key : Fin 640) (b : ℕ)
    (hb : lit r key → b = key + 128 - r) (v : EReal) (hv : v = if h : b < 768 then x (ix3 0 0 ⟨b, h⟩) * (((Real.log 2)⁻¹ : ℝ) : EReal) else 0) :
    Scalar.select (if lit r key then 1#1 else 0#1) v (Named.named (F := Ideal) κ "mask" (φ := .f32) 0xF149F2CA#32) =
      if lit r key then rowAt x (key + 128 - r) else ⊥ := by
  rw [mask_bot]
  by_cases h : lit r key
  · rw [if_pos h, if_pos h, hv, hb h]; rfl
  · rw [if_neg h, if_neg h]; rfl

/-- The lane a rolled row shows at a key the band admits. -/
theorem roll_at (r : Fin 128) (key : Fin 640) (h : lit r key) : (key.val + 1024 - (896 + r.val) % 1024) % 1024 = key + 128 - r := by
  unfold lit at h; omega

/-- The first table. -/
theorem pay3_apply (x : Vec Ideal S1x1x768 .f32) (r : Fin 128) (key : Fin 640) :
    k0_pay3 (F := Ideal) x (ix3 0 r key) = if lit r key then rowAt x (key + 128 - r) else ⊥ := by
  pointwise [k0_pay3]
  rw [pay2_apply, scale_eq]
  exact roll_entry x r key _ (roll_at r key) _ rfl

/-- The second table. -/
theorem pay4_apply (x : Vec Ideal S1x1x768 .f32) (r : Fin 128) (key : Fin 640) :
    k0_pay11 k0_pay2 (k0_pay4 (F := Ideal) x) (ix3 0 r key) = if lit r key then rowAt x (key + 128 - r) else ⊥ := by
  pointwise [k0_pay11, k0_pay4]
  rw [pay2_apply, scale_eq]
  exact roll_entry x r key _ (roll_at r key) _ rfl

variable (m : (ℓ : Loc nD τ sig) → Buf (Elt Ideal) ℓ) (c : Dev nD) (t : Fin cfg0.N)

/-- The bias of a head of the pair at an offset in base-two scale, from the staged rows. -/
def bias (g u : ℕ) : EReal :=
  if h : g < 2 ∧ u < 768 then (show EReal from iblk m c 3 t (ix3 0 ⟨g, h.1⟩ ⟨u, h.2⟩)) * (((Real.log 2)⁻¹ : ℝ) : EReal) else 0

/-- The table the stored pieces make. -/
def tab (y : S2x128x640.Idx) : EReal := if lit (y 1) (y 2) then bias m c t (y 0) ((y 2).val + 128 - (y 1).val) else ⊥

/-- The loads of the queries read the staged queries. -/
theorem ldQ_reads : Reads (ldQ m c t) (iblk m c 0 t) := fun r j => (hs0_0 t).readAt_unread _ r j
/-- The loads of the keys read the staged keys. -/
theorem ldK_reads : Reads (ldK m c t) (iblk m c 1 t) := fun r j => (hs0_1 t).readAt_unread _ r j
/-- The loads of the values read the staged values. -/
theorem ldV_reads : Reads (ldV m c t) (iblk m c 2 t) := fun r j => (hs0_2 t).readAt_unread _ r j
/-- The loads of the bias tables read what the scratch holds. -/
theorem ldT_reads (x : Vec Ideal S2x128x640 .bf16) : Reads (ldT x) x :=
  fun r j => (Memref.isWhole_whole _ : scM0_4.IsWhole).readAt_unread _ r j

/-- A staged bias row, read through its rectangle. -/
theorem rowAt_bias (g : ℕ) (hg : g < 2) (hin : ∀ a, (![0, g, 0] : Fin 3 → ℕ) a + S1x1x768.size a ≤ S1x2x768.size a) (u : ℕ) :
    rowAt (View.readAt (Elt Ideal) (ms0_3 t).view (Rect.unit (s := S1x2x768) ![0, g, 0] S1x1x768.size hin).toLoadRect
      ((hs0_3 t).unread (iblk m c 3 t))) u = bias m c t g u := by
  unfold rowAt bias
  by_cases h : u < 768
  · rw [dif_pos h, dif_pos ⟨hg, h⟩]
    refine congrArg (fun a : EReal => a * _) (((hs0_3 t).readAt_unread _ _ _).trans (congrArg (iblk m c 3 t) ?_))
    funext a
    fin_cases a <;> refine Fin.ext ?_ <;> simp [LoadRect.idx, ix3]
  · rw [dif_neg h, dif_neg (fun h' => h h'.2)]

/-- Each stored piece is its head's table. -/
theorem tPieces_part : ∀ p ∈ tPieces m c t, ∀ x : p.1.shape.Idx, p.2 x = tab m c t (p.1.emb x) := by
  have hx (x : S1x128x640.Idx) : ∃ (r : Fin 128) (k : Fin 640), x = ix3 0 r k :=
    ⟨x 1, x 2, by funext a; fin_cases a <;> first | rfl | (refine Fin.ext ?_; have : (x 0).val < 1 := (x 0).isLt; show (x 0).val = 0; omega)⟩
  intro p hp
  simp only [tPieces, List.mem_cons, List.not_mem_nil, or_false] at hp
  rcases hp with rfl | rfl
  · intro x
    obtain ⟨r, k, rfl⟩ := hx x
    refine (pay4_apply _ r k).trans ?_
    have e : (Rect.unit (s := S2x128x640) ![1, 0, 0] S1x128x640.size inb_S2x128x640_S1x128x640_1_0_0).emb (ix3 0 r k) = ix3 1 r k := by
      funext a
      fin_cases a <;> refine Fin.ext ?_
      · rfl
      · show 0 + 1 * r.val = r.val; omega
      · show 0 + 1 * k.val = k.val; omega
    rw [rowAt_bias m c t 1 (by omega), e]
    rfl
  · intro x
    obtain ⟨r, k, rfl⟩ := hx x
    refine (pay3_apply _ r k).trans ?_
    have e : (Rect.unit (s := S2x128x640) ![0, 0, 0] S1x128x640.size inb_S2x128x640_S1x128x640_0_0_0).emb (ix3 0 r k) = ix3 0 r k := by
      funext a
      fin_cases a <;> refine Fin.ext ?_
      · rfl
      · show 0 + 1 * r.val = r.val; omega
      · show 0 + 1 * k.val = k.val; omega
    rw [rowAt_bias m c t 0 (by omega), e]
    rfl

/-- The two stored tables cover the scratch. -/
theorem tPieces_cover (y : S2x128x640.Idx) : ∃ p ∈ tPieces m c t, y ∈ p.1.set := by
  have h1 : (y 1).val < 128 := (y 1).isLt
  have h2 : (y 2).val < 640 := (y 2).isLt
  have h0 : (y 0).val < 2 := (y 0).isLt
  by_cases h : (y 0).val = 0
  · refine ⟨_, List.mem_cons_of_mem _ List.mem_cons_self, ?_⟩
    simp only [Rect.mem_set_unit]
    intro a
    fin_cases a <;> simp at * <;> omega
  · refine ⟨_, List.mem_cons_self, ?_⟩
    simp only [Rect.mem_set_unit]
    intro a
    fin_cases a <;> simp at * <;> omega

/-- The scratch holds the tables once both are stored. -/
theorem tPieces_canon : View.canon (tPieces m c t) = tab m c t :=
  funext fun y => View.canon_apply_of_pieces (tab m c t) _ (tPieces_part m c t) y (tPieces_cover m c t y)

/-- What the scratch holds is a bias table of the pair of heads. -/
theorem tab_table : Table (tab m c t) (bias m c t) := fun _ _ _ => rfl

/-- The loads after the stores read the tables just stored. -/
theorem tA_reads : Reads (fun r => scM0_4.view.readCov (tPieces m c t) r) (tab m c t) := fun r j => by
  show scM0_4.view.readCov (tPieces m c t) r j = _
  rw [View.readCov_eq_canon', tPieces_canon]

/-- Which block of its array each operand's window stages at a grid point. -/
theorem idx : ∀ t : Fin cfg0.N, win0_0.index t = ![t.val % 4, 0, t.val / 4] ∧ win0_1.index t = ![t.val % 4, 0, t.val / 4] ∧
    win0_2.index t = ![t.val % 4, 0, 8 + t.val / 4] ∧ win0_3.index t = ![t.val / 4, 0, 0] ∧ win0_4.index t = ![t.val / 4, 0, 0] ∧
    win0_5.index t = ![t.val, 0] ∧ win0_6.index t = ![t.val, 0] ∧ win0_7.index t = ![0, 0] ∧ win0_8.index t = ![0, 16 + t.val] ∧
    win0_9.index t = ![0, 16 + t.val] :=
  (by decide +kernel : ∀ t : Fin grid0.N, _)

/-- There are 32 grid points. -/
theorem t32 : t.val < 32 := lt_of_lt_of_eq t.isLt (show cfg0.N = 32 from N_0)

/-- The staged queries are rows of the query array. -/
theorem blkQ (r : Fin 2048) (l : Fin 128) : iblk m c 0 t (ix3 0 r l) =
    m ((c : Thread nD τ).loc main_arg0) (ix3 ⟨t.val % 4, by omega⟩ r ⟨128 * (t.val / 4) + l, by have := t32 t; omega⟩) := by
  blk_ext [iblk, V, idx t]
/-- The staged keys are rows of the left half of the key-value array. -/
theorem blkK (r : Fin 2048) (l : Fin 128) : iblk m c 1 t (ix3 0 r l) =
    m ((c : Thread nD τ).loc main_arg1) (ix3 ⟨t.val % 4, by omega⟩ r ⟨128 * (t.val / 4) + l, by have := t32 t; omega⟩) := by
  blk_ext [iblk, V, idx t]
/-- The staged values are rows of its right half. -/
theorem blkV (r : Fin 2048) (l : Fin 128) : iblk m c 2 t (ix3 0 r l) =
    m ((c : Thread nD τ).loc main_arg1) (ix3 ⟨t.val % 4, by omega⟩ r ⟨1024 + 128 * (t.val / 4) + l, by have := t32 t; omega⟩) := by
  blk_ext [iblk, V, idx t]
/-- The staged bias rows are those of the pair of heads. -/
theorem blkB (g : Fin 2) (u : Fin 768) : iblk m c 3 t (ix3 0 g u) =
    V m c main_v15 (ix3 ⟨t.val / 4, by have := t32 t; omega⟩ g u) := by
  blk_ext [iblk, idx t]
/-- The staged gain is that of the pair of heads. -/
theorem blkG (l : Fin 128) : iblk m c 4 t (ix3 0 0 l) =
    V m c main_v16 (ix3 ⟨t.val / 4, by have := t32 t; omega⟩ 0 l) := by
  blk_ext [iblk, idx t]

/-- The bias rows staged depend only on the pair of heads. -/
theorem bias_congr (t t' : Fin cfg0.N) (h : t.val / 4 = t'.val / 4) : bias m c t = bias m c t' := by
  funext g u
  unfold bias
  split_ifs with hgu
  · refine congrArg (fun a : EReal => a * _) ?_
    rw [blkB, blkB]
    simp only [h]
  · rfl

/-- The table of a pair of heads is what the first grid point of the pair leaves in the scratch. -/
theorem scratch_A (h : t.val % 4 = 0) : (outsAt0 m c t.val t.isLt).2.2.2.2 = tab m c t := by
  rw [outsAt0_A m c t h]
  dsimp only
  unfold sout0_A_4
  rw [View.read_writes_eq_canon _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  exact (congrArg View.canon (by with_unfolding_all rfl)).trans (tPieces_canon m c t)

/-- The other grid points leave the scratch alone. -/
theorem scratch_B (h : ¬ t.val % 4 = 0) : (outsAt0 m c t.val t.isLt).2.2.2.2 =
    (outsAt0 m c (t.val - 1) (Nat.lt_of_le_of_lt (Nat.sub_le _ _) t.isLt)).2.2.2.2 := by
  rw [outsAt0_B m c t h]
  rfl

/-- After every grid point the scratch holds the table of the point's pair of heads. -/
theorem scratch_eq (n : ℕ) (h : n < cfg0.N) : (outsAt0 m c n h).2.2.2.2 = tab m c ⟨n, h⟩ := by
  induction n with
  | zero => exact scratch_A m c ⟨0, h⟩ rfl
  | succ n ih =>
    by_cases h4 : (n + 1) % 4 = 0
    · exact scratch_A m c ⟨n + 1, h⟩ h4
    · refine (scratch_B m c ⟨n + 1, h⟩ h4).trans ((ih (by omega)).trans ?_)
      unfold tab
      rw [bias_congr m c ⟨n, by omega⟩ ⟨n + 1, h⟩ (show n / 4 = (n + 1) / 4 by omega)]

/-- The attention block every grid point leaves. -/
theorem out_eq (y : S1x2048x128.Idx) : (outsAt0 m c t.val t.isLt).1 y =
    outAt (iblk m c 0 t) (iblk m c 1 t) (iblk m c 2 t) (bias m c t) (ldG m c t) (y 1) (y 2) := by
  by_cases h : t.val % 4 = 0
  · rw [out_A m c t h]
    exact oPieces_canon (ldQ_reads m c t) (ldK_reads m c t) (ldV_reads m c t) (tA_reads m c t) (tab_table m c t) _ _ _ _ _ _ _ y
  · rw [out_B m c t h, scratch_eq m c]
    refine oPieces_canon (ldQ_reads m c t) (ldK_reads m c t) (ldV_reads m c t) (ldT_reads _) ?_ _ _ _ _ _ _ _ y
    rw [← bias_congr m c ⟨t.val - 1, by omega⟩ t (show (t.val - 1) / 4 = t.val / 4 by omega)]
    exact tab_table m c _

/-- The gain loaded, lane by lane. -/
theorem ldG_apply (l : Fin 128) : ldG m c t (ix3 0 0 l) = V m c main_v16 (ix3 ⟨t.val / 4, by have := t32 t; omega⟩ 0 l) := by
  rw [← blkG]
  refine ((hs0_4 t).readAt_unread _ _ _).trans (congrArg (iblk m c 4 t) ?_)
  funext a
  fin_cases a <;> refine Fin.ext ?_ <;> simp [LoadRect.idx, ix3]

end Cert.AttnIdeal.Own
end
-- ==== Proof.HostOps.lean ====
module

public import proofs.«01_k».proof.Proof.Ref
public import proofs.«01_k».proof.Proof.Tables

/-! The operands the host of the kernel program builds: the bias rows and the gain. -/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic

variable (m : (ℓ : Loc nD τ sig) → Buf (Elt Ideal) ℓ) (c : Dev nD) (t : Fin cfg0.N)

/-- Rows of the table taken at the columns a list of words names, regrouped by pairs of heads. -/
theorem gather_rows (x : S16x513.Idx → EReal) (idx : IVec S768 32) (hb : S768.BroadcastsInDim S768x1 ![0])
    (hs : S16x768.ShapeCasts S8x2x768) (p : Fin 8) (g : Fin 2) (u : Fin 768) :
    shapeCast S8x2x768 (Host.gather gather_S16x513_S768x1_S16x768_0_1_n_n_1_1_161 x (broadcastInDim S768x1 ![0] hb idx)) hs (ix3 p g u) =
      x (ix2 ⟨2 * p + g, by omega⟩ ⟨min (idx (ix1 u)).toInt.toNat 512, by omega⟩) := by
  rw [shapeCast_apply _ hs (ix3 p g u) (ix2 (⟨2 * p + g, by omega⟩ : Fin 16) u) (by
    rw [Shape.rowMajor_val_two, Shape.rowMajor_val_three]
    show (2 * p.val + g.val) * 768 + u.val = (p.val * 2 + g.val) * 768 + u.val
    omega)]
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  match a with
  | 0 =>
    unfold GatherDims.start
    rw [dif_neg (show ¬ (0 : Fin 2) ∈ gather_S16x513_S768x1_S16x768_0_1_n_n_1_1_161.startIndexMap by decide)]
    unfold GatherDims.offCoord
    rw [dif_pos (show (0 : Fin 2) ∈ gather_S16x513_S768x1_S16x768_0_1_n_n_1_1_161.sKept by decide)]
    simp only [Nat.zero_add, Nat.add_zero]
    rfl
  | 1 =>
    rw [GatherDims.offCoord_eq_zero _ _ _ (show ¬ (1 : Fin 2) ∈ gather_S16x513_S768x1_S16x768_0_1_n_n_1_1_161.sKept by decide)]
    unfold GatherDims.start
    rw [dif_pos (show (1 : Fin 2) ∈ gather_S16x513_S768x1_S16x768_0_1_n_n_1_1_161.startIndexMap by decide)]
    have hi : gather_S16x513_S768x1_S16x768_0_1_n_n_1_1_161.siIdx (ix2 (⟨2 * p + g, by omega⟩ : Fin 16) u)
        ⟨List.idxOf (1 : Fin 2) gather_S16x513_S768x1_S16x768_0_1_n_n_1_1_161.startIndexMap,
          List.idxOf_lt_length_iff.2 (by decide)⟩ = ix2 u (0 : Fin 1) := by
      funext b
      refine Fin.ext ?_
      match b with
      | ⟨0, _⟩ => rfl
      | ⟨1, _⟩ => rfl
    have hv : broadcastInDim S768x1 ![0] hb idx (ix2 u (0 : Fin 1)) = idx (ix1 u) :=
      broadcastInDim_apply _ hb idx _ _ fun a => match a with | ⟨0, _⟩ => rfl
    revert hv
    generalize broadcastInDim S768x1 ![0] hb idx = B
    intro hv
    simp only [Nat.add_zero]
    refine (congrArg (fun i => min (B i).toInt.toNat 512) hi).trans ?_
    simp only [hv]
    rfl

/-- Two equal words name the same entry of the table. -/
theorem entry_congr (x : S16x513.Idx → EReal) (h : Fin 16) {w : BitVec 32} {z : BitVec 32} (e : w = colWord z) :
    x (ix2 h ⟨min w.toInt.toNat 512, by omega⟩) = x (ix2 h (col z)) := by
  subst e
  rfl

/-- The bias row of a head: the table's entries by distance. -/
theorem hostBias (p : Fin 8) (g : Fin 2) (u : Fin 768) : V m c main_v15 (ix3 p g u) =
    m ((c : Thread nD τ).loc main_arg2) (ix2 ⟨2 * p + g, by omega⟩ (col (640#32 - BitVec.ofNat 32 u))) := by
  simp only [V, hostOps0, hostOps0_1, hostOps0_2, hostOps0_3, hostOps0_4, List.flatten_cons, List.flatten_nil, List.append_nil,
    List.cons_append, List.nil_append]
  entry_read
  refine (gather_rows _ _ _ _ p g u).trans ?_
  refine entry_congr _ _ ?_
  simp only [StableHlo.TRef.ofBuf_toBuf]
  simp only [StableHlo.TRef.ofBuf, StableHlo.TRef.toBuf, StableHlo.TRef.of, cast_eq, eqRec_eq_cast]
  pointwise
  unfold colWord
  rfl

/-- The gain of a pair of heads. -/
theorem hostGain (p : Fin 8) (l : Fin 128) : V m c main_v16 (ix3 p 0 l) =
    m ((c : Thread nD τ).loc main_arg3) (ix1 ⟨128 * p + l, by omega⟩) := by
  simp only [V, hostOps0, hostOps0_1, hostOps0_2, hostOps0_3, hostOps0_4, List.flatten_cons, List.flatten_nil, List.append_nil,
    List.cons_append, List.nil_append]
  entry_read
  pointwise
  refine congrArg (m ((c : Thread nD τ).loc main_arg3)) (funext fun a => ?_)
  match a with
  | ⟨0, _⟩ => exact Fin.ext (congrArg (· + l.val) (Nat.mul_comm _ _))

end Cert.AttnIdeal.Own
-- ==== Proof.Equal.lean ====
module

public import proofs.«01_k».proof.Proof.RefAttn
public import proofs.«01_k».proof.Proof.HostOps

/-! The attention of the kernel is the attention of the reference, on finite queries, keys and biases. -/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic
open Cert.AttnRefIdeal.Read

/-- A sum over the lanes of one head. -/
theorem sum_lane (F : Fin 128 → EReal) (g : Fin 2) : ∑ l, F l * lane g l = ∑ d : Fin 64, F ⟨64 * g + d, by omega⟩ := by
  have low : ∀ d : Fin 64, d.val / 64 = 0 := fun d => by omega
  have high : ∀ d : Fin 64, (64 + d.val) / 64 = 1 := fun d => by omega
  rw [split64]
  simp only [lane, low, high]
  fin_cases g <;> simp

/-- Scores and columns that agree on the keys give the same weighted sum. -/
theorem full_congr {σ σ' v v' : ℕ → EReal} (h : ∀ J : Fin 2048, σ J = σ' J) (h' : ∀ J : Fin 2048, v J = v' J) :
    full σ v = full σ' v' := by
  unfold full
  rw [show (fun J : Fin 2048 => σ J) = fun J : Fin 2048 => σ' J from funext h,
    show (fun J : Fin 2048 => v J) = fun J : Fin 2048 => v' J from funext h']

/-- A zero column gives zero. -/
theorem full_zero (σ : ℕ → EReal) : full σ (fun _ => 0) = 0 := by
  unfold full head
  simp

/-- At a lane where only one head's column is not zero, the two sums are that head's. -/
theorem both_one (XQ XK XV : FVec Ideal S1x2048x128 .bf16) (β : ℕ → ℕ → EReal) (t : ℕ) (l : Fin 256) (g : Fin 2) (v : ℕ → EReal)
    (h : ∀ g' : Fin 2, ∀ J : Fin 2048, vcol XV g' l J = if g' = g then v J else 0) :
    both XQ XK XV β t l = full (scr XQ XK β g t) v := by
  have h0 : ∀ J : Fin 2048, vcol XV 0 l J = if (0 : Fin 2) = g then v J else 0 := h 0
  have h1 : ∀ J : Fin 2048, vcol XV 1 l J = if (1 : Fin 2) = g then v J else 0 := h 1
  unfold both
  fin_cases g
  · rw [full_congr (v' := v) (fun _ => rfl) fun J => (h0 J).trans (if_pos rfl),
      full_congr (σ := scr XQ XK β 1 t) (v' := fun _ => 0) (fun _ => rfl) fun J => (h1 J).trans (if_neg (by decide)), full_zero, add_zero]
  · rw [full_congr (v' := fun _ => 0) (fun _ => rfl) fun J => (h0 J).trans (if_neg (by decide)), full_zero,
      full_congr (v' := v) (fun _ => rfl) fun J => (h1 J).trans (if_pos rfl), zero_add]

/-- The attention at a lane of head `g`, from that head's scores alone. -/
theorem att_head (XQ XK XV : FVec Ideal S1x2048x128 .bf16) (β : ℕ → ℕ → EReal) (t : ℕ) (g : Fin 2) (d : Fin 64) :
    att XQ XK XV β t ⟨64 * g + d, by omega⟩ =
      full (scr XQ XK β g t) (fun J => row XV J ⟨64 * g + d, by omega⟩) * Ideal.div 1 (full (scr XQ XK β g t) fun _ => 1) := by
  have hd : ∀ g' : Fin 2, ((64 * g.val + d.val) / 64 = g'.val) ↔ g' = g := fun g' => by
    rw [Fin.ext_iff]; omega
  have hl : 64 * g.val + d.val < 128 := by omega
  unfold att
  rw [both_one XQ XK XV β t _ g (fun J => row XV J ⟨64 * g + d, by omega⟩) fun g' J => by
      unfold vcol
      rw [dif_pos hl]
      unfold lane
      simp only [hd g']
      split_ifs <;> simp,
    both_one XQ XK XV β t _ g (fun _ => 1) fun g' J => by
      unfold vcol
      rw [dif_neg (show ¬ 128 + (64 * g.val + d.val) < 128 by omega)]
      unfold lane
      simp only [Nat.add_sub_cancel_left, hd g']]

/-- The factor of the queries is eight times the logarithm of two. -/
theorem qFactor_eq : qFactor = ((Real.log 2 * 8 : ℝ) : EReal) := by
  have h2 : Ideal.ofBits .f32 0x40000000#32 = ((2 : ℝ) : EReal) := by
    simp [Ideal.ofBits, Ideal.ieee]
    rw [← EReal.coe_mul]
    norm_num
  have h8 : Ideal.ofBits .f32 0x41000000#32 = ((8 : ℝ) : EReal) := by
    simp [Ideal.ofBits, Ideal.ieee]
    rw [← EReal.coe_mul]
    norm_num
  unfold qFactor
  rw [h2, h8, Ideal.log_coe, if_neg (by norm_num), ← EReal.coe_mul]

/-- The scale of the reference's scores is an eighth. -/
theorem eighth : Ideal.ofBits .f32 0x3E000000#32 = ((1 / 8 : ℝ) : EReal) := by
  simp [Ideal.ofBits, Ideal.ieee]
  rw [← EReal.coe_mul]
  norm_num

/-- The score of a pair of positions in base-two scale, over the reals. -/
def realScore (q : S4x2048x1024.Idx → ℝ) (k : Fin 4 → Fin 2048 → Fin 1024 → ℝ) (r : S16x513.Idx → ℝ) (b : Fin 4) (h : Fin 16) (t J : Fin 2048) : ℝ :=
  ∑ d : Fin 64, q (ix3 b t (ln h d)) * k b J (ln h d) + r (ix2 h (col (BitVec.ofNat 32 t - BitVec.ofNat 32 J))) * (Real.log 2)⁻¹

/-- The same over naturals, zero past the keys. -/
def natScore (q : S4x2048x1024.Idx → ℝ) (k : Fin 4 → Fin 2048 → Fin 1024 → ℝ) (r : S16x513.Idx → ℝ) (b : Fin 4) (h : Fin 16) (t : Fin 2048) (J : ℕ) : ℝ :=
  if hJ : J < 2048 then realScore q k r b h t ⟨J, hJ⟩ else 0

/-- On a key the two are the same. -/
theorem natScore_eq (q : S4x2048x1024.Idx → ℝ) (k : Fin 4 → Fin 2048 → Fin 1024 → ℝ) (r : S16x513.Idx → ℝ) (b : Fin 4) (h : Fin 16) (t J : Fin 2048) :
    natScore q k r b h t J = realScore q k r b h t J := dif_pos J.isLt

/-- The reference's score is the logarithm of two times the real score. -/
theorem refScore_eq (x0 : S4x2048x1024.Idx → EReal) (x1 : S4x2048x2048.Idx → EReal) (x2 : S16x513.Idx → EReal)
    (q : S4x2048x1024.Idx → ℝ) (k : Fin 4 → Fin 2048 → Fin 1024 → ℝ) (r : S16x513.Idx → ℝ)
    (hq : ∀ i, x0 i = (q i : EReal)) (hk : ∀ b J l, x1 (ix3 b J ⟨(l : Fin 1024), by omega⟩) = (k b J l : EReal))
    (hr : ∀ i, x2 i = (r i : EReal)) (b : Fin 4) (h : Fin 16) (t J : Fin 2048) :
    refScore x0 x1 x2 b h t J = ((Real.log 2 * realScore q k r b h t J : ℝ) : EReal) := by
  have hL : Real.log 2 ≠ 0 := (Real.log_pos (by norm_num)).ne'
  unfold refScore
  simp only [hq, hk, hr, qFactor_eq, eighth, ← EReal.coe_mul]
  rw [coe_sum, ← EReal.coe_mul, ← EReal.coe_add]
  refine congrArg _ ?_
  unfold realScore
  rw [mul_add, mul_comm (r _), mul_inv_cancel_left₀ hL, Finset.sum_mul, Finset.mul_sum]
  refine congrArg (· + _) (Finset.sum_congr rfl fun d _ => ?_)
  ring

variable (m : (ℓ : Loc nD τ sig) → Buf (Elt Ideal) ℓ) (c : Dev nD) (t : Fin cfg0.N)

/-- The batch entry of a grid point. -/
def ptB : Fin 4 := ⟨t.val % 4, by omega⟩
/-- A head of the pair of a grid point. -/
def ptH (g : Fin 2) : Fin 16 := ⟨2 * (t.val / 4) + g, by have := t32 t; omega⟩

/-- The bias of a grid point at a distance is the table's entry in base-two scale. -/
theorem bias_eq (g : Fin 2) (T J : Fin 2048) (hb : band T J) :
    bias m c t g (J.val + 640 - T.val) = (show EReal from m ((c : Thread nD τ).loc main_arg2) (ix2 (ptH t g) (col (BitVec.ofNat 32 T - BitVec.ofNat 32 J)))) *
      (((Real.log 2)⁻¹ : ℝ) : EReal) := by
  unfold band at hb
  have hu : J.val + 640 - T.val < 768 := by omega
  unfold bias
  rw [dif_pos ⟨g.isLt, hu⟩]
  refine congrArg (fun z : EReal => z * (((Real.log 2)⁻¹ : ℝ) : EReal)) ?_
  refine (blkB m c t g ⟨J.val + 640 - T.val, hu⟩).trans ((hostBias m c _ _ _).trans ?_)
  have hw : 640#32 - BitVec.ofNat 32 (J.val + 640 - T.val) = BitVec.ofNat 32 T.val - BitVec.ofNat 32 J.val := by
    apply BitVec.eq_of_toNat_eq
    simp only [BitVec.toNat_sub, BitVec.toNat_ofNat]
    omega
  show m ((c : Thread nD τ).loc main_arg2) (ix2 _ (col (640#32 - BitVec.ofNat 32 (J.val + 640 - T.val)))) = _
  rw [hw]
  rfl

/-- The kernel's scores of a head are the banded real scores. -/
theorem scr_eq (q : S4x2048x1024.Idx → ℝ) (k : Fin 4 → Fin 2048 → Fin 1024 → ℝ) (r : S16x513.Idx → ℝ)
    (hq : ∀ i, m ((c : Thread nD τ).loc main_arg0) i = (q i : EReal))
    (hk : ∀ b J l, m ((c : Thread nD τ).loc main_arg1) (ix3 b J ⟨(l : Fin 1024), by omega⟩) = (k b J l : EReal))
    (hr : ∀ i, m ((c : Thread nD τ).loc main_arg2) i = (r i : EReal)) (g : Fin 2) (T J : Fin 2048) :
    scr (iblk m c 0 t) (iblk m c 1 t) (bias m c t) g T J = banded (band T) (natScore q k r (ptB t) (ptH t g) T) J := by
  by_cases hb : band T J
  · unfold banded
    rw [if_pos hb, natScore_eq]
    unfold scr
    rw [if_pos hb, bias_eq m c t g T J hb]
    simp only [← mul_assoc]
    rw [sum_lane (fun l => row (iblk m c 0 t) T l * row (iblk m c 1 t) J l) g]
    have hm : ∀ d : Fin 64, row (iblk m c 0 t) T ⟨64 * g + d, by omega⟩ * row (iblk m c 1 t) J ⟨64 * g + d, by omega⟩ =
        ((q (ix3 (ptB t) T (ln (ptH t g) d)) * k (ptB t) J (ln (ptH t g) d) : ℝ) : EReal) := fun d => by
      have hl : 128 * (t.val / 4) + (64 * g.val + d.val) = (ln (ptH t g) d).val := by
        show _ = 64 * (2 * (t.val / 4) + g.val) + d.val
        omega
      rw [← row_eq _ T T.isLt, ← row_eq _ J J.isLt, EReal.coe_mul, ← hq, ← hk]
      refine congrArg₂ (fun a b : EReal => a * b) ((blkQ m c t _ _).trans ?_) ((blkK m c t _ _).trans ?_)
      · refine congrArg (m ((c : Thread nD τ).loc main_arg0)) (funext fun a => ?_)
        match a with
        | ⟨0, _⟩ => rfl
        | ⟨1, _⟩ => rfl
        | ⟨2, _⟩ => exact Fin.ext hl
      · refine congrArg (m ((c : Thread nD τ).loc main_arg1)) (funext fun a => ?_)
        match a with
        | ⟨0, _⟩ => rfl
        | ⟨1, _⟩ => rfl
        | ⟨2, _⟩ => exact Fin.ext hl
    simp only [hm]
    rw [coe_sum]
    unfold realScore
    rw [EReal.coe_add, EReal.coe_mul]
    refine congrArg (fun z : EReal => _ + z * _) (hr _)
  · rw [scr_out _ _ _ _ _ _ hb]
    exact (if_neg hb).symm

/-- The attention of a grid point is the reference's. -/
theorem att_eq (q : S4x2048x1024.Idx → ℝ) (k : Fin 4 → Fin 2048 → Fin 1024 → ℝ) (r : S16x513.Idx → ℝ)
    (hq : ∀ i, m ((c : Thread nD τ).loc main_arg0) i = (q i : EReal))
    (hk : ∀ b J l, m ((c : Thread nD τ).loc main_arg1) (ix3 b J ⟨(l : Fin 1024), by omega⟩) = (k b J l : EReal))
    (hr : ∀ i, m ((c : Thread nD τ).loc main_arg2) i = (r i : EReal)) (g : Fin 2) (T : Fin 2048) (d : Fin 64) :
    att (iblk m c 0 t) (iblk m c 1 t) (iblk m c 2 t) (bias m c t) T ⟨64 * g + d, by omega⟩ =
      val_main_v59 (F := Ideal) (m ((c : Thread nD τ).loc main_arg0)) (m ((c : Thread nD τ).loc main_arg1)) (m ((c : Thread nD τ).loc main_arg2))
        (ix4 (ptB t) T (ptH t g) d) := by
  rw [att_head, full_congr (scr_eq m c t q k r hq hk hr g T) fun _ => rfl, full_congr (scr_eq m c t q k r hq hk hr g T) fun _ => rfl]
  rw [softmax_eq (band T) (natScore q k r (ptB t) (ptH t g) T) _ T ⟨le_refl _, by omega⟩
    (fun J => val_main_v46 (F := Ideal) (m ((c : Thread nD τ).loc main_arg0)) (m ((c : Thread nD τ).loc main_arg1)) (m ((c : Thread nD τ).loc main_arg2))
      (ix4 (ptB t) (ptH t g) T J)) fun J => ?_]
  · rw [ref_v59]
    refine Finset.sum_congr rfl fun J _ => congrArg (fun z : EReal => z * _) ?_
    rw [← row_eq _ J J.isLt]
    refine (blkV m c t _ _).trans (congrArg (m ((c : Thread nD τ).loc main_arg1)) (funext fun a => ?_))
    match a with
    | ⟨0, _⟩ => rfl
    | ⟨1, _⟩ => rfl
    | ⟨2, _⟩ =>
      refine Fin.ext ?_
      show 1024 + 128 * (t.val / 4) + (64 * g.val + d.val) = 1024 + (64 * (2 * (t.val / 4) + g.val) + d.val)
      omega
  · rw [ref_v46]
    unfold banded
    refine if_congr Iff.rfl ?_ rfl
    beta_reduce
    rw [natScore_eq]
    exact refScore_eq _ _ _ q k r hq hk hr _ _ _ _

/-- The output of a grid point is the reference's. -/
theorem out_ref (q : S4x2048x1024.Idx → ℝ) (k : Fin 4 → Fin 2048 → Fin 1024 → ℝ) (r : S16x513.Idx → ℝ)
    (hq : ∀ i, m ((c : Thread nD τ).loc main_arg0) i = (q i : EReal))
    (hk : ∀ b J l, m ((c : Thread nD τ).loc main_arg1) (ix3 b J ⟨(l : Fin 1024), by omega⟩) = (k b J l : EReal))
    (hr : ∀ i, m ((c : Thread nD τ).loc main_arg2) i = (r i : EReal)) (g : Fin 2) (T : Fin 2048) (d : Fin 64) :
    outAt (iblk m c 0 t) (iblk m c 1 t) (iblk m c 2 t) (bias m c t) (ldG m c t) T ⟨64 * g + d, by omega⟩ =
      val_main_v82 (F := Ideal) (m ((c : Thread nD τ).loc main_arg0)) (m ((c : Thread nD τ).loc main_arg1)) (m ((c : Thread nD τ).loc main_arg2))
        (m ((c : Thread nD τ).loc main_arg3)) (ix3 (ptB t) T (ln (ptH t g) d)) := by
  have hd : (64 * g.val + d.val) / 64 = g.val := by omega
  rw [ref_v82]
  unfold outAt
  simp only [hd, att_eq m c t q k r hq hk hr g T]
  refine congrArg₂ (fun y z : EReal => y * z) rfl ?_
  refine (ldG_apply m c t _).trans ((hostGain m c _ _).trans (congrArg (m ((c : Thread nD τ).loc main_arg3)) (funext fun a => ?_)))
  match a with
  | ⟨0, _⟩ =>
    refine Fin.ext ?_
    show 128 * (t.val / 4) + (64 * g.val + d.val) = 64 * (2 * (t.val / 4) + g.val) + d.val
    omega

end Cert.AttnIdeal.Own
-- ==== Proof.Results.lean ====
module

public import proofs.«01_k».proof.Proof.Equal
public import proofs.«01_k».proof.Proof.Gen.AttnIdeal.Value

/-! The attention the kernel leaves in its array is the attention of the reference, on finite queries, keys and biases. -/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic
open Cert.AttnRefIdeal.Read

variable (m : (ℓ : Loc nD τ sig) → Buf (Elt Ideal) ℓ) (c : Dev nD)

/-- The array of the attention ends holding the attention of the reference. -/
theorem result_o (q : S4x2048x1024.Idx → ℝ) (k : Fin 4 → Fin 2048 → Fin 1024 → ℝ) (r : S16x513.Idx → ℝ)
    (hq : ∀ i, m ((c : Thread nD τ).loc main_arg0) i = (q i : EReal))
    (hk : ∀ b J l, m ((c : Thread nD τ).loc main_arg1) (ix3 b J ⟨(l : Fin 1024), by omega⟩) = (k b J l : EReal))
    (hr : ∀ i, m ((c : Thread nD τ).loc main_arg2) i = (r i : EReal)) :
    Value.G10 m c =
      val_main_v82 (F := Ideal) (m ((c : Thread nD τ).loc main_arg0)) (m ((c : Thread nD τ).loc main_arg1))
        (m ((c : Thread nD τ).loc main_arg2)) (m ((c : Thread nD τ).loc main_arg3)) := by
  funext i
  have h0 : (i 0).val < 4 := (i 0).isLt
  have h1 : (i 1).val < 2048 := (i 1).isLt
  have h2 : (i 2).val < 1024 := (i 2).isLt
  have hp : Value.pt10Of i = (i 0).val + 4 * ((i 2).val / 128) := by
    show 1 * ((i 0).val / 1 - 0) + 4 * ((i 1).val / 2048 - 0) + 4 * ((i 2).val / 128 - 0) = _
    omega
  have hN : cfg0.N = 32 := N_0
  have hlt : Value.pt10Of i < cfg0.N := by omega
  unfold Value.G10
  rw [dif_pos hlt, ← Value.outsAt0_sweep m c _ hlt]
  refine (out_eq m c ⟨Value.pt10Of i, hlt⟩ (Value.loc10Of i)).trans ?_
  have e1 : (Value.loc10Of i) 1 = i 1 := Fin.ext (show (i 1).val % 2048 = _ by omega)
  have e2 : (Value.loc10Of i) 2 = ⟨64 * ((⟨(i 2).val % 128 / 64, by omega⟩ : Fin 2) : ℕ) + ((⟨(i 2).val % 64, by omega⟩ : Fin 64) : ℕ), by show 64 * ((i 2).val % 128 / 64) + (i 2).val % 64 < 128; omega⟩ :=
    Fin.ext (show (i 2).val % 128 = 64 * ((i 2).val % 128 / 64) + (i 2).val % 64 by omega)
  rw [e1, e2]
  refine (out_ref m c ⟨Value.pt10Of i, hlt⟩ q k r hq hk hr ⟨(i 2).val % 128 / 64, by omega⟩ (i 1) ⟨(i 2).val % 64, by omega⟩).trans (congrArg _ ?_)
  exact funext fun a => match a with
    | ⟨0, _⟩ => Fin.ext (show Value.pt10Of i % 4 = (i 0).val by omega)
    | ⟨1, _⟩ => rfl
    | ⟨2, _⟩ => Fin.ext (show 64 * (2 * (Value.pt10Of i / 4) + (i 2).val % 128 / 64) + (i 2).val % 64 = (i 2).val by omega)

end Cert.AttnIdeal.Own
end
-- ==== Proof.Outs.lean ====
module

public import proofs.«01_k».proof.Proof.Tables

/-!
# What a grid point leaves in the other three blocks

Besides the attention block, a grid point stores a block of each of the two weights in the narrow format, sixteen rows at
a time, and a block of the modulation.
-/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic

variable (m : (ℓ : Loc nD τ sig) → Buf (Elt Ideal) ℓ) (c : Dev nD) (t : Fin cfg0.N)

/-- The rows of the output projection that are stored in the narrow format. -/
def uPieces : List (View.Piece (Elt Ideal) S64x2048 .bf16) :=
  [⟨Rect.unit (s := S64x2048) ![48, 0] S16x2048.size inb_S64x2048_S16x2048_48_0, k0_pay111 (View.readAt (Elt Ideal) (ms0_5 t).view
      (Rect.unit (s := S64x2048) ![48, 0] S16x2048.size inb_S64x2048_S16x2048_48_0).toLoadRect ((hs0_5 t).unread (iblk m c 5 t)))⟩,
   ⟨Rect.unit (s := S64x2048) ![32, 0] S16x2048.size inb_S64x2048_S16x2048_32_0, k0_pay96 (View.readAt (Elt Ideal) (ms0_5 t).view
      (Rect.unit (s := S64x2048) ![32, 0] S16x2048.size inb_S64x2048_S16x2048_32_0).toLoadRect ((hs0_5 t).unread (iblk m c 5 t)))⟩,
   ⟨Rect.unit (s := S64x2048) ![16, 0] S16x2048.size inb_S64x2048_S16x2048_16_0, k0_pay76 (View.readAt (Elt Ideal) (ms0_5 t).view
      (Rect.unit (s := S64x2048) ![16, 0] S16x2048.size inb_S64x2048_S16x2048_16_0).toLoadRect ((hs0_5 t).unread (iblk m c 5 t)))⟩,
   ⟨Rect.unit (s := S64x2048) ![0, 0] S16x2048.size inb_S64x2048_S16x2048_0_0, k0_pay62 (View.readAt (Elt Ideal) (ms0_5 t).view
      (Rect.unit (s := S64x2048) ![0, 0] S16x2048.size inb_S64x2048_S16x2048_0_0).toLoadRect ((hs0_5 t).unread (iblk m c 5 t)))⟩]

/-- The rows of the feed-forward output weight that are stored in the narrow format. -/
def fPieces : List (View.Piece (Elt Ideal) S176x2048 .bf16) :=
  [⟨Rect.unit (s := S176x2048) ![160, 0] S16x2048.size inb_S176x2048_S16x2048_160_0, k0_pay254 (View.readAt (Elt Ideal) (ms0_6 t).view
      (Rect.unit (s := S176x2048) ![160, 0] S16x2048.size inb_S176x2048_S16x2048_160_0).toLoadRect ((hs0_6 t).unread (iblk m c 6 t)))⟩,
   ⟨Rect.unit (s := S176x2048) ![144, 0] S16x2048.size inb_S176x2048_S16x2048_144_0, k0_pay249 (View.readAt (Elt Ideal) (ms0_6 t).view
      (Rect.unit (s := S176x2048) ![144, 0] S16x2048.size inb_S176x2048_S16x2048_144_0).toLoadRect ((hs0_6 t).unread (iblk m c 6 t)))⟩,
   ⟨Rect.unit (s := S176x2048) ![128, 0] S16x2048.size inb_S176x2048_S16x2048_128_0, k0_pay245 (View.readAt (Elt Ideal) (ms0_6 t).view
      (Rect.unit (s := S176x2048) ![128, 0] S16x2048.size inb_S176x2048_S16x2048_128_0).toLoadRect ((hs0_6 t).unread (iblk m c 6 t)))⟩,
   ⟨Rect.unit (s := S176x2048) ![112, 0] S16x2048.size inb_S176x2048_S16x2048_112_0, k0_pay233 (View.readAt (Elt Ideal) (ms0_6 t).view
      (Rect.unit (s := S176x2048) ![112, 0] S16x2048.size inb_S176x2048_S16x2048_112_0).toLoadRect ((hs0_6 t).unread (iblk m c 6 t)))⟩,
   ⟨Rect.unit (s := S176x2048) ![96, 0] S16x2048.size inb_S176x2048_S16x2048_96_0, k0_pay218 (View.readAt (Elt Ideal) (ms0_6 t).view
      (Rect.unit (s := S176x2048) ![96, 0] S16x2048.size inb_S176x2048_S16x2048_96_0).toLoadRect ((hs0_6 t).unread (iblk m c 6 t)))⟩,
   ⟨Rect.unit (s := S176x2048) ![80, 0] S16x2048.size inb_S176x2048_S16x2048_80_0, k0_pay198 (View.readAt (Elt Ideal) (ms0_6 t).view
      (Rect.unit (s := S176x2048) ![80, 0] S16x2048.size inb_S176x2048_S16x2048_80_0).toLoadRect ((hs0_6 t).unread (iblk m c 6 t)))⟩,
   ⟨Rect.unit (s := S176x2048) ![64, 0] S16x2048.size inb_S176x2048_S16x2048_64_0, k0_pay184 (View.readAt (Elt Ideal) (ms0_6 t).view
      (Rect.unit (s := S176x2048) ![64, 0] S16x2048.size inb_S176x2048_S16x2048_64_0).toLoadRect ((hs0_6 t).unread (iblk m c 6 t)))⟩,
   ⟨Rect.unit (s := S176x2048) ![48, 0] S16x2048.size inb_S176x2048_S16x2048_48_0, k0_pay172 (View.readAt (Elt Ideal) (ms0_6 t).view
      (Rect.unit (s := S176x2048) ![48, 0] S16x2048.size inb_S176x2048_S16x2048_48_0).toLoadRect ((hs0_6 t).unread (iblk m c 6 t)))⟩,
   ⟨Rect.unit (s := S176x2048) ![32, 0] S16x2048.size inb_S176x2048_S16x2048_32_0, k0_pay157 (View.readAt (Elt Ideal) (ms0_6 t).view
      (Rect.unit (s := S176x2048) ![32, 0] S16x2048.size inb_S176x2048_S16x2048_32_0).toLoadRect ((hs0_6 t).unread (iblk m c 6 t)))⟩,
   ⟨Rect.unit (s := S176x2048) ![16, 0] S16x2048.size inb_S176x2048_S16x2048_16_0, k0_pay137 (View.readAt (Elt Ideal) (ms0_6 t).view
      (Rect.unit (s := S176x2048) ![16, 0] S16x2048.size inb_S176x2048_S16x2048_16_0).toLoadRect ((hs0_6 t).unread (iblk m c 6 t)))⟩,
   ⟨Rect.unit (s := S176x2048) ![0, 0] S16x2048.size inb_S176x2048_S16x2048_0_0, k0_pay123 (View.readAt (Elt Ideal) (ms0_6 t).view
      (Rect.unit (s := S176x2048) ![0, 0] S16x2048.size inb_S176x2048_S16x2048_0_0).toLoadRect ((hs0_6 t).unread (iblk m c 6 t)))⟩]

/-- The condition, the columns of its weight and of its bias, as a grid point loads them. -/
def ldC : Vec Ideal S8x2048 .f32 :=
  View.readAt (Elt Ideal) (ms0_7 t).view (Rect.unit (s := S8x2048) ![0, 0] S8x2048.size inb_S8x2048_S8x2048_0_0).toLoadRect
    ((hs0_7 t).unread (iblk m c 7 t))
@[inherit_doc ldC]
def ldW : Vec Ideal S2048x256 .f32 :=
  View.readAt (Elt Ideal) (ms0_8 t).view (Rect.unit (s := S2048x256) ![0, 0] S2048x256.size inb_S2048x256_S2048x256_0_0).toLoadRect
    ((hs0_8 t).unread (iblk m c 8 t))
@[inherit_doc ldC]
def ldB : Vec Ideal S1x256 .f32 :=
  View.readAt (Elt Ideal) (ms0_9 t).view (Rect.unit (s := S1x256) ![0, 0] S1x256.size inb_S1x256_S1x256_0_0).toLoadRect
    ((hs0_9 t).unread (iblk m c 9 t))

/-- The modulation of the condition `C` by the columns `W` and `B`, as the kernel computes it. -/
def modOf (C : Vec Ideal S8x2048 .f32) (W : Vec Ideal S2048x256 .f32) (B : Vec Ideal S1x256 .f32) : FVec Ideal S4x256 .f32 :=
  k0_pay1 (k0_pay260 (k0_pay256 C) (k0_pay258 C) (k0_pay259 C) W) (k0_pay261 (k0_pay256 C) (k0_pay258 C) (k0_pay259 C) W)
    (k0_pay262 (k0_pay256 C) (k0_pay258 C) (k0_pay259 C) W) B

/-- The block of the modulation. -/
def mPieces : List (View.Piece (Elt Ideal) S4x256 .f32) :=
  [⟨Rect.unit (s := S4x256) ![0, 0] S4x256.size inb_S4x256_S4x256_0_0, modOf (ldC m c t) (ldW m c t) (ldB m c t)⟩]

set_option maxHeartbeats 4000000 in
/-- Every grid point stores the blocks of `uPieces` in the first weight. -/
theorem out_11 : (outsAt0 m c t.val t.isLt).2.1 = View.canon (uPieces m c t) := by
  by_cases h : t.val % 4 = 0
  · rw [outsAt0_A m c t h]
    dsimp only
    unfold out0_A_11
    rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    exact congrArg View.canon (by with_unfolding_all rfl)
  · rw [outsAt0_B m c t h]
    dsimp only
    unfold out0_B_11
    rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    exact congrArg View.canon (by with_unfolding_all rfl)

set_option maxHeartbeats 4000000 in
/-- Every grid point stores the blocks of `fPieces` in the second weight. -/
theorem out_12 : (outsAt0 m c t.val t.isLt).2.2.1 = View.canon (fPieces m c t) := by
  by_cases h : t.val % 4 = 0
  · rw [outsAt0_A m c t h]
    dsimp only
    unfold out0_A_12
    rw [View.read_writes_eq_canon _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    exact congrArg View.canon (by with_unfolding_all rfl)
  · rw [outsAt0_B m c t h]
    dsimp only
    unfold out0_B_12
    rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    exact congrArg View.canon (by with_unfolding_all rfl)

set_option maxHeartbeats 4000000 in
/-- Every grid point stores the block of `mPieces` in the modulation. -/
theorem out_13 : (outsAt0 m c t.val t.isLt).2.2.2.1 = View.canon (mPieces m c t) := by
  by_cases h : t.val % 4 = 0
  · rw [outsAt0_A m c t h]
    dsimp only
    unfold out0_A_13
    rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    exact congrArg View.canon (by with_unfolding_all rfl)
  · rw [outsAt0_B m c t h]
    dsimp only
    unfold out0_B_13
    rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    exact congrArg View.canon (by with_unfolding_all rfl)

end Cert.AttnIdeal.Own
end
-- ==== Proof.Weights.lean ====
module

public import proofs.«01_k».proof.Proof.Outs
public import proofs.«01_k».proof.Proof.Gen.AttnIdeal.Value
public import proofs.«01_k».proof.Proof.Gen.AttnRefIdeal.Read

/-! The two weights the kernel hands on in the narrow format are the weights of the reference. -/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic
open Cert.AttnRefIdeal.Read

variable (m : (ℓ : Loc nD τ sig) → Buf (Elt Ideal) ℓ) (c : Dev nD) (t : Fin cfg0.N)

/-- The stored rows of the output projection are the staged ones. -/
theorem u_block (y : S64x2048.Idx) : (outsAt0 m c t.val t.isLt).2.1 y = (iblk m c 5 t : S64x2048.Idx → EReal) y := by
  rw [out_11]
  refine View.canon_apply_of_pieces (iblk m c 5 t : S64x2048.Idx → EReal) (uPieces m c t) (fun p hp => ?_) y
    (View.cover_of_tiledL (uPieces m c t) S16x2048.size (by sl_kernel_rfl) y)
  simp only [uPieces, List.mem_cons, List.not_mem_nil, or_false] at hp
  rcases hp with rfl | rfl | rfl | rfl <;> exact fun x => (hs0_5 t).readAt_unread _ _ x

set_option maxHeartbeats 4000000 in
/-- The stored rows of the feed-forward output weight are the staged ones. -/
theorem f_block (y : S176x2048.Idx) : (outsAt0 m c t.val t.isLt).2.2.1 y = (iblk m c 6 t : S176x2048.Idx → EReal) y := by
  rw [out_12]
  refine View.canon_apply_of_pieces (iblk m c 6 t : S176x2048.Idx → EReal) (fPieces m c t) (fun p hp => ?_) y
    (View.cover_of_tiledL (fPieces m c t) S16x2048.size (by sl_kernel_rfl) y)
  simp only [fPieces, List.mem_cons, List.not_mem_nil, or_false] at hp
  rcases hp with rfl | rfl | rfl | rfl | rfl | rfl | rfl | rfl | rfl | rfl | rfl <;> exact fun x => (hs0_6 t).readAt_unread _ _ x

/-- The rows of the output projection a grid point stages. -/
theorem blkU (r : Fin 64) (l : Fin 2048) :
    iblk m c 5 t (ix2 r l) = m ((c : Thread nD τ).loc main_arg4) (ix2 ⟨64 * t + r, by have := t32 t; omega⟩ l) := by
  blk_ext [iblk, V, idx t]

/-- The rows of the feed-forward output weight a grid point stages. -/
theorem blkF (r : Fin 176) (l : Fin 2048) :
    iblk m c 6 t (ix2 r l) = m ((c : Thread nD τ).loc main_arg5) (ix2 ⟨176 * t + r, by have := t32 t; omega⟩ l) := by
  blk_ext [iblk, V, idx t]

/-- The array of the output projection in the narrow format ends holding that of the reference. -/
theorem result_u : Value.G11 m c = val_main_v83 (F := Ideal) (m ((c : Thread nD τ).loc main_arg4)) := by
  funext i
  have h0 : (i 0).val < 2048 := (i 0).isLt
  have h1 : (i 1).val < 2048 := (i 1).isLt
  have hp : Value.pt11Of i = (i 0).val / 64 := by
    show 1 * ((i 0).val / 64 - 0) + 1 * ((i 1).val / 2048 - 0) = _
    omega
  have hN : cfg0.N = 32 := N_0
  have hlt : Value.pt11Of i < cfg0.N := by omega
  unfold Value.G11
  rw [dif_pos hlt, ← Value.outsAt0_sweep m c _ hlt]
  refine (u_block m c ⟨Value.pt11Of i, hlt⟩ (Value.loc11Of i)).trans ?_
  have e : Value.loc11Of i = ix2 ⟨(i 0).val % 64, Nat.mod_lt _ (by decide)⟩ ⟨(i 1).val, h1⟩ := funext fun a => match a with
    | ⟨0, _⟩ => rfl
    | ⟨1, _⟩ => Fin.ext (show (i 1).val % 2048 = (i 1).val by omega)
  rw [e]
  refine (blkU m c ⟨Value.pt11Of i, hlt⟩ _ _).trans (congrArg (m ((c : Thread nD τ).loc main_arg4)) ?_)
  exact funext fun a => match a with
    | ⟨0, _⟩ => Fin.ext (show 64 * Value.pt11Of i + (i 0).val % 64 = (i 0).val by omega)
    | ⟨1, _⟩ => rfl

/-- The array of the feed-forward output weight in the narrow format ends holding that of the reference. -/
theorem result_f : Value.G12 m c = val_main_v84 (F := Ideal) (m ((c : Thread nD τ).loc main_arg5)) := by
  funext i
  have h0 : (i 0).val < 5632 := (i 0).isLt
  have h1 : (i 1).val < 2048 := (i 1).isLt
  have hp : Value.pt12Of i = (i 0).val / 176 := by
    show 1 * ((i 0).val / 176 - 0) + 1 * ((i 1).val / 2048 - 0) = _
    omega
  have hN : cfg0.N = 32 := N_0
  have hlt : Value.pt12Of i < cfg0.N := by omega
  unfold Value.G12
  rw [dif_pos hlt, ← Value.outsAt0_sweep m c _ hlt]
  refine (f_block m c ⟨Value.pt12Of i, hlt⟩ (Value.loc12Of i)).trans ?_
  have e : Value.loc12Of i = ix2 ⟨(i 0).val % 176, Nat.mod_lt _ (by decide)⟩ ⟨(i 1).val, h1⟩ := funext fun a => match a with
    | ⟨0, _⟩ => rfl
    | ⟨1, _⟩ => Fin.ext (show (i 1).val % 2048 = (i 1).val by omega)
  rw [e]
  refine (blkF m c ⟨Value.pt12Of i, hlt⟩ _ _).trans (congrArg (m ((c : Thread nD τ).loc main_arg5)) ?_)
  exact funext fun a => match a with
    | ⟨0, _⟩ => Fin.ext (show 176 * Value.pt12Of i + (i 0).val % 176 = (i 0).val by omega)
    | ⟨1, _⟩ => rfl

end Cert.AttnIdeal.Own
end
-- ==== Proof.Modulation.lean ====
module

public import proofs.«01_k».proof.Proof.Outs
public import proofs.«01_k».proof.Proof.Theory
public import proofs.«01_k».proof.Proof.Gen.AttnIdeal.Value
public import proofs.«01_k».proof.Proof.Gen.AttnRefIdeal.Read

/-!
# The modulation

The kernel gates the condition by a hyperbolic tangent and multiplies it, split in three narrow parts, by the weight, split
in two. On finite values the later parts of each split vanish, and the product is that of the reference.
-/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic
open Cert.AttnRefIdeal.Read

/-- A real times its logistic. -/
def gate (x : ℝ) : ℝ := x * (1 + Real.exp (-x))⁻¹

/-- The gate, by the hyperbolic tangent of half its argument. -/
theorem gate_tanh (x : ℝ) : 1 / 2 * x + 1 / 2 * x * Real.tanh (1 / 2 * x) = gate x := by
  unfold gate
  rw [Real.tanh_eq_sinh_div_cosh, Real.sinh_eq, Real.cosh_eq]
  have e : Real.exp (-x) = Real.exp (-(1 / 2 * x)) * Real.exp (-(1 / 2 * x)) := by rw [← Real.exp_add]; congr 1; ring
  have h : Real.exp (1 / 2 * x) * Real.exp (-(1 / 2 * x)) = 1 := by rw [← Real.exp_add]; simp
  have hp := Real.exp_pos (1 / 2 * x)
  have hn := Real.exp_pos (-(1 / 2 * x))
  rw [e]
  generalize Real.exp (1 / 2 * x) = a at *
  generalize Real.exp (-(1 / 2 * x)) = b at *
  have ha : a = b⁻¹ := eq_inv_of_mul_eq_one_left h
  subst ha
  field_simp
  ring

/-- The gated condition, entry by entry. -/
theorem pay255_apply (C : Vec Ideal S8x2048 .f32) (b : Fin 8) (l : Fin 2048) (x : ℝ) (h : C (ix2 b l) = (x : EReal)) :
    k0_pay255 (F := Ideal) C (ix2 b l) = (gate x : EReal) := by
  pointwise [k0_pay255]
  rw [h]
  have e : Ideal.ofBits .f32 0x3F000000#32 = ((1 / 2 : ℝ) : EReal) := by simp [Ideal.ofBits, Ideal.ieee]; rw [← EReal.coe_mul]; norm_num
  rw [e, ← EReal.coe_mul, Ideal.tanh_coe, ← EReal.coe_mul, ← EReal.coe_add, gate_tanh]

/-- The first part of the gated condition is all of it. -/
theorem pay256_apply (C : Vec Ideal S8x2048 .f32) (b : Fin 8) (l : Fin 2048) (x : ℝ) (h : C (ix2 b l) = (x : EReal)) :
    k0_pay256 (F := Ideal) C (ix2 b l) = (gate x : EReal) := pay255_apply C b l x h

/-- What the first part leaves over is zero. -/
theorem pay257_apply (C : Vec Ideal S8x2048 .f32) (b : Fin 8) (l : Fin 2048) (x : ℝ) (h : C (ix2 b l) = (x : EReal)) :
    k0_pay257 (F := Ideal) C (ix2 b l) = (0 : EReal) := by
  show (k0_pay255 (F := Ideal) C (ix2 b l) : EReal) - k0_pay255 (F := Ideal) C (ix2 b l) = 0
  rw [pay255_apply C b l x h, ← EReal.coe_sub, sub_self, EReal.coe_zero]

/-- The second part is zero. -/
theorem pay258_apply (C : Vec Ideal S8x2048 .f32) (b : Fin 8) (l : Fin 2048) (x : ℝ) (h : C (ix2 b l) = (x : EReal)) :
    k0_pay258 (F := Ideal) C (ix2 b l) = (0 : EReal) := pay257_apply C b l x h

/-- The third part is zero. -/
theorem pay259_apply (C : Vec Ideal S8x2048 .f32) (b : Fin 8) (l : Fin 2048) (x : ℝ) (h : C (ix2 b l) = (x : EReal)) :
    k0_pay259 (F := Ideal) C (ix2 b l) = (0 : EReal) := by
  show (k0_pay257 (F := Ideal) C (ix2 b l) : EReal) - k0_pay257 (F := Ideal) C (ix2 b l) = 0
  rw [pay257_apply C b l x h, sub_zero]

/-- The modulation of a finite condition by a finite column: the gated condition times the column, and the shift. -/
theorem modOf_apply (C : Vec Ideal S8x2048 .f32) (W : Vec Ideal S2048x256 .f32) (B : Vec Ideal S1x256 .f32) (b : Fin 4) (n : Fin 256)
    (x w : Fin 2048 → ℝ) (hC : ∀ k : Fin 8, k.val = b.val → ∀ l, C (ix2 k l) = (x l : EReal))
    (hW : ∀ l, W (ix2 l n) = (w l : EReal)) :
    modOf C W B (ix2 b n) = (∑ l, (gate (x l) : EReal) * (w l : EReal)) + B (ix2 0 n) := by
  pointwise [modOf, k0_pay1, k0_pay261, k0_pay262, k0_pay260]
  have hb := b.isLt
  have h0 : b.val < 8 := by omega
  have h1 : ¬ 16 + b.val < 8 := by omega
  have h2 : ¬ 16 + b.val - 8 < 8 := by omega
  simp only [dif_pos h0, dif_neg h1, dif_neg h2, hW]
  have z : ∀ l, (w l : EReal) - (w l : EReal) = 0 := fun l => by rw [← EReal.coe_sub, sub_self, EReal.coe_zero]
  have p6 : ∀ l, k0_pay256 (F := Ideal) C (ix2 ⟨b.val, h0⟩ l) = (gate (x l) : EReal) := fun l => pay256_apply C _ l _ (hC _ rfl l)
  have p8 : ∀ l, k0_pay258 (F := Ideal) C (ix2 ⟨b.val, h0⟩ l) = (0 : EReal) := fun l => pay258_apply C _ l _ (hC _ rfl l)
  have p9 : ∀ l, k0_pay259 (F := Ideal) C (ix2 ⟨16 + b.val - 8 - 8, by omega⟩ l) = (0 : EReal) :=
    fun l => pay259_apply C _ l _ (hC _ (by show 16 + b.val - 8 - 8 = b.val; omega) l)
  simp only [z, p6, p8, p9, mul_zero, zero_mul, Finset.sum_const_zero, add_zero]

variable (m : (ℓ : Loc nD τ sig) → Buf (Elt Ideal) ℓ) (c : Dev nD) (t : Fin cfg0.N)

/-- The first four rows of the padded condition are the condition. -/
theorem hostCond (b : Fin 8) (l : Fin 2048) (hb : b.val < 4) : V m c main_v0 (ix2 b l) =
    m ((c : Thread nD τ).loc main_arg6) (ix2 ⟨b, hb⟩ l) := by
  simp only [V, hostOps0, hostOps0_1, hostOps0_2, hostOps0_3, hostOps0_4, List.flatten_cons, List.flatten_nil, List.append_nil,
    List.cons_append, List.nil_append]
  entry_read
  simp only [StableHlo.TRef.ofBuf_toBuf]
  simp only [StableHlo.TRef.ofBuf, StableHlo.TRef.toBuf, StableHlo.TRef.of, cast_eq, eqRec_eq_cast]
  pointwise
  rw [dif_pos hb]

/-- The bias of the modulation, as a row. -/
theorem hostShift (n : Fin 12288) : V m c main_v1 (ix2 0 n) = m ((c : Thread nD τ).loc main_arg8) (ix1 n) := by
  simp only [V, hostOps0, hostOps0_1, hostOps0_2, hostOps0_3, hostOps0_4, List.flatten_cons, List.flatten_nil, List.append_nil,
    List.cons_append, List.nil_append]
  entry_read
  pointwise

/-- Every grid point stages the whole padded condition. -/
theorem blkC (b : Fin 8) (l : Fin 2048) : iblk m c 7 t (ix2 b l) = V m c main_v0 (ix2 b l) := by
  blk_ext [iblk, idx t]

/-- The columns of the weight of the modulation a grid point stages. -/
theorem blkW (l : Fin 2048) (n : Fin 256) :
    iblk m c 8 t (ix2 l n) = m ((c : Thread nD τ).loc main_arg7) (ix2 l ⟨4096 + 256 * t + n, by have := t32 t; omega⟩) := by
  blk_ext [iblk, V, idx t]

/-- The columns of the bias of the modulation a grid point stages. -/
theorem blkS (n : Fin 256) :
    iblk m c 9 t (ix2 0 n) = V m c main_v1 (ix2 0 ⟨4096 + 256 * t + n, by have := t32 t; omega⟩) := by
  blk_ext [iblk, idx t]

/-- The stored block of the modulation. -/
theorem m_block (y : S4x256.Idx) : (outsAt0 m c t.val t.isLt).2.2.2.1 y = modOf (ldC m c t) (ldW m c t) (ldB m c t) y := by
  rw [out_13]
  refine View.canon_apply_of_pieces (modOf (ldC m c t) (ldW m c t) (ldB m c t)) (mPieces m c t) (fun p hp => ?_) y
    (View.cover_of_tiledL (mPieces m c t) S4x256.size (by sl_kernel_rfl) y)
  simp only [mPieces, List.mem_cons, List.not_mem_nil, or_false] at hp
  rcases hp with rfl
  refine fun x => congrArg (modOf (ldC m c t) (ldW m c t) (ldB m c t)) (funext fun a => ?_)
  fin_cases a <;> refine Fin.ext ?_
  · show (x 0).val = 0 + 1 * (x 0).val; omega
  · show (x 1).val = 0 + 1 * (x 1).val; omega

/-- The loaded condition, entry by entry. -/
theorem ldC_apply (b : Fin 8) (l : Fin 2048) : ldC m c t (ix2 b l) = V m c main_v0 (ix2 b l) := by
  rw [← blkC m c t]
  refine ((hs0_7 t).readAt_unread _ _ _).trans (congrArg (iblk m c 7 t) ?_)
  funext a
  fin_cases a <;> refine Fin.ext ?_ <;> simp [LoadRect.idx, ix2]

/-- The loaded columns of the weight, entry by entry. -/
theorem ldW_apply (l : Fin 2048) (n : Fin 256) :
    ldW m c t (ix2 l n) = m ((c : Thread nD τ).loc main_arg7) (ix2 l ⟨4096 + 256 * t + n, by have := t32 t; omega⟩) := by
  rw [← blkW m c t]
  refine ((hs0_8 t).readAt_unread _ _ _).trans (congrArg (iblk m c 8 t) ?_)
  funext a
  fin_cases a <;> refine Fin.ext ?_ <;> simp [LoadRect.idx, ix2]

/-- The loaded columns of the bias, entry by entry. -/
theorem ldB_apply (n : Fin 256) :
    ldB m c t (ix2 0 n) = m ((c : Thread nD τ).loc main_arg8) (ix1 ⟨4096 + 256 * t + n, by have := t32 t; omega⟩) := by
  rw [← hostShift m c, ← blkS m c t]
  refine ((hs0_9 t).readAt_unread _ _ _).trans (congrArg (iblk m c 9 t) ?_)
  funext a
  fin_cases a <;> refine Fin.ext ?_ <;> simp [LoadRect.idx, ix2]

/-- The word of one. -/
theorem one_word : Ideal.ofBits .f32 0x3F800000#32 = 1 := by simp [Ideal.ofBits, Ideal.ieee]; rw [← EReal.coe_mul]; norm_num

/-- The reference's gate. -/
theorem ref_gate (x6 : S4x2048.Idx → EReal) (i : S4x2048.Idx) (x : ℝ) (h : x6 i = (x : EReal)) :
    val_main_v75 (F := Ideal) x6 i = (gate x : EReal) := by
  rw [val_main_v75_apply, val_main_call4_v5_apply, val_main_call4_v4_apply, val_main_call4_v3_apply, val_main_call4_v2_apply,
    val_main_call4_v1_apply, val_main_call4_v0_apply, h]
  have e : (Ideal.logistic (x : EReal)) = (((1 + Real.exp (-x))⁻¹ : ℝ) : EReal) := Ideal.logistic_coe x
  unfold gate
  rw [EReal.coe_mul, ← e]
  show (x : EReal) * Ideal.div (Ideal.ofBits .f32 0x3F800000#32) (Ideal.ofBits .f32 0x3F800000#32 + Ideal.exp (-(x : EReal))) = _
  rw [one_word]
  rfl

/-- The array of the modulation ends holding that of the reference. -/
theorem result_m (x : S4x2048.Idx → ℝ) (w : Fin 2048 → Fin 8192 → ℝ)
    (hx : ∀ i, m ((c : Thread nD τ).loc main_arg6) i = (x i : EReal))
    (hw : ∀ l n, m ((c : Thread nD τ).loc main_arg7) (ix2 l ⟨4096 + (n : Fin 8192), by omega⟩) = (w l n : EReal)) :
    Value.G13 m c = val_main_v81 (F := Ideal) (m ((c : Thread nD τ).loc main_arg6)) (m ((c : Thread nD τ).loc main_arg7))
      (m ((c : Thread nD τ).loc main_arg8)) := by
  funext i
  have h0 : (i 0).val < 4 := (i 0).isLt
  have h1 : (i 1).val < 8192 := (i 1).isLt
  have hp : Value.pt13Of i = (i 1).val / 256 := by
    show 32 * ((i 0).val / 4 - 0) + 1 * ((i 1).val / 256 - 0) = _
    omega
  have hN : cfg0.N = 32 := N_0
  have hlt : Value.pt13Of i < cfg0.N := by omega
  unfold Value.G13
  rw [dif_pos hlt, ← Value.outsAt0_sweep m c _ hlt]
  refine (m_block m c ⟨Value.pt13Of i, hlt⟩ (Value.loc13Of i)).trans ?_
  have e : Value.loc13Of i = ix2 ⟨(i 0).val, h0⟩ ⟨(i 1).val % 256, Nat.mod_lt _ (by decide)⟩ := funext fun a => match a with
    | ⟨0, _⟩ => Fin.ext (show (i 0).val % 4 = (i 0).val by omega)
    | ⟨1, _⟩ => rfl
  rw [e]
  refine (modOf_apply _ _ _ _ _ (fun l => x (ix2 ⟨(i 0).val, h0⟩ l)) (fun l => w l ⟨(i 1).val, h1⟩) (fun k hk l => ?_) (fun l => ?_)).trans ?_
  · have hk4 : k.val < 4 := by rw [hk]; exact h0
    refine (ldC_apply m c _ k l).trans ((hostCond m c k l hk4).trans ((hx _).trans (congrArg (fun z => ((x z : ℝ) : EReal)) ?_)))
    exact funext fun a => match a with
      | ⟨0, _⟩ => Fin.ext hk
      | ⟨1, _⟩ => rfl
  · refine (ldW_apply m c _ l _).trans (Eq.trans (congrArg (m ((c : Thread nD τ).loc main_arg7)) ?_) (hw l ⟨(i 1).val, h1⟩))
    exact funext fun a => match a with
      | ⟨0, _⟩ => rfl
      | ⟨1, _⟩ => Fin.ext (show 4096 + 256 * Value.pt13Of i + (i 1).val % 256 = 4096 + (i 1).val by omega)
  · rw [val_main_v81_apply, val_main_v77_apply, val_main_v80_apply, val_main_v79_apply, val_main_v78_apply]
    refine congrArg₂ (fun y z : EReal => y + z) (Finset.sum_congr rfl fun l _ => ?_) ?_
    · refine congrArg₂ (fun y z : EReal => y * z) ?_ ?_
      · refine (ref_gate _ _ _ ((hx _).trans (congrArg (fun z => ((x z : ℝ) : EReal)) ?_))).symm
        exact funext fun a => match a with
          | ⟨0, _⟩ => rfl
          | ⟨1, _⟩ => rfl
      · rw [val_main_v76_apply]
        refine (hw l ⟨(i 1).val, h1⟩).symm.trans (congrArg (m ((c : Thread nD τ).loc main_arg7)) ?_)
        exact funext fun a => match a with
          | ⟨0, _⟩ => rfl
          | ⟨1, _⟩ => rfl
    · refine (ldB_apply m c _ _).trans (congrArg (m ((c : Thread nD τ).loc main_arg8)) ?_)
      exact funext fun a => match a with
        | ⟨0, _⟩ => Fin.ext (show 4096 + 256 * Value.pt13Of i + (i 1).val % 256 = 4096 + (i 1).val by omega)

end Cert.AttnIdeal.Own
end
-- ==== Proof.Finite.lean ====
module

public import proofs.«01_k».proof.Defs
public import proofs.«01_k».proof.Proof.Tables

/-! What the precondition says: the entries it names are real. -/

@[expose] public section

set_option maxRecDepth 16384

noncomputable section

namespace Cert.AttnIdeal.Own

open Cert.AttnIdeal Cert.AttnIdeal.Gen Idealize.ShloMosaic Idealize.ShloMosaic.TcCoe Idealize.SL.Sem Idealize.ShloMosaic.Tactic

/-- The word of infinity in either format. -/
theorem inf_words : Ideal.ofBits .bf16 0x7F80#16 = ⊤ ∧ Ideal.ofBits .f32 0x7F800000#32 = ⊤ := by
  constructor <;> simp [Ideal.ofBits, Ideal.ieee]

/-- An extended real below infinity in absolute value is real. -/
theorem real_of_abs (x w : EReal) (hw : w = ⊤) (h : BitVec.ofBool (decide (max x (-x) < w)) = 1#1) : ∃ r : ℝ, x = (r : EReal) := by
  subst hw
  induction x using EReal.rec with
  | bot => simp at h
  | coe r => exact ⟨r, rfl⟩
  | top => simp at h

variable (m : (ℓ : Loc nD τ sig) → Buf (Elt Ideal) ℓ) (c : Dev nD)

/-- The queries are real. -/
theorem real_q [Cert.Pre_finite.Facts] (h : Cert.Pre_AttnIdeal_finite m) (i : S4x2048x1024.Idx) :
    ∃ r : ℝ, m ((c : Thread nD τ).loc main_arg0) i = (r : EReal) :=
  real_of_abs _ _ inf_words.1 (congrFun (h c).1 i)

/-- The keys are real. -/
theorem real_k [Cert.Pre_finite.Facts] (h : Cert.Pre_AttnIdeal_finite m) (b : Fin 4) (J : Fin 2048) (l : Fin 1024) :
    ∃ r : ℝ, m ((c : Thread nD τ).loc main_arg1) (ix3 b J ⟨l, by omega⟩) = (r : EReal) := by
  obtain ⟨r, hr⟩ := real_of_abs _ _ inf_words.1 (congrFun (h c).2.1 (ix3 b J l))
  refine ⟨r, Eq.trans (congrArg (m ((c : Thread nD τ).loc main_arg1)) ?_) hr⟩
  funext a
  fin_cases a <;> refine Fin.ext ?_
  · show b.val = 0 + b.val; omega
  · show J.val = 0 + J.val; omega
  · show l.val = 0 + l.val; omega

/-- The relative biases are real. -/
theorem real_r [Cert.Pre_finite.Facts] (h : Cert.Pre_AttnIdeal_finite m) (i : S16x513.Idx) :
    ∃ r : ℝ, m ((c : Thread nD τ).loc main_arg2) i = (r : EReal) :=
  real_of_abs _ _ inf_words.2 (congrFun (h c).2.2.1 i)

/-- The condition is real. -/
theorem real_c [Cert.Pre_finite.Facts] (h : Cert.Pre_AttnIdeal_finite m) (i : S4x2048.Idx) :
    ∃ r : ℝ, m ((c : Thread nD τ).loc main_arg6) i = (r : EReal) :=
  real_of_abs _ _ inf_words.2 (congrFun (h c).2.2.2.1 i)

/-- The columns of the modulation's weight that are used are real. -/
theorem real_w [Cert.Pre_finite.Facts] (h : Cert.Pre_AttnIdeal_finite m) (l : Fin 2048) (n : Fin 8192) :
    ∃ r : ℝ, m ((c : Thread nD τ).loc main_arg7) (ix2 l ⟨4096 + n, by omega⟩) = (r : EReal) := by
  obtain ⟨r, hr⟩ := real_of_abs _ _ inf_words.2 (congrFun (h c).2.2.2.2 (ix2 l n))
  refine ⟨r, Eq.trans (congrArg (m ((c : Thread nD τ).loc main_arg7)) ?_) hr⟩
  funext a
  fin_cases a <;> refine Fin.ext ?_
  · show l.val = 0 + l.val; omega
  · show 4096 + n.val = 4096 + n.val; rfl

end Cert.AttnIdeal.Own
end
-- ==== Proof.FfnPays.lean ====
module

public import proofs.«01_k».proof.Proof.Gen.FfnIdeal.Skeleton
public import Idealize.ShloMosaic.Lib.Pipeline.ValueKit

@[expose] public section

set_option maxRecDepth 16384

noncomputable section

namespace Cert.FfnIdeal.Own

open Cert.FfnIdeal Cert.FfnIdeal.Gen Idealize.ShloMosaic Idealize.ShloMosaic.TcCoe Idealize.SL.Sem Idealize.ShloMosaic.Tactic

/-- The rational number 2048, as the program spells it. -/
abbrev w2048 : EReal := Ideal.ofBits .f32 0x45000000#32
/-- The small number the variance is raised by. -/
abbrev wEps : EReal := Ideal.ofBits .f32 0x3727C5AC#32
/-- One half. -/
abbrev wHalf : EReal := Ideal.ofBits .f32 0x3F000000#32
/-- The weight of the residual. -/
abbrev wAlpha : EReal := Ideal.ofBits .f32 0x3F9837F0#32

/-- A row less its mean. -/
def cen (v : Fin 2048 → EReal) (d : Fin 2048) : EReal := v d - Ideal.div (∑ k, v k) w2048
/-- A row brought to mean zero and variance one. -/
def nrm (v : Fin 2048 → EReal) (d : Fin 2048) : EReal :=
  cen v d * Ideal.rsqrt (Ideal.div (∑ k, cen v k * cen v k) w2048 + wEps)
/-- A normalized row under a shift and a scale. -/
def modu (v : Fin 2048 → EReal) (s1 s2 : Fin 2048 → EReal) (d : Fin 2048) : EReal :=
  nrm v d * (1 + s2 d) + s1 d
/-- The gate the kernel uses, written with the hyperbolic tangent. -/
def silT (g u : EReal) : EReal := (wHalf * g + wHalf * g * Ideal.tanh (wHalf * g)) * u
/-- What one block of 512 hidden units adds to an output entry. -/
def part (h : Fin 2048 → EReal) (G U : Fin 2048 → Fin 512 → EReal) (W : Fin 512 → EReal) : EReal :=
  ∑ k, silT (∑ l, h l * G l k) (∑ l, h l * U l k) * W k
/-- The residual beside the gated output. -/
def resid (x a o : Fin 2048 → EReal) (d : Fin 2048) : EReal := wAlpha * x d + a d * o d

/-- The first 256 rows of the hidden activations. -/
theorem ln_a (A B : Vec Ideal S1x2048 .f32) (X : Vec Ideal S1x256x2048 .f32) (r : Fin 256) (d : Fin 2048) :
    k0_pay4 (F := Ideal) A B X (ix2 r d) = modu (fun k => X (ix3 0 r k)) (fun k => A (ix2 0 k)) (fun k => B (ix2 0 k)) d := by
  pointwise [k0_pay4]
  rfl

/-- The second 256 rows of the hidden activations. -/
theorem ln_b (A B : Vec Ideal S1x2048 .f32) (X : Vec Ideal S1x256x2048 .f32) (r : Fin 256) (d : Fin 2048) :
    k0_pay7 (F := Ideal) A B (k0_pay5 X) (k0_pay6 X) (ix2 r d) = modu (fun k => X (ix3 0 r k)) (fun k => A (ix2 0 k)) (fun k => B (ix2 0 k)) d := by
  pointwise [k0_pay7, k0_pay5, k0_pay6]
  rfl

/-- The third 256 rows of the hidden activations. -/
theorem ln_c (A B : Vec Ideal S1x2048 .f32) (X : Vec Ideal S1x256x2048 .f32) (r : Fin 256) (d : Fin 2048) :
    k0_pay9 (F := Ideal) (k0_pay8 A B X) (ix2 r d) = modu (fun k => X (ix3 0 r k)) (fun k => A (ix2 0 k)) (fun k => B (ix2 0 k)) d := by
  pointwise [k0_pay9, k0_pay8]
  rfl

/-- The last 256 rows of the hidden activations. -/
theorem ln_d (A B : Vec Ideal S1x2048 .f32) (X : Vec Ideal S1x256x2048 .f32) (r : Fin 256) (d : Fin 2048) :
    k0_pay10 (F := Ideal) A B X (ix2 r d) = modu (fun k => X (ix3 0 r k)) (fun k => A (ix2 0 k)) (fun k => B (ix2 0 k)) d := by
  pointwise [k0_pay10]
  rfl

/-- What the first block writes. -/
theorem first_part (H : Vec Ideal S1024x2048 .bf16) (G U : Vec Ideal S2048x512 .bf16) (W : Vec Ideal S512x2048 .bf16) (r : Fin 1024) (d : Fin 2048) :
    k0_pay1 (F := Ideal) (k0_pay11 H G U) (k0_pay12 H G U) (Scalar.ofBits .f32 0x3F000000#32) W (ix3 0 r d) = part (fun l => H (ix2 r l)) (fun l k => G (ix2 l k)) (fun l k => U (ix2 l k)) (fun k => W (ix2 k d)) := by
  pointwise [k0_pay1, k0_pay11, k0_pay12]
  rfl

/-- What a later block leaves. -/
theorem next_part (O : Vec Ideal S1x1024x2048 .f32) (H : Vec Ideal S1024x2048 .bf16) (G U : Vec Ideal S2048x512 .bf16) (W : Vec Ideal S512x2048 .bf16) (r : Fin 1024) (d : Fin 2048) :
    k0_pay2 (F := Ideal) O H G U W (ix3 0 r d) = O (ix3 0 r d) + part (fun l => H (ix2 r l)) (fun l k => G (ix2 l k)) (fun l k => U (ix2 l k)) (fun k => W (ix2 k d)) := by
  pointwise [k0_pay2]
  rfl

set_option maxHeartbeats 4000000 in
/-- The first 256 rows of the last step. -/
theorem last_a (A : Vec Ideal S1x2048 .f32) (O : Vec Ideal S1x256x2048 .f32) (H : Vec Ideal S256x2048 .bf16) (G U : Vec Ideal S2048x512 .bf16) (W : Vec Ideal S512x2048 .bf16) (X : Vec Ideal S1x256x2048 .f32) (g b : Vec Ideal S1x2048 .f32) (r : Fin 256) (d : Fin 2048) :
    k0_pay15 (F := Ideal) (k0_pay13 A O H G U W X) (k0_pay14 A O H G U W X) (Scalar.ofBits .f32 0x45000000#32) g b (ix3 0 r d) =
      nrm (resid (fun j => X (ix3 0 r j)) (fun j => A (ix2 0 j)) (fun j => O (ix3 0 r j) + part (fun l => H (ix2 r l)) (fun l k => G (ix2 l k)) (fun l k => U (ix2 l k)) (fun k => W (ix2 k j)))) d * g (ix2 0 d) + b (ix2 0 d) := by
  pointwise [k0_pay15, k0_pay13, k0_pay14]
  rfl

set_option maxHeartbeats 4000000 in
/-- The second 256 rows of the last step. -/
theorem last_b (A : Vec Ideal S1x2048 .f32) (O : Vec Ideal S1x256x2048 .f32) (H : Vec Ideal S256x2048 .bf16) (G U : Vec Ideal S2048x512 .bf16) (W : Vec Ideal S512x2048 .bf16) (X : Vec Ideal S1x256x2048 .f32) (g b : Vec Ideal S1x2048 .f32) (r : Fin 256) (d : Fin 2048) :
    k0_pay17 (F := Ideal) A (k0_pay16 O H G U W) X g b (ix3 0 r d) =
      nrm (resid (fun j => X (ix3 0 r j)) (fun j => A (ix2 0 j)) (fun j => O (ix3 0 r j) + part (fun l => H (ix2 r l)) (fun l k => G (ix2 l k)) (fun l k => U (ix2 l k)) (fun k => W (ix2 k j)))) d * g (ix2 0 d) + b (ix2 0 d) := by
  pointwise [k0_pay17, k0_pay16]
  rfl

set_option maxHeartbeats 4000000 in
/-- The third 256 rows of the last step. -/
theorem last_c (A : Vec Ideal S1x2048 .f32) (O : Vec Ideal S1x256x2048 .f32) (H : Vec Ideal S256x2048 .bf16) (G U : Vec Ideal S2048x512 .bf16) (W : Vec Ideal S512x2048 .bf16) (X : Vec Ideal S1x256x2048 .f32) (g b : Vec Ideal S1x2048 .f32) (r : Fin 256) (d : Fin 2048) :
    k0_pay21 (F := Ideal) (k0_pay19 A (k0_pay18 O) H G U W X) (k0_pay20 g) b (ix3 0 r d) =
      nrm (resid (fun j => X (ix3 0 r j)) (fun j => A (ix2 0 j)) (fun j => O (ix3 0 r j) + part (fun l => H (ix2 r l)) (fun l k => G (ix2 l k)) (fun l k => U (ix2 l k)) (fun k => W (ix2 k j)))) d * g (ix2 0 d) + b (ix2 0 d) := by
  pointwise [k0_pay21, k0_pay19, k0_pay18, k0_pay20]
  rfl

set_option maxHeartbeats 4000000 in
/-- The last 256 rows of the last step. -/
theorem last_d (A : Vec Ideal S1x2048 .f32) (O : Vec Ideal S1x256x2048 .f32) (H : Vec Ideal S256x2048 .bf16) (G U : Vec Ideal S2048x512 .bf16) (W : Vec Ideal S512x2048 .bf16) (X : Vec Ideal S1x256x2048 .f32) (g b : Vec Ideal S1x2048 .f32) (r : Fin 256) (d : Fin 2048) :
    k0_pay3 (F := Ideal) (k0_pay22 A O H G U W X) g b (ix3 0 r d) =
      nrm (resid (fun j => X (ix3 0 r j)) (fun j => A (ix2 0 j)) (fun j => O (ix3 0 r j) + part (fun l => H (ix2 r l)) (fun l k => G (ix2 l k)) (fun l k => U (ix2 l k)) (fun k => W (ix2 k j)))) d * g (ix2 0 d) + b (ix2 0 d) := by
  pointwise [k0_pay3, k0_pay22]
  rfl

end Cert.FfnIdeal.Own
-- ==== Proof.FfnOuts.lean ====
module

public import proofs.«01_k».proof.Proof.Gen.FfnIdeal.Value
public import proofs.«01_k».proof.Proof.FfnPays
public import Idealize.ShloMosaic.Lib.Pipeline.ValueKit
public import Idealize.ShloMosaic.Lib.WholeRead

@[expose] public section

set_option maxRecDepth 16384

noncomputable section

namespace Cert.FfnIdeal.Own

open Cert.FfnIdeal Cert.FfnIdeal.Gen Idealize.ShloMosaic Idealize.ShloMosaic.TcCoe Idealize.SL.Sem Idealize.ShloMosaic.Tactic

variable (m : (ℓ : Loc nD τ sig) → Buf (Elt Ideal) ℓ) (c : Dev nD) (t : Fin cfg0.N)

/-- There are 88 grid points. -/
theorem t88 : t.val < 88 := lt_of_lt_of_eq t.isLt (show cfg0.N = 88 from N_0)

/-- The blocks a grid point stages: three axes, the batch, the half of the rows, and the block of hidden units. -/
theorem idx : ∀ t : Fin cfg0.N, win0_0.index t = ![0, t.val % 11] ∧ win0_1.index t = ![0, 11 + t.val % 11] ∧
    win0_2.index t = ![t.val % 11, 0] ∧ win0_3.index t = ![t.val / 22, t.val / 11 % 2, 0] ∧ win0_4.index t = ![0, 0] ∧
    win0_5.index t = ![0, 0] ∧ win0_6.index t = ![0, 0] :=
  (by decide +kernel : ∀ t : Fin grid0.N, _)

/-- Where the rows of the modulation are loaded from. -/
theorem offs : ∀ t : Fin cfg0.N, k0_off1 (grid0.coords t) = ![t.val / 22, 2048] ∧ k0_off2 (grid0.coords t) = ![t.val / 22, 4096] ∧
    k0_off3 (grid0.coords t) = ![t.val / 22, 6144] :=
  (by decide +kernel : ∀ t : Fin grid0.N, _)

/-- The staged gate columns. -/
theorem blkG (l : Fin 2048) (k : Fin 512) : iblk m c 0 t (ix2 l k) =
    m ((c : Thread nD τ).loc main_arg0) (ix2 l ⟨512 * (t.val % 11) + k, by omega⟩) := by
  blk_ext [iblk, V, idx t]
/-- The staged columns beside the gate. -/
theorem blkU (l : Fin 2048) (k : Fin 512) : iblk m c 1 t (ix2 l k) =
    m ((c : Thread nD τ).loc main_arg0) (ix2 l ⟨5632 + 512 * (t.val % 11) + k, by omega⟩) := by
  blk_ext [iblk, V, idx t]
/-- The staged rows of the output weight. -/
theorem blkW (k : Fin 512) (d : Fin 2048) : iblk m c 2 t (ix2 k d) =
    m ((c : Thread nD τ).loc main_arg1) (ix2 ⟨512 * (t.val % 11) + k, by omega⟩ d) := by
  blk_ext [iblk, V, idx t]
/-- The staged tokens. -/
theorem blkX (r : Fin 1024) (d : Fin 2048) : iblk m c 3 t (ix3 0 r d) =
    m ((c : Thread nD τ).loc main_arg2) (ix3 ⟨t.val / 22, by have := t88 t; omega⟩ ⟨1024 * (t.val / 11 % 2) + r, by omega⟩ d) := by
  blk_ext [iblk, V, idx t]
/-- The staged modulation. -/
theorem blkM (b : Fin 4) (n : Fin 8192) : iblk m c 4 t (ix2 b n) = m ((c : Thread nD τ).loc main_arg3) (ix2 b n) := by
  blk_ext [iblk, V, idx t]
/-- The gain as a row. -/
theorem host_g (n : Fin 2048) : V m c main_v0 (ix2 0 n) = m ((c : Thread nD τ).loc main_arg4) (ix1 n) := by
  simp only [V, hostOps0, List.flatten_cons, List.flatten_nil, List.append_nil, List.cons_append, List.nil_append]
  entry_read
  pointwise
/-- The offset as a row. -/
theorem host_b (n : Fin 2048) : V m c main_v1 (ix2 0 n) = m ((c : Thread nD τ).loc main_arg5) (ix1 n) := by
  simp only [V, hostOps0, List.flatten_cons, List.flatten_nil, List.append_nil, List.cons_append, List.nil_append]
  entry_read
  pointwise
/-- The staged gain. -/
theorem blkg (n : Fin 2048) : iblk m c 5 t (ix2 0 n) = m ((c : Thread nD τ).loc main_arg4) (ix1 n) := by
  refine Eq.trans ?_ (host_g m c n)
  blk_ext [iblk, idx t]
/-- The staged offset. -/
theorem blkb (n : Fin 2048) : iblk m c 6 t (ix2 0 n) = m ((c : Thread nD τ).loc main_arg5) (ix1 n) := by
  refine Eq.trans ?_ (host_b m c n)
  blk_ext [iblk, idx t]

/-- The loads of a grid point. -/
def ldG : Vec Ideal S2048x512 .bf16 := View.readAt (Elt Ideal) (ms0_0 t).view
  (Rect.unit (s := S2048x512) ![0, 0] S2048x512.size inb_S2048x512_S2048x512_0_0).toLoadRect ((hs0_0 t).unread (iblk m c 0 t))
@[inherit_doc ldG]
def ldU : Vec Ideal S2048x512 .bf16 := View.readAt (Elt Ideal) (ms0_1 t).view
  (Rect.unit (s := S2048x512) ![0, 0] S2048x512.size inb_S2048x512_S2048x512_0_0).toLoadRect ((hs0_1 t).unread (iblk m c 1 t))
@[inherit_doc ldG]
def ldW : Vec Ideal S512x2048 .bf16 := View.readAt (Elt Ideal) (ms0_2 t).view
  (Rect.unit (s := S512x2048) ![0, 0] S512x2048.size inb_S512x2048_S512x2048_0_0).toLoadRect ((hs0_2 t).unread (iblk m c 2 t))
/-- 256 staged rows lie inside the block. -/
theorem inb3 {o : ℕ} (h : o + 256 ≤ 1024) : ∀ a, (![0, o, 0] : Fin 3 → ℕ) a + S1x256x2048.size a ≤ S1x1024x2048.size a := by
  intro a; fin_cases a <;> simp <;> omega
/-- 256 scratch rows lie inside the scratch. -/
theorem inb2 {o : ℕ} (h : o + 256 ≤ 1024) : ∀ a, (![o, 0] : Fin 2 → ℕ) a + S256x2048.size a ≤ S1024x2048.size a := by
  intro a; fin_cases a <;> simp <;> omega
@[inherit_doc ldG]
def ldX (o : ℕ) (h : o + 256 ≤ 1024) : Vec Ideal S1x256x2048 .f32 := View.readAt (Elt Ideal) (ms0_3 t).view
  (Rect.unit (s := S1x1024x2048) ![0, o, 0] S1x256x2048.size (inb3 h)).toLoadRect ((hs0_3 t).unread (iblk m c 3 t))
@[inherit_doc ldG]
def ldO (x : Vec Ideal S1x1024x2048 .f32) (o : ℕ) (h : o + 256 ≤ 1024) : Vec Ideal S1x256x2048 .f32 :=
  View.readAt (Elt Ideal) (ms0_7 t).view
    (Rect.unit (s := S1x1024x2048) ![0, o, 0] S1x256x2048.size (inb3 h)).toLoadRect ((hs0_7 t).unread x)
@[inherit_doc ldG]
def ldO' (x : Vec Ideal S1x1024x2048 .f32) : Vec Ideal S1x1024x2048 .f32 := View.readAt (Elt Ideal) (ms0_7 t).view
  (Rect.unit (s := S1x1024x2048) ![0, 0, 0] S1x1024x2048.size inb_S1x1024x2048_S1x1024x2048_0_0_0).toLoadRect ((hs0_7 t).unread x)
@[inherit_doc ldG]
def ldH (x : Vec Ideal S1024x2048 .bf16) (o : ℕ) (h : o + 256 ≤ 1024) : Vec Ideal S256x2048 .bf16 :=
  View.readAt (Elt Ideal) scM0_0.view
    (Rect.unit (s := S1024x2048) ![o, 0] S256x2048.size (inb2 h)).toLoadRect ((Memref.isWhole_whole _ : scM0_0.IsWhole).unread x)
@[inherit_doc ldG]
def ldH' (x : Vec Ideal S1024x2048 .bf16) : Vec Ideal S1024x2048 .bf16 := View.readAt (Elt Ideal) scM0_0.view
  (Rect.unit (s := S1024x2048) ![0, 0] S1024x2048.size inb_S1024x2048_S1024x2048_0_0).toLoadRect
    ((Memref.isWhole_whole _ : scM0_0.IsWhole).unread x)
@[inherit_doc ldG]
def ldg : Vec Ideal S1x2048 .f32 := View.readAt (Elt Ideal) (ms0_5 t).view
  (Rect.unit (s := S1x2048) ![0, 0] S1x2048.size inb_S1x2048_S1x2048_0_0).toLoadRect ((hs0_5 t).unread (iblk m c 5 t))
@[inherit_doc ldG]
def ldb : Vec Ideal S1x2048 .f32 := View.readAt (Elt Ideal) (ms0_6 t).view
  (Rect.unit (s := S1x2048) ![0, 0] S1x2048.size inb_S1x2048_S1x2048_0_0).toLoadRect ((hs0_6 t).unread (iblk m c 6 t))
@[inherit_doc ldG]
def ldM (off : Fin 2 → ℕ) (h : ∀ a, off a + S1x2048.size a ≤ S4x8192.size a) : Vec Ideal S1x2048 .f32 :=
  View.readAt (Elt Ideal) (ms0_4 t).view (Rect.unit (s := S4x8192) off S1x2048.size h).toLoadRect ((hs0_4 t).unread (iblk m c 4 t))

/-- The first row of the modulation lies inside it. -/
theorem in1 : ∀ a, k0_off1 (grid0.coords t) a + S1x2048.size a ≤ S4x8192.size a := by
  have := t88 t
  rw [(offs t).1]; intro a; fin_cases a <;> simp <;> omega
/-- The second row of the modulation lies inside it. -/
theorem in2 : ∀ a, k0_off2 (grid0.coords t) a + S1x2048.size a ≤ S4x8192.size a := by
  have := t88 t
  rw [(offs t).2.1]; intro a; fin_cases a <;> simp <;> omega
/-- The third row of the modulation lies inside it. -/
theorem in3 : ∀ a, k0_off3 (grid0.coords t) a + S1x2048.size a ≤ S4x8192.size a := by
  have := t88 t
  rw [(offs t).2.2]; intro a; fin_cases a <;> simp <;> omega

/-- A whole load of the gate columns. -/
theorem ldG_apply (l : Fin 2048) (k : Fin 512) : ldG m c t (ix2 l k) =
    m ((c : Thread nD τ).loc main_arg0) (ix2 l ⟨512 * (t.val % 11) + k, by omega⟩) := by
  refine (((hs0_0 t).readAt_unread _ _ _).trans (congrArg (iblk m c 0 t) ?_)).trans (blkG m c t l k)
  funext a; fin_cases a <;> refine Fin.ext ?_ <;> simp [LoadRect.idx, ix2]
/-- A whole load of the columns beside the gate. -/
theorem ldU_apply (l : Fin 2048) (k : Fin 512) : ldU m c t (ix2 l k) =
    m ((c : Thread nD τ).loc main_arg0) (ix2 l ⟨5632 + 512 * (t.val % 11) + k, by omega⟩) := by
  refine (((hs0_1 t).readAt_unread _ _ _).trans (congrArg (iblk m c 1 t) ?_)).trans (blkU m c t l k)
  funext a; fin_cases a <;> refine Fin.ext ?_ <;> simp [LoadRect.idx, ix2]
/-- A whole load of the rows of the output weight. -/
theorem ldW_apply (k : Fin 512) (d : Fin 2048) : ldW m c t (ix2 k d) =
    m ((c : Thread nD τ).loc main_arg1) (ix2 ⟨512 * (t.val % 11) + k, by omega⟩ d) := by
  refine (((hs0_2 t).readAt_unread _ _ _).trans (congrArg (iblk m c 2 t) ?_)).trans (blkW m c t k d)
  funext a; fin_cases a <;> refine Fin.ext ?_ <;> simp [LoadRect.idx, ix2]
/-- A load of 256 rows of the tokens. -/
theorem ldX_apply (o : ℕ) (h : o + 256 ≤ 1024) (r : Fin 256) (d : Fin 2048) : ldX m c t o h (ix3 0 r d) =
    m ((c : Thread nD τ).loc main_arg2) (ix3 ⟨t.val / 22, by have := t88 t; omega⟩ ⟨1024 * (t.val / 11 % 2) + (o + r), by omega⟩ d) := by
  refine (((hs0_3 t).readAt_unread _ _ _).trans (congrArg (iblk m c 3 t) ?_)).trans (blkX m c t ⟨o + r, by omega⟩ d)
  funext a; fin_cases a <;> refine Fin.ext ?_ <;> simp [LoadRect.idx, ix3]
/-- A load of 256 rows of the output. -/
theorem ldO_apply (x : Vec Ideal S1x1024x2048 .f32) (o : ℕ) (h : o + 256 ≤ 1024) (r : Fin 256) (d : Fin 2048) :
    ldO t x o h (ix3 0 r d) = x (ix3 0 ⟨o + r, by omega⟩ d) := by
  refine ((hs0_7 t).readAt_unread _ _ _).trans (congrArg x ?_)
  funext a; fin_cases a <;> refine Fin.ext ?_ <;> simp [LoadRect.idx, ix3]
/-- A whole load of the output. -/
theorem ldO'_apply (x : Vec Ideal S1x1024x2048 .f32) (r : Fin 1024) (d : Fin 2048) :
    ldO' t x (ix3 0 r d) = x (ix3 0 r d) := by
  refine ((hs0_7 t).readAt_unread _ _ _).trans (congrArg x ?_)
  funext a; fin_cases a <;> refine Fin.ext ?_ <;> simp [LoadRect.idx, ix3]
/-- A load of 256 rows of the scratch. -/
theorem ldH_apply (x : Vec Ideal S1024x2048 .bf16) (o : ℕ) (h : o + 256 ≤ 1024) (r : Fin 256) (d : Fin 2048) :
    ldH x o h (ix2 r d) = x (ix2 ⟨o + r, by omega⟩ d) := by
  refine ((Memref.isWhole_whole _ : scM0_0.IsWhole).readAt_unread _ _ _).trans (congrArg x ?_)
  funext a; fin_cases a <;> refine Fin.ext ?_ <;> simp [LoadRect.idx, ix2]
/-- A whole load of the scratch. -/
theorem ldH'_apply (x : Vec Ideal S1024x2048 .bf16) (r : Fin 1024) (d : Fin 2048) :
    ldH' x (ix2 r d) = x (ix2 r d) := by
  refine ((Memref.isWhole_whole _ : scM0_0.IsWhole).readAt_unread _ _ _).trans (congrArg x ?_)
  funext a; fin_cases a <;> refine Fin.ext ?_ <;> simp [LoadRect.idx, ix2]
/-- The load of the gain. -/
theorem ldg_apply (n : Fin 2048) : ldg m c t (ix2 0 n) = m ((c : Thread nD τ).loc main_arg4) (ix1 n) := by
  refine (((hs0_5 t).readAt_unread _ _ _).trans (congrArg (iblk m c 5 t) ?_)).trans (blkg m c t n)
  funext a; fin_cases a <;> refine Fin.ext ?_ <;> simp [LoadRect.idx, ix2]
/-- The load of the offset. -/
theorem ldb_apply (n : Fin 2048) : ldb m c t (ix2 0 n) = m ((c : Thread nD τ).loc main_arg5) (ix1 n) := by
  refine (((hs0_6 t).readAt_unread _ _ _).trans (congrArg (iblk m c 6 t) ?_)).trans (blkb m c t n)
  funext a; fin_cases a <;> refine Fin.ext ?_ <;> simp [LoadRect.idx, ix2]
/-- A load of a row of the modulation. -/
theorem ldM_apply (off : Fin 2 → ℕ) (h : ∀ a, off a + S1x2048.size a ≤ S4x8192.size a) (b : Fin 4) (o : ℕ) (ho : o + 2048 ≤ 8192)
    (e : off = ![b.val, o]) (n : Fin 2048) :
    ldM m c t off h (ix2 0 n) = m ((c : Thread nD τ).loc main_arg3) (ix2 b ⟨o + n, by omega⟩) := by
  subst e
  refine (((hs0_4 t).readAt_unread _ _ _).trans (congrArg (iblk m c 4 t) ?_)).trans (blkM m c t b _)
  funext a; fin_cases a <;> refine Fin.ext ?_ <;> simp [LoadRect.idx, ix2]

/-- The rows of hidden activations the first step stores. -/
def hPieces : List (View.Piece (Elt Ideal) S1024x2048 .bf16) :=
  let A := ldM m c t (k0_off1 (grid0.coords t)) (in1 t)
  let B := ldM m c t (k0_off2 (grid0.coords t)) (in2 t)
  [⟨Rect.unit (s := S1024x2048) ![768, 0] S256x2048.size inb_S1024x2048_S256x2048_768_0, k0_pay10 A B (ldX m c t 768 (by omega))⟩,
   ⟨Rect.unit (s := S1024x2048) ![512, 0] S256x2048.size inb_S1024x2048_S256x2048_512_0, k0_pay9 (k0_pay8 A B (ldX m c t 512 (by omega)))⟩,
   ⟨Rect.unit (s := S1024x2048) ![256, 0] S256x2048.size inb_S1024x2048_S256x2048_256_0,
      k0_pay7 A B (k0_pay5 (ldX m c t 256 (by omega))) (k0_pay6 (ldX m c t 256 (by omega)))⟩,
   ⟨Rect.unit (s := S1024x2048) ![0, 0] S256x2048.size inb_S1024x2048_S256x2048_0_0, k0_pay4 A B (ldX m c t 0 (by omega))⟩]

/-- What the first step reads back of them. -/
def ldHid : Vec Ideal S1024x2048 .bf16 := scM0_0.view.readCov (hPieces m c t)
  (Rect.unit (s := S1024x2048) ![0, 0] S1024x2048.size inb_S1024x2048_S1024x2048_0_0).toLoadRect

/-- What the first step stores in the output. -/
def aPieces : List (View.Piece (Elt Ideal) S1x1024x2048 .f32) :=
  [⟨Rect.unit (s := S1x1024x2048) ![0, 0, 0] S1x1024x2048.size inb_S1x1024x2048_S1x1024x2048_0_0_0,
    k0_pay1 (k0_pay11 (ldHid m c t) (ldG m c t) (ldU m c t)) (k0_pay12 (ldHid m c t) (ldG m c t) (ldU m c t))
      (Scalar.ofBits .f32 0x3F000000#32) (ldW m c t)⟩]

/-- What a later step stores in the output, from what the step before left. -/
def bPieces (x : Vec Ideal S1x1024x2048 .f32) (h : Vec Ideal S1024x2048 .bf16) : List (View.Piece (Elt Ideal) S1x1024x2048 .f32) :=
  [⟨Rect.unit (s := S1x1024x2048) ![0, 0, 0] S1x1024x2048.size inb_S1x1024x2048_S1x1024x2048_0_0_0,
    k0_pay2 (ldO' t x) (ldH' h) (ldG m c t) (ldU m c t) (ldW m c t)⟩]

/-- What the last step stores in the output, from what the step before left. -/
def cPieces (x : Vec Ideal S1x1024x2048 .f32) (h : Vec Ideal S1024x2048 .bf16) : List (View.Piece (Elt Ideal) S1x1024x2048 .f32) :=
  let A := ldM m c t (k0_off3 (grid0.coords t)) (in3 t)
  let G := ldG m c t
  let U := ldU m c t
  let W := ldW m c t
  [⟨Rect.unit (s := S1x1024x2048) ![0, 768, 0] S1x256x2048.size inb_S1x1024x2048_S1x256x2048_0_768_0,
      k0_pay3 (k0_pay22 A (ldO t x 768 (by omega)) (ldH h 768 (by omega)) G U W (ldX m c t 768 (by omega))) (ldg m c t) (ldb m c t)⟩,
   ⟨Rect.unit (s := S1x1024x2048) ![0, 512, 0] S1x256x2048.size inb_S1x1024x2048_S1x256x2048_0_512_0,
      k0_pay21 (k0_pay19 A (k0_pay18 (ldO t x 512 (by omega))) (ldH h 512 (by omega)) G U W (ldX m c t 512 (by omega)))
        (k0_pay20 (ldg m c t)) (ldb m c t)⟩,
   ⟨Rect.unit (s := S1x1024x2048) ![0, 256, 0] S1x256x2048.size inb_S1x1024x2048_S1x256x2048_0_256_0,
      k0_pay17 A (k0_pay16 (ldO t x 256 (by omega)) (ldH h 256 (by omega)) G U W) (ldX m c t 256 (by omega)) (ldg m c t) (ldb m c t)⟩,
   ⟨Rect.unit (s := S1x1024x2048) ![0, 0, 0] S1x256x2048.size inb_S1x1024x2048_S1x256x2048_0_0_0,
      k0_pay15 (k0_pay13 A (ldO t x 0 (by omega)) (ldH h 0 (by omega)) G U W (ldX m c t 0 (by omega)))
        (k0_pay14 A (ldO t x 0 (by omega)) (ldH h 0 (by omega)) G U W (ldX m c t 0 (by omega)))
        (Scalar.ofBits .f32 0x45000000#32) (ldg m c t) (ldb m c t)⟩]

set_option maxHeartbeats 4000000 in
/-- The first step of a run of eleven stores the hidden activations. -/
theorem scr_A (h : t.val % 11 = 0) : (outsAt0 m c t.val t.isLt).2 = View.canon (hPieces m c t) := by
  rw [outsAt0_A m c t h (by omega) (by omega)]
  dsimp only
  unfold sout0_A_0
  rw [View.read_writes_eq_canon _ _ _ (scover0_A_0 c _ _ _ _ _ _ _ _ _ _ _ _ _ _ _ _ _ _ _ _ _ _ _ _ _ _ _ _ _)]
  unfold kernelRun0_A
  dsimp only
  exact congrArg View.canon (by with_unfolding_all rfl)

set_option maxHeartbeats 4000000 in
/-- The first step of a run of eleven stores its part of the output. -/
theorem out_A (h : t.val % 11 = 0) : (outsAt0 m c t.val t.isLt).1 = View.canon (aPieces m c t) := by
  rw [outsAt0_A m c t h (by omega) (by omega)]
  dsimp only
  unfold out0_A_7
  rw [View.read_writes_eq_canon _ _ _ (cover0_A_7 c _ _ _ _ _ _ _ _ _ _ _ _ _ _ _ _ _ _ _ _ _ _ _ _ _ _ _ _ _)]
  unfold kernelRun0_A
  dsimp only
  exact congrArg View.canon (by with_unfolding_all rfl)

/-- The outputs before a grid point. -/
abbrev prev : Vec Ideal S1x1024x2048 .f32 × Vec Ideal S1024x2048 .bf16 :=
  outsAt0 m c (t.val - 1) (Nat.lt_of_le_of_lt (Nat.sub_le _ _) t.isLt)

set_option maxHeartbeats 4000000 in
/-- A later step adds its part. -/
theorem out_B (h : 1 ≤ t.val % 11 ∧ t.val % 11 ≤ 9) :
    (outsAt0 m c t.val t.isLt).1 = View.canon (bPieces m c t (prev m c t).1 (prev m c t).2) := by
  rw [outsAt0_B m c t (by omega) h (by omega)]
  dsimp only
  unfold out0_B_7
  rw [View.read_writes_eq_canon _ _ _ (cover0_B_7 c _ _ _ _ _ _ _ _ _ _ _ _ _ _ _ _ _ _ _ _ _ _ _ _ _ _ _ _ _ _ _)]
  unfold kernelRun0_B
  dsimp only
  exact congrArg View.canon (by with_unfolding_all rfl)

/-- A later step keeps the hidden activations. -/
theorem scr_B (h : 1 ≤ t.val % 11 ∧ t.val % 11 ≤ 9) : (outsAt0 m c t.val t.isLt).2 = (prev m c t).2 := by
  rw [outsAt0_B m c t (by omega) h (by omega)]
  rfl

set_option maxHeartbeats 4000000 in
/-- The last step adds its part and finishes. -/
theorem out_C (h : t.val % 11 = 10) :
    (outsAt0 m c t.val t.isLt).1 = View.canon (cPieces m c t (prev m c t).1 (prev m c t).2) := by
  rw [outsAt0_C m c t (by omega) (by omega) h]
  dsimp only
  unfold out0_C_7
  rw [View.read_writes_eq_canon _ _ _ (cover0_C_7 c _ _ _ _ _ _ _ _ _ _ _ _ _ _ _ _ _ _ _ _ _ _ _ _ _ _ _ _ _ _ _)]
  unfold kernelRun0_C
  dsimp only
  exact congrArg View.canon (by with_unfolding_all rfl)

end Cert.FfnIdeal.Own
-- ==== Proof.FfnFold.lean ====
module

public import proofs.«01_k».proof.Proof.Gen.FfnIdeal.Value
public import proofs.«01_k».proof.Proof.FfnOuts
public import Idealize.ShloMosaic.Lib.Pipeline.ValueKit
public import Idealize.ShloMosaic.Lib.WholeRead

@[expose] public section

set_option maxRecDepth 16384

noncomputable section

namespace Cert.FfnIdeal.Own

open Cert.FfnIdeal Cert.FfnIdeal.Gen Idealize.ShloMosaic Idealize.ShloMosaic.TcCoe Idealize.SL.Sem Idealize.ShloMosaic.Tactic

variable (m : (ℓ : Loc nD τ sig) → Buf (Elt Ideal) ℓ) (c : Dev nD) (t : Fin cfg0.N)

/-- The hidden activations of a row. -/
def hid (b : Fin 4) (R d : Fin 2048) : EReal :=
  modu (fun k => m ((c : Thread nD τ).loc main_arg2) (ix3 b R k))
    (fun k => m ((c : Thread nD τ).loc main_arg3) (ix2 b ⟨2048 + k, by omega⟩))
    (fun k => m ((c : Thread nD τ).loc main_arg3) (ix2 b ⟨4096 + k, by omega⟩)) d

/-- The part of one block of hidden units. -/
def prt (b : Fin 4) (R d : Fin 2048) (f : ℕ) : EReal :=
  if h : f < 11 then
    part (hid m c b R) (fun l k => m ((c : Thread nD τ).loc main_arg0) (ix2 l ⟨512 * f + k, by omega⟩))
      (fun l k => m ((c : Thread nD τ).loc main_arg0) (ix2 l ⟨5632 + 512 * f + k, by omega⟩))
      (fun k => m ((c : Thread nD τ).loc main_arg1) (ix2 ⟨512 * f + k, by omega⟩ d))
  else 0

/-- The batch of a grid point. -/
def tb : Fin 4 := ⟨t.val / 22, by have := t88 t; omega⟩
/-- The row of the tokens a row of a grid point's block is. -/
def tr (r : Fin 1024) : Fin 2048 := ⟨1024 * (t.val / 11 % 2) + r, by omega⟩

/-- The shift of the hidden activations. -/
theorem ldM1 (n : Fin 2048) : ldM m c t (k0_off1 (grid0.coords t)) (in1 t) (ix2 0 n) =
    m ((c : Thread nD τ).loc main_arg3) (ix2 (tb t) ⟨2048 + n, by omega⟩) := ldM_apply m c t _ _ (tb t) 2048 (by omega) (offs t).1 n
/-- The scale of the hidden activations. -/
theorem ldM2 (n : Fin 2048) : ldM m c t (k0_off2 (grid0.coords t)) (in2 t) (ix2 0 n) =
    m ((c : Thread nD τ).loc main_arg3) (ix2 (tb t) ⟨4096 + n, by omega⟩) := ldM_apply m c t _ _ (tb t) 4096 (by omega) (offs t).2.1 n
/-- The gate of the output. -/
theorem ldM3 (n : Fin 2048) : ldM m c t (k0_off3 (grid0.coords t)) (in3 t) (ix2 0 n) =
    m ((c : Thread nD τ).loc main_arg3) (ix2 (tb t) ⟨6144 + n, by omega⟩) := ldM_apply m c t _ _ (tb t) 6144 (by omega) (offs t).2.2 n

/-- An index of a matrix, by its coordinates. -/
theorem ix2_of {a b : ℕ} (x : Shape.Idx ⟨2, ![a, b]⟩) : ∃ (r : Fin a) (k : Fin b), x = ix2 r k :=
  ⟨x 0, x 1, by funext e; fin_cases e <;> rfl⟩
/-- An index of a matrix with a leading axis of one, by its coordinates. -/
theorem ix3_of {a b : ℕ} (x : Shape.Idx ⟨3, ![1, a, b]⟩) : ∃ (r : Fin a) (k : Fin b), x = ix3 0 r k :=
  ⟨x 1, x 2, by funext e; fin_cases e <;> first | rfl | (refine Fin.ext ?_; have : (x 0).val < 1 := (x 0).isLt; show (x 0).val = 0; omega)⟩

/-- The hidden activations the stored pieces make. -/
def hidAt (y : S1024x2048.Idx) : EReal := hid m c (tb t) (tr t (y 0)) (y 1)

/-- Where 256 rows of the scratch lie in it. -/
theorem emb2 (o : ℕ) (h : o + 256 ≤ 1024) (r : Fin 256) (k : Fin 2048) :
    (Rect.unit (s := S1024x2048) ![o, 0] S256x2048.size (inb2 h)).emb (ix2 r k) = ix2 ⟨o + r, by omega⟩ k := by
  funext a
  fin_cases a <;> refine Fin.ext ?_
  · show o + 1 * r.val = o + r.val; omega
  · show 0 + 1 * k.val = k.val; omega
/-- Where 256 rows of the output block lie in it. -/
theorem emb3 (o : ℕ) (h : o + 256 ≤ 1024) (r : Fin 256) (k : Fin 2048) :
    (Rect.unit (s := S1x1024x2048) ![0, o, 0] S1x256x2048.size (inb3 h)).emb (ix3 0 r k) = ix3 0 ⟨o + r, by omega⟩ k := by
  funext a
  fin_cases a <;> refine Fin.ext ?_
  · rfl
  · show o + 1 * r.val = o + r.val; omega
  · show 0 + 1 * k.val = k.val; omega

/-- A piece of the hidden activations. -/
theorem hid_piece (o : ℕ) (h : o + 256 ≤ 1024) (r : Fin 256) (k : Fin 2048) :
    modu (fun k => ldX m c t o h (ix3 0 r k)) (fun k => ldM m c t (k0_off1 (grid0.coords t)) (in1 t) (ix2 0 k))
      (fun k => ldM m c t (k0_off2 (grid0.coords t)) (in2 t) (ix2 0 k)) k =
    hidAt m c t ((Rect.unit (s := S1024x2048) ![o, 0] S256x2048.size (inb2 h)).emb (ix2 r k)) := by
  rw [emb2 o h r k]
  simp only [ldX_apply, ldM1, ldM2]
  rfl

/-- Every piece is a part of the hidden activations. -/
theorem hPieces_part : ∀ p ∈ hPieces m c t, ∀ x : p.1.shape.Idx, p.2 x = hidAt m c t (p.1.emb x) := by
  intro p hp
  simp only [hPieces, List.mem_cons, List.not_mem_nil, or_false] at hp
  rcases hp with rfl | rfl | rfl | rfl
  · intro x
    obtain ⟨r, k, rfl⟩ := ix2_of x
    exact (ln_d _ _ _ r k).trans (hid_piece m c t 768 (by omega) r k)
  · intro x
    obtain ⟨r, k, rfl⟩ := ix2_of x
    exact (ln_c _ _ _ r k).trans (hid_piece m c t 512 (by omega) r k)
  · intro x
    obtain ⟨r, k, rfl⟩ := ix2_of x
    exact (ln_b _ _ _ r k).trans (hid_piece m c t 256 (by omega) r k)
  · intro x
    obtain ⟨r, k, rfl⟩ := ix2_of x
    exact (ln_a _ _ _ r k).trans (hid_piece m c t 0 (by omega) r k)

/-- The scratch holds the hidden activations. -/
theorem hPieces_canon (r : Fin 1024) (d : Fin 2048) : View.canon (hPieces m c t) (ix2 r d) = hid m c (tb t) (tr t r) d :=
  View.canon_apply_of_pieces (hidAt m c t) _ (hPieces_part m c t) (ix2 r d)
    (View.cover_of_tiledL (hPieces m c t) S256x2048.size (by sl_kernel_rfl) (ix2 r d))

/-- The first step reads back the hidden activations. -/
theorem ldHid_apply (r : Fin 1024) (d : Fin 2048) : ldHid m c t (ix2 r d) = hid m c (tb t) (tr t r) d := by
  unfold ldHid
  rw [View.readCov_eq_canon']
  refine (congrArg (View.canon (hPieces m c t)) ?_).trans (hPieces_canon m c t r d)
  funext a; fin_cases a <;> refine Fin.ext ?_ <;> simp [LoadRect.idx, ix2]

/-- The part a grid point adds, from hidden activations. -/
theorem part_eq (h : Fin 2048 → EReal) (r : Fin 1024) (d : Fin 2048) (e : ∀ l, h l = hid m c (tb t) (tr t r) l) :
    part h (fun l k => ldG m c t (ix2 l k)) (fun l k => ldU m c t (ix2 l k)) (fun k => ldW m c t (ix2 k d)) =
      prt m c (tb t) (tr t r) d (t.val % 11) := by
  obtain rfl : h = hid m c (tb t) (tr t r) := funext e
  unfold prt
  rw [dif_pos (by omega)]
  simp only [ldG_apply, ldU_apply, ldW_apply]

/-- A whole block lies in itself. -/
theorem emb3' (h : ∀ a, (![0, 0, 0] : Fin 3 → ℕ) a + S1x1024x2048.size a ≤ S1x1024x2048.size a) (r : Fin 1024) (k : Fin 2048) :
    (Rect.unit (s := S1x1024x2048) ![0, 0, 0] S1x1024x2048.size h).emb (ix3 0 r k) = ix3 0 r k := by
  funext a
  fin_cases a <;> refine Fin.ext ?_
  · rfl
  · show 0 + 1 * r.val = r.val; omega
  · show 0 + 1 * k.val = k.val; omega

/-- What the first step leaves. -/
theorem out_A_apply (h : t.val % 11 = 0) (r : Fin 1024) (d : Fin 2048) :
    (outsAt0 m c t.val t.isLt).1 (ix3 0 r d) = prt m c (tb t) (tr t r) d 0 := by
  rw [out_A m c t h]
  refine View.canon_apply_of_pieces (fun y => prt m c (tb t) (tr t (y 1)) (y 2) 0) _ ?_ (ix3 0 r d)
    (View.cover_of_tiledL (aPieces m c t) S1x1024x2048.size (by sl_kernel_rfl) (ix3 0 r d))
  intro p hp
  simp only [aPieces, List.mem_cons, List.not_mem_nil, or_false] at hp
  subst hp
  intro x
  obtain ⟨r, k, rfl⟩ := ix3_of x
  refine (first_part _ _ _ _ r k).trans ((part_eq m c t _ r k (fun l => ldHid_apply m c t r l)).trans ?_)
  rw [h, emb3']
  rfl

/-- What a later step leaves. -/
theorem out_B_apply (h : 1 ≤ t.val % 11 ∧ t.val % 11 ≤ 9) (r : Fin 1024) (d : Fin 2048)
    (e : ∀ (r : Fin 1024) l, (prev m c t).2 (ix2 r l) = hid m c (tb t) (tr t r) l) :
    (outsAt0 m c t.val t.isLt).1 (ix3 0 r d) = (prev m c t).1 (ix3 0 r d) + prt m c (tb t) (tr t r) d (t.val % 11) := by
  rw [out_B m c t h]
  refine View.canon_apply_of_pieces (fun y => ((prev m c t).1 (ix3 0 (y 1) (y 2)) : EReal) + prt m c (tb t) (tr t (y 1)) (y 2) (t.val % 11))
    _ ?_ (ix3 0 r d)
    (View.cover_of_tiledL (bPieces m c t (prev m c t).1 (prev m c t).2) S1x1024x2048.size (by sl_kernel_rfl) (ix3 0 r d))
  intro p hp
  simp only [bPieces, List.mem_cons, List.not_mem_nil, or_false] at hp
  subst hp
  intro x
  obtain ⟨r, k, rfl⟩ := ix3_of x
  refine (next_part _ _ _ _ _ r k).trans ((congrArg₂ (· + ·) (ldO'_apply t _ r k)
    (part_eq m c t _ r k (fun l => (ldH'_apply _ r l).trans (e r l)))).trans ?_)
  rw [emb3']
  rfl

/-- A finished row: the residual and the gated output, normalized. -/
def fin (b : Fin 4) (R : Fin 2048) (o : Fin 2048 → EReal) (d : Fin 2048) : EReal :=
  nrm (resid (fun j => m ((c : Thread nD τ).loc main_arg2) (ix3 b R j))
    (fun j => m ((c : Thread nD τ).loc main_arg3) (ix2 b ⟨6144 + j, by omega⟩)) o) d *
    m ((c : Thread nD τ).loc main_arg4) (ix1 d) + m ((c : Thread nD τ).loc main_arg5) (ix1 d)

/-- A piece of the finished rows. -/
theorem fin_piece (e : ∀ (r : Fin 1024) l, (prev m c t).2 (ix2 r l) = hid m c (tb t) (tr t r) l)
    (o : ℕ) (h : o + 256 ≤ 1024) (r : Fin 256) (d : Fin 2048) :
    nrm (resid (fun j => ldX m c t o h (ix3 0 r j)) (fun j => ldM m c t (k0_off3 (grid0.coords t)) (in3 t) (ix2 0 j))
      (fun j => ldO t (prev m c t).1 o h (ix3 0 r j) + part (fun l => ldH (prev m c t).2 o h (ix2 r l))
        (fun l k => ldG m c t (ix2 l k)) (fun l k => ldU m c t (ix2 l k)) (fun k => ldW m c t (ix2 k j)))) d *
      ldg m c t (ix2 0 d) + ldb m c t (ix2 0 d) =
    (fun y : S1x1024x2048.Idx => fin m c (tb t) (tr t (y 1))
      (fun j => (prev m c t).1 (ix3 0 (y 1) j) + prt m c (tb t) (tr t (y 1)) j (t.val % 11)) (y 2))
        ((Rect.unit (s := S1x1024x2048) ![0, o, 0] S1x256x2048.size (inb3 h)).emb (ix3 0 r d)) := by
  rw [emb3 o h r d]
  simp only [ldX_apply, ldM3, ldO_apply, ldg_apply, ldb_apply]
  simp only [part_eq m c t _ ⟨o + r, by omega⟩ _ (fun l => (ldH_apply _ o h r l).trans (e _ l))]
  rfl

/-- What the last step leaves. -/
theorem out_C_apply (h : t.val % 11 = 10) (r : Fin 1024) (d : Fin 2048)
    (e : ∀ (r : Fin 1024) l, (prev m c t).2 (ix2 r l) = hid m c (tb t) (tr t r) l) :
    (outsAt0 m c t.val t.isLt).1 (ix3 0 r d) = fin m c (tb t) (tr t r)
      (fun j => (prev m c t).1 (ix3 0 r j) + prt m c (tb t) (tr t r) j (t.val % 11)) d := by
  rw [out_C m c t h]
  refine View.canon_apply_of_pieces (fun y : S1x1024x2048.Idx => fin m c (tb t) (tr t (y 1))
      (fun j => (prev m c t).1 (ix3 0 (y 1) j) + prt m c (tb t) (tr t (y 1)) j (t.val % 11)) (y 2))
    _ ?_ (ix3 0 r d)
    (View.cover_of_tiledL (cPieces m c t (prev m c t).1 (prev m c t).2) S1x256x2048.size (by sl_kernel_rfl) (ix3 0 r d))
  intro p hp
  simp only [cPieces, List.mem_cons, List.not_mem_nil, or_false] at hp
  rcases hp with rfl | rfl | rfl | rfl
  · intro x
    obtain ⟨r, k, rfl⟩ := ix3_of x
    exact (last_d _ _ _ _ _ _ _ _ _ r k).trans (fin_piece m c t e 768 (by omega) r k)
  · intro x
    obtain ⟨r, k, rfl⟩ := ix3_of x
    exact (last_c _ _ _ _ _ _ _ _ _ r k).trans (fin_piece m c t e 512 (by omega) r k)
  · intro x
    obtain ⟨r, k, rfl⟩ := ix3_of x
    exact (last_b _ _ _ _ _ _ _ _ _ r k).trans (fin_piece m c t e 256 (by omega) r k)
  · intro x
    obtain ⟨r, k, rfl⟩ := ix3_of x
    exact (last_a _ _ _ _ _ _ _ _ _ r k).trans (fin_piece m c t e 0 (by omega) r k)

/-- Through a run of eleven steps the scratch holds the hidden activations and the output the sum of the parts so far. -/
theorem fold (n : ℕ) : ∀ (hn : n < cfg0.N), n % 11 ≤ 9 →
    (∀ (r : Fin 1024) l, (outsAt0 m c n hn).2 (ix2 r l) = hid m c (tb ⟨n, hn⟩) (tr ⟨n, hn⟩ r) l) ∧
    ∀ (r : Fin 1024) d, (outsAt0 m c n hn).1 (ix3 0 r d) =
      ∑ f ∈ Finset.range (n % 11 + 1), prt m c (tb ⟨n, hn⟩) (tr ⟨n, hn⟩ r) d f := by
  induction n with
  | zero =>
    intro hn _
    refine ⟨fun r l => ?_, fun r d => ?_⟩
    · rw [scr_A m c ⟨0, hn⟩ rfl]; exact hPieces_canon m c _ r l
    · rw [out_A_apply m c ⟨0, hn⟩ rfl]; simp
  | succ n ih =>
    intro hn h9
    by_cases h0 : (n + 1) % 11 = 0
    · refine ⟨fun r l => ?_, fun r d => ?_⟩
      · rw [scr_A m c ⟨n + 1, hn⟩ h0]; exact hPieces_canon m c _ r l
      · rw [out_A_apply m c ⟨n + 1, hn⟩ h0, h0]; simp
    · have hb : 1 ≤ (n + 1) % 11 ∧ (n + 1) % 11 ≤ 9 := ⟨by omega, h9⟩
      obtain ⟨i1, i2⟩ := ih (by omega) (by omega)
      have eb : tb ⟨n, by omega⟩ = tb ⟨n + 1, hn⟩ := Fin.ext (show n / 22 = (n + 1) / 22 by omega)
      have er : ∀ r, tr ⟨n, by omega⟩ r = tr ⟨n + 1, hn⟩ r := fun r =>
        Fin.ext (show 1024 * (n / 11 % 2) + r.val = 1024 * ((n + 1) / 11 % 2) + r.val by omega)
      simp only [eb, er] at i1 i2
      refine ⟨fun r l => ?_, fun r d => ?_⟩
      · rw [scr_B m c ⟨n + 1, hn⟩ hb]; exact i1 r l
      · rw [out_B_apply m c ⟨n + 1, hn⟩ hb r d i1, show (n + 1) % 11 = n % 11 + 1 by omega, Finset.sum_range_succ]
        exact congrArg₂ (· + ·) (i2 r d) rfl

/-- What a run of eleven steps leaves. -/
theorem run_apply (h : t.val % 11 = 10) (r : Fin 1024) (d : Fin 2048) :
    (outsAt0 m c t.val t.isLt).1 (ix3 0 r d) = fin m c (tb t) (tr t r)
      (fun j => ∑ f ∈ Finset.range 11, prt m c (tb t) (tr t r) j f) d := by
  have ht := t88 t
  obtain ⟨i1, i2⟩ := fold m c (t.val - 1) (Nat.lt_of_le_of_lt (Nat.sub_le _ _) t.isLt) (by omega)
  have eb : tb ⟨t.val - 1, Nat.lt_of_le_of_lt (Nat.sub_le _ _) t.isLt⟩ = tb t := Fin.ext (show (t.val - 1) / 22 = t.val / 22 by omega)
  have er : ∀ r, tr ⟨t.val - 1, Nat.lt_of_le_of_lt (Nat.sub_le _ _) t.isLt⟩ r = tr t r := fun r =>
    Fin.ext (show 1024 * ((t.val - 1) / 11 % 2) + r.val = 1024 * (t.val / 11 % 2) + r.val by omega)
  simp only [eb, er] at i1 i2
  rw [out_C_apply m c t h r d i1]
  refine congrArg (fun o => fin m c (tb t) (tr t r) o d) (funext fun j => ?_)
  rw [show (11 : ℕ) = 10 + 1 from rfl, Finset.sum_range_succ]
  refine congrArg₂ (· + ·) ((i2 r j).trans ?_) (congrArg _ h)
  rw [show (t.val - 1) % 11 + 1 = 10 by omega]

/-- The result array, entry by entry. -/
theorem result (i : S4x2048x2048.Idx) : Value.G7 m c i =
    fin m c (i 0) (i 1) (fun j => ∑ f ∈ Finset.range 11, prt m c (i 0) (i 1) j f) (i 2) := by
  have h0 : (i 0).val < 4 := (i 0).isLt
  have h1 : (i 1).val < 2048 := (i 1).isLt
  have h2 : (i 2).val < 2048 := (i 2).isLt
  have hp : Value.pt7Of i = 22 * (i 0).val + 11 * ((i 1).val / 1024) + 10 := by
    unfold Value.pt7Of Value.run7Of
    omega
  have hlt : Value.pt7Of i < cfg0.N := by rw [hp, show cfg0.N = 88 from N_0]; omega
  unfold Value.G7
  rw [dif_pos hlt, ← Value.outsAt0_sweep m c _ hlt]
  have hl : Value.loc7Of i = ix3 0 ⟨(i 1).val % 1024, by omega⟩ (i 2) := by
    funext a
    fin_cases a <;> refine Fin.ext ?_
    · show (i 0).val % 1 = 0; omega
    · rfl
    · show (i 2).val % 2048 = (i 2).val; omega
  rw [hl]
  refine (run_apply m c ⟨Value.pt7Of i, hlt⟩ (by show Value.pt7Of i % 11 = 10; omega) _ _).trans ?_
  have eb : tb ⟨Value.pt7Of i, hlt⟩ = i 0 := Fin.ext (by show Value.pt7Of i / 22 = (i 0).val; omega)
  have er : tr ⟨Value.pt7Of i, hlt⟩ ⟨(i 1).val % 1024, by omega⟩ = i 1 :=
    Fin.ext (by show 1024 * (Value.pt7Of i / 11 % 2) + (i 1).val % 1024 = (i 1).val; omega)
  rw [eb, er]

end Cert.FfnIdeal.Own
-- ==== Proof.FfnRef.lean ====
module

public import proofs.«01_k».proof.Proof.FfnPays
public import proofs.«01_k».proof.Proof.Gen.FfnRefIdeal.Read
public import Idealize.ShloMosaic.Lib.Pipeline.ValueKit

@[expose] public section

set_option maxRecDepth 16384

noncomputable section

namespace Cert.FfnIdeal.Own

open Cert.FfnRefIdeal Cert.FfnRefIdeal.Read Idealize.ShloMosaic Idealize.ShloMosaic.TcCoe Idealize.SL.Sem Idealize.ShloMosaic.Tactic

/-- One. -/
theorem one_word : Ideal.ofBits .f32 0x3F800000#32 = 1 := by simp [Ideal.ofBits, Ideal.ieee]; rw [← EReal.coe_mul]; norm_num
/-- Zero. -/
theorem zero_word : Ideal.ofBits .f32 0x00000000#32 = 0 := by simp [Ideal.ofBits, Ideal.ieee]

/-- Two indices of three axes agree where their coordinates do. -/
theorem eq3 {n : Fin 3 → ℕ} {i j : Shape.Idx ⟨3, n⟩} (h0 : i 0 = j 0) (h1 : i 1 = j 1) (h2 : i 2 = j 2) : i = j :=
  funext fun a => match a with
    | ⟨0, _⟩ => h0
    | ⟨1, _⟩ => h1
    | ⟨2, _⟩ => h2
/-- Two indices of two axes agree where their coordinates do. -/
theorem eq2 {n : Fin 2 → ℕ} {i j : Shape.Idx ⟨2, n⟩} (h0 : i 0 = j 0) (h1 : i 1 = j 1) : i = j :=
  funext fun a => match a with
    | ⟨0, _⟩ => h0
    | ⟨1, _⟩ => h1

variable (x0 : S2048x11264.Idx → EReal) (x1 : S5632x2048.Idx → EReal) (x2 : S4x2048x2048.Idx → EReal) (x3 : S4x8192.Idx → EReal)
  (x4 x5 : S2048.Idx → EReal)

/-- The mean of a row. -/
theorem mean_x (b : Fin 4) (R : Fin 2048) (z : Fin 1) :
    val_main_v9 (F := Ideal) x2 (ix3 b R z) = Ideal.div (∑ k, x2 (ix3 b R k)) w2048 := by
  rw [val_main_v9_apply, val_main_v7_apply, val_main_v6_apply, val_main_v8_apply, val_main_cst_0_apply, val_main_cst_apply]
  show Ideal.div (Ideal.ofBits .f32 0x00000000#32 + _) _ = _
  rw [zero_word, zero_add]
  exact congrArg (fun s => Ideal.div s w2048) (Finset.sum_congr rfl fun k _ => congrArg (x2) (eq3 rfl rfl rfl))
/-- A row less its mean, for the variance. -/
theorem cen_x (b : Fin 4) (R d : Fin 2048) :
    val_main_v11 (F := Ideal) x2 (ix3 b R d) = cen (fun k => x2 (ix3 b R k)) d := by
  rw [val_main_v11_apply, val_main_v10_apply]
  exact congrArg (fun s : EReal => (x2 (ix3 b R d) : EReal) - s) ((congrArg (val_main_v9 (F := Ideal) x2) (eq3 rfl rfl rfl : idx_main_v10 (ix3 b R d) = ix3 b R 0)).trans (mean_x x2 b R 0))
/-- A row less its mean, for the result. -/
theorem cen'_x (b : Fin 4) (R d : Fin 2048) :
    val_main_v18 (F := Ideal) x2 (ix3 b R d) = cen (fun k => x2 (ix3 b R k)) d := by
  rw [val_main_v18_apply, val_main_v17_apply]
  exact congrArg (fun s : EReal => (x2 (ix3 b R d) : EReal) - s) ((congrArg (val_main_v9 (F := Ideal) x2) (eq3 rfl rfl rfl : idx_main_v17 (ix3 b R d) = ix3 b R 0)).trans (mean_x x2 b R 0))
/-- The variance of a row. -/
theorem var_x (b : Fin 4) (R : Fin 2048) (z : Fin 1) : val_main_v16 (F := Ideal) x2 (ix3 b R z) =
    Ideal.div (∑ k, cen (fun k => x2 (ix3 b R k)) k * cen (fun k => x2 (ix3 b R k)) k) w2048 := by
  rw [val_main_v16_apply, val_main_v14_apply, val_main_v13_apply, val_main_v15_apply, val_main_cst_2_apply, val_main_cst_1_apply]
  show Ideal.div (Ideal.ofBits .f32 0x00000000#32 + _) _ = _
  rw [zero_word, zero_add]
  refine congrArg (fun s => Ideal.div s w2048) (Finset.sum_congr rfl fun k _ => ?_)
  rw [val_main_v12_apply]
  have e := (congrArg (val_main_v11 (F := Ideal) x2) (eq3 rfl rfl rfl : idx_main_v13 (idx_main_v14 (ix3 b R z)) k = ix3 b R k)).trans (cen_x x2 b R k)
  exact congrArg₂ (fun p q : EReal => p * q) e e
/-- A normalized row. -/
theorem nrm_x (b : Fin 4) (R d : Fin 2048) :
    val_main_v23 (F := Ideal) x2 (ix3 b R d) = nrm (fun k => x2 (ix3 b R k)) d := by
  rw [val_main_v23_apply, val_main_v22_apply, val_main_v21_apply, val_main_v20_apply, val_main_v19_apply, val_main_cst_3_apply, cen'_x]
  have e := (congrArg (val_main_v16 (F := Ideal) x2) (eq3 rfl rfl rfl : idx_main_v22 (ix3 b R d) = ix3 b R 0)).trans (var_x x2 b R 0)
  exact congrArg (fun p : EReal => cen (fun k => x2 (ix3 b R k)) d * Ideal.rsqrt (p + wEps)) e

/-- The hidden activations of the reference. -/
theorem ref_hid (b : Fin 4) (R d : Fin 2048) : val_main_v29 (F := Ideal) x2 x3 (ix3 b R d) =
    modu (fun k => x2 (ix3 b R k)) (fun k => x3 (ix2 b ⟨2048 + k, by omega⟩)) (fun k => x3 (ix2 b ⟨4096 + k, by omega⟩)) d := by
  rw [val_main_v29_apply, val_main_v27_apply, nrm_x, val_main_v26_apply, val_main_v25_apply, val_main_v24_apply, val_main_cst_4_apply,
    val_main_v3_apply, val_main_v2_apply, val_main_v28_apply, val_main_v1_apply, val_main_v0_apply]
  show nrm _ d * (Ideal.ofBits .f32 0x3F800000#32 + x3 _) + x3 _ = _
  rw [one_word]
  exact congrArg₂ (fun p q : EReal => nrm (fun k => x2 (ix3 b R k)) d * (1 + p) + q) (congrArg x3 (eq2 rfl rfl)) (congrArg x3 (eq2 rfl rfl))

/-- A column of the first product. -/
def col (b : Fin 4) (R : Fin 2048) (n : Fin 11264) : EReal :=
  ∑ l, modu (fun k => x2 (ix3 b R k)) (fun k => x3 (ix2 b ⟨2048 + k, by omega⟩)) (fun k => x3 (ix2 b ⟨4096 + k, by omega⟩)) l * x0 (ix2 l n)

/-- The first product of the reference. -/
theorem ref_col (b : Fin 4) (R : Fin 2048) (n : Fin 11264) : val_main_v31 (F := Ideal) x0 x2 x3 (ix3 b R n) = col x0 x2 x3 b R n := by
  rw [val_main_v31_apply]
  refine Finset.sum_congr rfl fun l _ => ?_
  rw [val_main_v30_apply]
  exact congrArg₂ (fun p q : EReal => p * q) ((congrArg (val_main_v29 (F := Ideal) x2 x3) (eq3 rfl rfl rfl : lidx_main_v31 (ix3 b R n) l = ix3 b R l)).trans (ref_hid x2 x3 b R l))
    (congrArg x0 (eq2 rfl rfl))

/-- The gate of the reference. -/
def silR (g u : EReal) : EReal := g * Ideal.div 1 (1 + Ideal.exp (-g)) * u

/-- The gated columns of the reference. -/
theorem ref_gated (b : Fin 4) (R : Fin 2048) (k : Fin 5632) : val_main_v35 (F := Ideal) x0 x2 x3 (ix3 b R k) =
    silR (col x0 x2 x3 b R ⟨k, by omega⟩) (col x0 x2 x3 b R ⟨5632 + k, by omega⟩) := by
  have e : val_main_v32 (F := Ideal) x0 x2 x3 (ix3 b R k) = col x0 x2 x3 b R ⟨k, by omega⟩ := by
    rw [val_main_v32_apply, ← ref_col]
    exact congrArg (val_main_v31 (F := Ideal) x0 x2 x3) (eq3 rfl rfl rfl)
  have e' : val_main_v33 (F := Ideal) x0 x2 x3 (ix3 b R k) = col x0 x2 x3 b R ⟨5632 + k, by omega⟩ := by
    rw [val_main_v33_apply, ← ref_col]
    exact congrArg (val_main_v31 (F := Ideal) x0 x2 x3) (eq3 rfl rfl rfl)
  rw [val_main_v35_apply, val_main_v34_apply, val_main_call0_v5_apply, val_main_call0_v4_apply, val_main_call0_v3_apply,
    val_main_call0_v2_apply, val_main_call0_v1_apply, val_main_call0_v0_apply, e, e', val_main_call0_cst_0_apply, val_main_call0_cst_apply]
  unfold silR
  rw [← one_word]
  rfl

/-- The output of the reference before the residual. -/
theorem ref_out (b : Fin 4) (R d : Fin 2048) : val_main_v37 (F := Ideal) x0 x1 x2 x3 (ix3 b R d) =
    ∑ k : Fin 5632, silR (col x0 x2 x3 b R ⟨k, by omega⟩) (col x0 x2 x3 b R ⟨5632 + k, by omega⟩) * x1 (ix2 k d) := by
  rw [val_main_v37_apply]
  refine Finset.sum_congr rfl fun k _ => ?_
  rw [val_main_v36_apply]
  exact congrArg₂ (fun p q : EReal => p * q) ((congrArg (val_main_v35 (F := Ideal) x0 x2 x3) (eq3 rfl rfl rfl : lidx_main_v37 (ix3 b R d) k = ix3 b R k)).trans (ref_gated x0 x2 x3 b R k))
    (congrArg x1 (eq2 rfl rfl))

/-- The residual of the reference. -/
theorem ref_resid (b : Fin 4) (R d : Fin 2048) : val_main_v42 (F := Ideal) x0 x1 x2 x3 (ix3 b R d) =
    resid (fun k => x2 (ix3 b R k)) (fun k => x3 (ix2 b ⟨6144 + k, by omega⟩))
      (fun j => ∑ k : Fin 5632, silR (col x0 x2 x3 b R ⟨k, by omega⟩) (col x0 x2 x3 b R ⟨5632 + k, by omega⟩) * x1 (ix2 k j)) d := by
  rw [val_main_v42_apply, val_main_v41_apply, val_main_v39_apply, val_main_v38_apply, val_main_cst_5_apply, val_main_v40_apply,
    val_main_v5_apply, val_main_v4_apply, ref_out]
  exact congrArg (fun p : EReal => wAlpha * x2 (ix3 b R d) + p *
    ∑ k : Fin 5632, silR (col x0 x2 x3 b R ⟨k, by omega⟩) (col x0 x2 x3 b R ⟨5632 + k, by omega⟩) * x1 (ix2 k d)) (congrArg x3 (eq2 rfl rfl))

/-- The mean of a row. -/
theorem mean_y (b : Fin 4) (R : Fin 2048) (z : Fin 1) :
    val_main_v46 (F := Ideal) x0 x1 x2 x3 (ix3 b R z) = Ideal.div (∑ k, val_main_v42 (F := Ideal) x0 x1 x2 x3 (ix3 b R k)) w2048 := by
  rw [val_main_v46_apply, val_main_v44_apply, val_main_v43_apply, val_main_v45_apply, val_main_cst_7_apply, val_main_cst_6_apply]
  show Ideal.div (Ideal.ofBits .f32 0x00000000#32 + _) _ = _
  rw [zero_word, zero_add]
  exact congrArg (fun s => Ideal.div s w2048) (Finset.sum_congr rfl fun k _ => congrArg (val_main_v42 (F := Ideal) x0 x1 x2 x3) (eq3 rfl rfl rfl))
/-- A row less its mean, for the variance. -/
theorem cen_y (b : Fin 4) (R d : Fin 2048) :
    val_main_v48 (F := Ideal) x0 x1 x2 x3 (ix3 b R d) = cen (fun k => val_main_v42 (F := Ideal) x0 x1 x2 x3 (ix3 b R k)) d := by
  rw [val_main_v48_apply, val_main_v47_apply]
  exact congrArg (fun s : EReal => (val_main_v42 (F := Ideal) x0 x1 x2 x3 (ix3 b R d) : EReal) - s) ((congrArg (val_main_v46 (F := Ideal) x0 x1 x2 x3) (eq3 rfl rfl rfl : idx_main_v47 (ix3 b R d) = ix3 b R 0)).trans (mean_y x0 x1 x2 x3 b R 0))
/-- A row less its mean, for the result. -/
theorem cen'_y (b : Fin 4) (R d : Fin 2048) :
    val_main_v55 (F := Ideal) x0 x1 x2 x3 (ix3 b R d) = cen (fun k => val_main_v42 (F := Ideal) x0 x1 x2 x3 (ix3 b R k)) d := by
  rw [val_main_v55_apply, val_main_v54_apply]
  exact congrArg (fun s : EReal => (val_main_v42 (F := Ideal) x0 x1 x2 x3 (ix3 b R d) : EReal) - s) ((congrArg (val_main_v46 (F := Ideal) x0 x1 x2 x3) (eq3 rfl rfl rfl : idx_main_v54 (ix3 b R d) = ix3 b R 0)).trans (mean_y x0 x1 x2 x3 b R 0))
/-- The variance of a row. -/
theorem var_y (b : Fin 4) (R : Fin 2048) (z : Fin 1) : val_main_v53 (F := Ideal) x0 x1 x2 x3 (ix3 b R z) =
    Ideal.div (∑ k, cen (fun k => val_main_v42 (F := Ideal) x0 x1 x2 x3 (ix3 b R k)) k * cen (fun k => val_main_v42 (F := Ideal) x0 x1 x2 x3 (ix3 b R k)) k) w2048 := by
  rw [val_main_v53_apply, val_main_v51_apply, val_main_v50_apply, val_main_v52_apply, val_main_cst_9_apply, val_main_cst_8_apply]
  show Ideal.div (Ideal.ofBits .f32 0x00000000#32 + _) _ = _
  rw [zero_word, zero_add]
  refine congrArg (fun s => Ideal.div s w2048) (Finset.sum_congr rfl fun k _ => ?_)
  rw [val_main_v49_apply]
  have e := (congrArg (val_main_v48 (F := Ideal) x0 x1 x2 x3) (eq3 rfl rfl rfl : idx_main_v50 (idx_main_v51 (ix3 b R z)) k = ix3 b R k)).trans (cen_y x0 x1 x2 x3 b R k)
  exact congrArg₂ (fun p q : EReal => p * q) e e
/-- A normalized row. -/
theorem nrm_y (b : Fin 4) (R d : Fin 2048) :
    val_main_v60 (F := Ideal) x0 x1 x2 x3 (ix3 b R d) = nrm (fun k => val_main_v42 (F := Ideal) x0 x1 x2 x3 (ix3 b R k)) d := by
  rw [val_main_v60_apply, val_main_v59_apply, val_main_v58_apply, val_main_v57_apply, val_main_v56_apply, val_main_cst_10_apply, cen'_y]
  have e := (congrArg (val_main_v53 (F := Ideal) x0 x1 x2 x3) (eq3 rfl rfl rfl : idx_main_v59 (ix3 b R d) = ix3 b R 0)).trans (var_y x0 x1 x2 x3 b R 0)
  exact congrArg (fun p : EReal => cen (fun k => val_main_v42 (F := Ideal) x0 x1 x2 x3 (ix3 b R k)) d * Ideal.rsqrt (p + wEps)) e

/-- The result of the reference. -/
theorem ref_result (b : Fin 4) (R d : Fin 2048) : val_main_v66 (F := Ideal) x0 x1 x2 x3 x4 x5 (ix3 b R d) =
    nrm (resid (fun k => x2 (ix3 b R k)) (fun k => x3 (ix2 b ⟨6144 + k, by omega⟩))
      (fun j => ∑ k : Fin 5632, silR (col x0 x2 x3 b R ⟨k, by omega⟩) (col x0 x2 x3 b R ⟨5632 + k, by omega⟩) * x1 (ix2 k j))) d *
      x4 (ix1 d) + x5 (ix1 d) := by
  rw [val_main_v66_apply, val_main_v63_apply, nrm_y, val_main_v62_apply, val_main_v61_apply, val_main_v65_apply, val_main_v64_apply]
  rw [funext (ref_resid x0 x1 x2 x3 b R)]
  exact congrArg₂ (fun p q : EReal => nrm _ d * p + q) (congrArg x4 (funext fun a => match a with | ⟨0, _⟩ => rfl))
    (congrArg x5 (funext fun a => match a with | ⟨0, _⟩ => rfl))

end Cert.FfnIdeal.Own
-- ==== Proof.FfnReal.lean ====
module

public import proofs.«01_k».proof.Proof.FfnPays
public import Idealize.ShloMosaic.Lib.Pipeline.ValueKit

@[expose] public section

set_option maxRecDepth 16384

noncomputable section

namespace Cert.FfnIdeal.Own

open Cert.FfnIdeal Cert.FfnIdeal.Gen Idealize.ShloMosaic Idealize.ShloMosaic.TcCoe Idealize.SL.Sem Idealize.ShloMosaic.Tactic

/-- A sum of reals. -/
theorem coe_sum {n : ℕ} (g : Fin n → ℝ) : ∑ J, (g J : EReal) = ((∑ J, g J : ℝ) : EReal) := by
  induction n with
  | zero => simp
  | succ n ih => rw [Fin.sum_univ_succ, Fin.sum_univ_succ, ih, EReal.coe_add]

/-- The number of columns. -/
theorem w2048_eq : w2048 = ((2048 : ℝ) : EReal) := by simp [Ideal.ofBits, Ideal.ieee]; rw [← EReal.coe_mul]; norm_num
/-- One half. -/
theorem wHalf_eq : wHalf = ((1 / 2 : ℝ) : EReal) := by simp [Ideal.ofBits, Ideal.ieee]; rw [← EReal.coe_mul]; norm_num
/-- The number that raises the variance is real and positive. -/
theorem wEps_eq : ∃ e : ℝ, 0 < e ∧ wEps = (e : EReal) := by
  refine ⟨10995116 * (2 : ℝ) ^ (-40 : ℤ), by positivity, ?_⟩
  simp [Ideal.ofBits, Ideal.ieee]

/-- A real row less its mean is real. -/
theorem cen_real (v : Fin 2048 → ℝ) : ∃ u : Fin 2048 → ℝ, ∀ d, cen (fun k => (v k : EReal)) d = (u d : EReal) := by
  refine ⟨fun d => v d - (∑ k, v k) * (1 / 2048), fun d => ?_⟩
  unfold cen
  rw [coe_sum, w2048_eq, Ideal.div_coe (by norm_num), ← EReal.coe_mul, ← EReal.coe_sub]

/-- A real row normalized is real. -/
theorem nrm_real (v : Fin 2048 → ℝ) (d : Fin 2048) : ∃ r : ℝ, nrm (fun k => (v k : EReal)) d = (r : EReal) := by
  obtain ⟨u, hu⟩ := cen_real v
  obtain ⟨e, he, hw⟩ := wEps_eq
  have hs : 0 ≤ ∑ k, u k * u k := Finset.sum_nonneg fun k _ => mul_self_nonneg (u k)
  have hp : 0 < (∑ k, u k * u k) * (1 / 2048) + e := by positivity
  refine ⟨u d * (Real.sqrt ((∑ k, u k * u k) * (1 / 2048) + e))⁻¹, ?_⟩
  unfold nrm
  simp only [hu, ← EReal.coe_mul]
  rw [coe_sum, w2048_eq, Ideal.div_coe (by norm_num), hw, ← EReal.coe_mul, ← EReal.coe_add, Ideal.rsqrt_coe,
    if_neg (not_lt.mpr hp.le), if_neg hp.ne', ← EReal.coe_mul]

/-- The product of an infinity with itself. -/
theorem top_sq {x : EReal} (h : x = ⊤ ∨ x = ⊥) : x * x = ⊤ := by
  rcases h with rfl | rfl <;> simp

/-- A sum with an infinite term is infinite. -/
theorem sum_inf (v : Fin 2048 → EReal) (k : Fin 2048) (h : v k = ⊤ ∨ v k = ⊥) : ∑ j, v j = ⊤ ∨ ∑ j, v j = ⊥ := by
  rw [← Finset.add_sum_erase Finset.univ v (Finset.mem_univ k)]
  generalize ∑ j ∈ Finset.univ.erase k, v j = s
  rcases h with h | h <;> rw [h]
  · induction s using EReal.rec with
    | bot => right; simp
    | coe r => left; simp
    | top => left; simp
  · right; simp

/-- A row less an infinity is infinite throughout. -/
theorem cen_inf (v : Fin 2048 → EReal) (k : Fin 2048) (h : v k = ⊤ ∨ v k = ⊥) (d : Fin 2048) : cen v d = ⊤ ∨ cen v d = ⊥ := by
  unfold cen
  rw [w2048_eq, Ideal.div_coe (by norm_num)]
  generalize v d = x
  rcases sum_inf v k h with e | e <;> rw [e]
  · rw [EReal.top_mul_coe_of_pos (by norm_num)]
    right; simp
  · rw [EReal.bot_mul_coe_of_pos (by norm_num)]
    induction x using EReal.rec with
    | bot => right; simp
    | coe r => left; simp
    | top => left; simp

/-- A sum of infinities. -/
theorem sum_top (n : ℕ) : ∑ _k : Fin (n + 1), (⊤ : EReal) = ⊤ := by
  induction n with
  | zero => simp
  | succ n ih => rw [Fin.sum_univ_succ, ih]; simp

/-- Any row normalized is real: one with an infinite entry is zero. -/
theorem nrm_any (v : Fin 2048 → EReal) (d : Fin 2048) : ∃ r : ℝ, nrm v d = (r : EReal) := by
  by_cases hv : ∀ k, ∃ r : ℝ, v k = (r : EReal)
  · choose r hr using hv
    obtain rfl : v = fun k => (r k : EReal) := funext hr
    exact nrm_real r d
  · obtain ⟨k, hk⟩ := not_forall.mp hv
    have h : v k = ⊤ ∨ v k = ⊥ := by
      generalize v k = x at hk
      induction x using EReal.rec with
      | bot => right; rfl
      | coe r => exact absurd ⟨r, rfl⟩ hk
      | top => left; rfl
    obtain ⟨e, he, hw⟩ := wEps_eq
    refine ⟨0, ?_⟩
    unfold nrm
    have hs : ∑ j, cen v j * cen v j = ⊤ :=
      (Finset.sum_congr rfl fun j _ => top_sq (cen_inf v k h j)).trans (sum_top 2047)
    rw [hs, w2048_eq, Ideal.div_coe (by norm_num), EReal.top_mul_coe_of_pos (by norm_num), hw, EReal.top_add_coe,
      Ideal.rsqrt_top, mul_zero, EReal.coe_zero]

/-- A row normalized, shifted and scaled by reals is real. -/
theorem modu_real (v : Fin 2048 → EReal) (s1 s2 : Fin 2048 → ℝ) (d : Fin 2048) :
    ∃ r : ℝ, modu v (fun k => (s1 k : EReal)) (fun k => (s2 k : EReal)) d = (r : EReal) := by
  obtain ⟨r, hr⟩ := nrm_any v d
  refine ⟨r * (1 + s2 d) + s1 d, ?_⟩
  unfold modu
  rw [hr, ← EReal.coe_one, ← EReal.coe_add, ← EReal.coe_mul, ← EReal.coe_add]

/-- A product of real rows and columns is real. -/
theorem dot_real (f g : Fin 2048 → EReal) (hf : ∀ l, ∃ r : ℝ, f l = (r : EReal)) (hg : ∀ l, ∃ r : ℝ, g l = (r : EReal)) :
    ∃ r : ℝ, ∑ l, f l * g l = (r : EReal) := by
  choose a ha using hf
  choose b hb using hg
  refine ⟨∑ l, a l * b l, ?_⟩
  rw [← coe_sum]
  exact Finset.sum_congr rfl fun l _ => by rw [ha, hb, EReal.coe_mul]

/-- On a real argument the gate by the hyperbolic tangent is the argument times its logistic. -/
theorem silT_real (x : ℝ) (u : EReal) : silT (x : EReal) u = (x : EReal) * Ideal.div 1 (1 + Ideal.exp (-(x : EReal))) * u := by
  have e : Ideal.div 1 (1 + Ideal.exp (-(x : EReal))) = (((1 + Real.exp (-x))⁻¹ : ℝ) : EReal) := Ideal.logistic_coe x
  unfold silT
  rw [e, wHalf_eq, ← EReal.coe_mul, Ideal.tanh_coe, ← EReal.coe_mul, ← EReal.coe_add, ← EReal.coe_mul]
  refine congrArg (fun z : ℝ => (z : EReal) * u) ?_
  rw [Real.tanh_eq_sinh_div_cosh, Real.sinh_eq, Real.cosh_eq]
  have e : Real.exp (-x) = Real.exp (-(1 / 2 * x)) * Real.exp (-(1 / 2 * x)) := by rw [← Real.exp_add]; congr 1; ring
  have h : Real.exp (1 / 2 * x) * Real.exp (-(1 / 2 * x)) = 1 := by rw [← Real.exp_add]; simp
  have hp := Real.exp_pos (1 / 2 * x)
  have hn := Real.exp_pos (-(1 / 2 * x))
  rw [e]
  generalize Real.exp (1 / 2 * x) = a at *
  generalize Real.exp (-(1 / 2 * x)) = b at *
  have ha : a = b⁻¹ := eq_inv_of_mul_eq_one_left h
  subst ha
  field_simp
  ring

/-- A sum over 5632 hidden units, in eleven blocks of 512. -/
theorem sum_blocks (F : Fin 5632 → EReal) (G : ℕ → EReal)
    (h : ∀ f : Fin 11, G f = ∑ k : Fin 512, F ⟨512 * f + k, by omega⟩) : ∑ f ∈ Finset.range 11, G f = ∑ K, F K := by
  rw [Finset.sum_range]
  simp only [h]
  rw [← Fintype.sum_prod_type']
  exact Fintype.sum_equiv (finProdFinEquiv (m := 11) (n := 512)) _ F fun p => congrArg F (Fin.ext (by
    show 512 * p.1.val + p.2.val = p.2.val + 512 * p.1.val; omega))

end Cert.FfnIdeal.Own
-- ==== Proof.FfnResult.lean ====
module

public import proofs.«01_k».proof.Defs
public import proofs.«01_k».proof.Proof.FfnFold
public import proofs.«01_k».proof.Proof.FfnRef
public import proofs.«01_k».proof.Proof.FfnReal
public import proofs.«01_k».proof.Proof.Finite

/-! The feed-forward call's result is the reference's. -/

@[expose] public section

set_option maxRecDepth 16384

noncomputable section

namespace Cert.FfnIdeal.Own

open Cert.FfnIdeal Cert.FfnIdeal.Gen Idealize.ShloMosaic Idealize.ShloMosaic.TcCoe Idealize.SL.Sem Idealize.ShloMosaic.Tactic

variable (m : (ℓ : Loc nD τ sig) → Buf (Elt Ideal) ℓ) (c : Dev nD)

/-- The gate's half of the first weight is real. -/
theorem real_gate [Cert.Pre_finite_ffn.Facts] (h : Cert.Pre_FfnIdeal_finite_ffn m) (l : Fin 2048) (n : Fin 5632) :
    ∃ r : ℝ, m ((c : Thread nD τ).loc main_arg0) (ix2 l ⟨n, by omega⟩) = (r : EReal) := by
  obtain ⟨r, hr⟩ := Cert.AttnIdeal.Own.real_of_abs _ _ Cert.AttnIdeal.Own.inf_words.1 (congrFun (h c).1 (ix2 l n))
  refine ⟨r, Eq.trans (congrArg (m ((c : Thread nD τ).loc main_arg0)) ?_) hr⟩
  funext a
  fin_cases a <;> refine Fin.ext ?_
  · show l.val = 0 + l.val; omega
  · show n.val = 0 + n.val; omega

/-- The shift and the scale of the tokens are real. -/
theorem real_mod [Cert.Pre_finite_ffn.Facts] (h : Cert.Pre_FfnIdeal_finite_ffn m) (b : Fin 4) (n : Fin 4096) :
    ∃ r : ℝ, m ((c : Thread nD τ).loc main_arg3) (ix2 b ⟨2048 + n, by omega⟩) = (r : EReal) := by
  obtain ⟨r, hr⟩ := Cert.AttnIdeal.Own.real_of_abs _ _ Cert.AttnIdeal.Own.inf_words.2 (congrFun (h c).2 (ix2 b n))
  refine ⟨r, Eq.trans (congrArg (m ((c : Thread nD τ).loc main_arg3)) ?_) hr⟩
  funext a
  fin_cases a <;> refine Fin.ext ?_
  · show b.val = 0 + b.val; omega
  · show 2048 + n.val = 2048 + n.val; rfl

/-- The gate's argument is real. -/
theorem gate_arg [Cert.Pre_finite_ffn.Facts] (h : Cert.Pre_FfnIdeal_finite_ffn m) (b : Fin 4) (R : Fin 2048) (n : Fin 5632) :
    ∃ r : ℝ, ∑ l, hid m c b R l * m ((c : Thread nD τ).loc main_arg0) (ix2 l ⟨n, by omega⟩) = (r : EReal) := by
  refine dot_real _ _ (fun l => ?_) fun l => real_gate m c h l n
  choose s hs using real_mod m c h b
  obtain ⟨r, hr⟩ := modu_real (fun k => m ((c : Thread nD τ).loc main_arg2) (ix3 b R k)) (fun k => s ⟨k, by omega⟩)
    (fun k => s ⟨2048 + k, by omega⟩) l
  refine ⟨r, Eq.trans ?_ hr⟩
  unfold hid
  refine congrArg₂ (fun p q => modu _ p q l) (funext fun k => hs ⟨k, by omega⟩) (funext fun k => ?_)
  have e : (⟨4096 + k.val, by omega⟩ : Fin 8192) = ⟨2048 + (2048 + k.val), by omega⟩ := Fin.ext (by
    show 4096 + k.val = 2048 + (2048 + k.val); omega)
  exact (congrArg (fun q : Fin 8192 => m ((c : Thread nD τ).loc main_arg3) (ix2 b q)) e).trans (hs ⟨2048 + k, by omega⟩)

/-- The sum over blocks is the reference's product with the second weight. -/
theorem sum_prt [Cert.Pre_finite_ffn.Facts] (h : Cert.Pre_FfnIdeal_finite_ffn m) (b : Fin 4) (R j : Fin 2048) :
    ∑ f ∈ Finset.range 11, prt m c b R j f = ∑ k : Fin 5632,
      silR (col (m ((c : Thread nD τ).loc main_arg0)) (m ((c : Thread nD τ).loc main_arg2)) (m ((c : Thread nD τ).loc main_arg3)) b R ⟨k, by omega⟩)
        (col (m ((c : Thread nD τ).loc main_arg0)) (m ((c : Thread nD τ).loc main_arg2)) (m ((c : Thread nD τ).loc main_arg3)) b R ⟨5632 + k, by omega⟩)
        * m ((c : Thread nD τ).loc main_arg1) (ix2 k j) := by
  refine sum_blocks _ _ fun f => ?_
  have hf := f.isLt
  unfold prt
  rw [dif_pos hf]
  unfold part
  refine Finset.sum_congr rfl fun k _ => ?_
  obtain ⟨r, hr⟩ := gate_arg m c h b R ⟨512 * f + k, by omega⟩
  have hu : ∑ l, hid m c b R l * m ((c : Thread nD τ).loc main_arg0) (ix2 l ⟨5632 + 512 * f + k, by omega⟩)
      = col (m ((c : Thread nD τ).loc main_arg0)) (m ((c : Thread nD τ).loc main_arg2)) (m ((c : Thread nD τ).loc main_arg3)) b R
        ⟨5632 + (512 * f + k), by omega⟩ := by
    refine Finset.sum_congr rfl fun l _ => ?_
    refine congrArg₂ (fun p q : EReal => p * q) rfl (congrArg (m ((c : Thread nD τ).loc main_arg0)) (eq2 rfl (Fin.ext ?_)))
    show 5632 + 512 * f.val + k.val = 5632 + (512 * f.val + k.val)
    omega
  have hg : col (m ((c : Thread nD τ).loc main_arg0)) (m ((c : Thread nD τ).loc main_arg2)) (m ((c : Thread nD τ).loc main_arg3)) b R
      ⟨512 * f + k, by omega⟩ = (r : EReal) := hr
  refine congrArg (fun s : EReal => s * m ((c : Thread nD τ).loc main_arg1) (ix2 ⟨512 * f + k, by omega⟩ j)) ?_
  refine (congrArg₂ silT hr hu).trans ((silT_real r _).trans ?_)
  rw [hg]
  rfl

/-- The kernel's result is the reference's. -/
theorem result_ffn [Cert.Pre_finite_ffn.Facts] (h : Cert.Pre_FfnIdeal_finite_ffn m) :
    Value.G7 m c = Cert.FfnRefIdeal.Read.val_main_v66 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext i
  rw [result m c i]
  have e : (ix3 (i 0) (i 1) (i 2) : S4x2048x2048.Idx) = i := eq3 rfl rfl rfl
  refine Eq.trans ?_ (congrArg (Cert.FfnRefIdeal.Read.val_main_v66 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5))) e)
  refine Eq.trans ?_ (ref_result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (i 0) (i 1) (i 2)).symm
  have s := funext fun j : Fin 2048 => sum_prt m c h (i 0) (i 1) j
  exact congrArg (fun o => fin m c (i 0) (i 1) o (i 2)) s

end Cert.FfnIdeal.Own
end
-- ==== Proof.RecResult.lean ====
module

public import proofs.«01_k».proof.Proof.Gen.RecIdeal.Value
public import proofs.«01_k».proof.Proof.Gen.RecRefIdeal.Read
public import Idealize.ShloMosaic.Lib.Pipeline.ValueKit
public import Idealize.ShloMosaic.Lib.WholeRead

/-! The projection to the recurrence: the call's result is the reference's. -/

@[expose] public section

set_option maxRecDepth 16384

noncomputable section

namespace Cert.RecIdeal.Own

open Cert.RecIdeal Cert.RecIdeal.Gen Idealize.ShloMosaic Idealize.ShloMosaic.TcCoe Idealize.SL.Sem Idealize.ShloMosaic.Tactic

/-- The scaled weight. -/
theorem pay1 (W : Vec Ideal S2048x1024 .f32) (S : Vec Ideal S1x1024 .f32) (k : Fin 2048) (n : Fin 1024) :
    k0_pay1 (F := Ideal) W S (ix2 k n) = W (ix2 k n) * S (ix2 0 n) := by
  pointwise [k0_pay1]

/-- The product of a block of rows and a block of columns. -/
theorem pay2 (A : Vec Ideal S1024x2048 .bf16) (H : Vec Ideal S2048x1024 .bf16) (r n : Fin 1024) :
    k0_pay2 (F := Ideal) A H (ix2 r n) = ∑ k, A (ix2 r k) * H (ix2 k n) := by
  pointwise [k0_pay2]

variable (m : (ℓ : Loc nD τ sig) → Buf (Elt Ideal) ℓ) (c : Dev nD) (t : Fin cfg0.N)

/-- The rows, as extended reals. -/
abbrev a0 : S8192x2048.Idx → EReal := m ((c : Thread nD τ).loc main_arg0)
/-- The weight, as extended reals. -/
abbrev a1 : S2048x7168.Idx → EReal := m ((c : Thread nD τ).loc main_arg1)

/-- There are 32 grid points. -/
theorem t_lt : t.val < 32 := lt_of_lt_of_eq t.isLt (show cfg0.N = 32 from N_0)

/-- The blocks a grid point stages: rows and columns, the columns outermost. -/
theorem idx : ∀ t : Fin cfg0.N, win0_0.index t = ![t.val % 8, 0] ∧ win0_1.index t = ![0, 3 + t.val / 8] ∧
    win0_2.index t = ![0, 3 + t.val / 8] :=
  (by decide +kernel : ∀ t : Fin grid0.N, _)

/-- The staged rows. -/
theorem blkA (r : Fin 1024) (k : Fin 2048) : iblk m c 0 t (ix2 r k) =
    m ((c : Thread nD τ).loc main_arg0) (ix2 ⟨1024 * (t.val % 8) + r, by omega⟩ k) := by
  blk_ext [iblk, V, idx t]
/-- The staged columns of the weight. -/
theorem blkW (k : Fin 2048) (n : Fin 1024) : iblk m c 1 t (ix2 k n) =
    m ((c : Thread nD τ).loc main_arg1) (ix2 k ⟨3072 + 1024 * (t.val / 8) + n, by have := t_lt t; omega⟩) := by
  blk_ext [iblk, V, idx t]
/-- The scale of a column that is not a query's is one. -/
theorem host_s (n : Fin 7168) (h : 1024 ≤ n.val) : V m c main_v5 (ix2 0 n) = (1 : EReal) := by
  simp only [V, hostOps0, hostOps0_1, hostOps0_2, List.flatten_cons, List.flatten_nil, List.append_nil, List.cons_append, List.nil_append]
  entry_read
  have e : IntOp.cmpi CmpIPredicate.slt (BitVec.ofNat 32 n.val) 1024#32 = 0#1 := by
    have hn : (BitVec.ofNat 32 n.val).toNat = n.val := by rw [BitVec.toNat_ofNat]; omega
    have h1 : (BitVec.ofNat 32 n.val).toInt = (n.val : ℤ) := by
      rw [BitVec.toInt_eq_toNat_of_lt (by rw [hn]; omega), hn]
    have h2 : ¬ ((n.val : ℤ) < 1024) := by omega
    simp [IntOp.cmpi, BitVec.slt, h1, h2]
  simp only [StableHlo.TRef.ofBuf_toBuf]
  simp only [StableHlo.TRef.ofBuf, StableHlo.TRef.toBuf, StableHlo.TRef.of, cast_eq, eqRec_eq_cast]
  pointwise
  rw [e]
  exact if_neg (by decide)

/-- The staged scale is one. -/
theorem blkS (n : Fin 1024) : iblk m c 2 t (ix2 0 n) = (1 : EReal) := by
  refine Eq.trans ?_ (host_s m c ⟨3072 + 1024 * (t.val / 8) + n, by have := t_lt t; omega⟩ (by show 1024 ≤ 3072 + 1024 * (t.val / 8) + n.val; omega))
  blk_ext [iblk, idx t]

/-- The loads of a grid point. -/
def ldA : Vec Ideal S1024x2048 .bf16 := View.readAt (Elt Ideal) (ms0_0 t).view
  (Rect.unit (s := S1024x2048) ![0, 0] S1024x2048.size inb_S1024x2048_S1024x2048_0_0).toLoadRect ((hs0_0 t).unread (iblk m c 0 t))
@[inherit_doc ldA]
def ldW : Vec Ideal S2048x1024 .f32 := View.readAt (Elt Ideal) (ms0_1 t).view
  (Rect.unit (s := S2048x1024) ![0, 0] S2048x1024.size inb_S2048x1024_S2048x1024_0_0).toLoadRect ((hs0_1 t).unread (iblk m c 1 t))
@[inherit_doc ldA]
def ldS : Vec Ideal S1x1024 .f32 := View.readAt (Elt Ideal) (ms0_2 t).view
  (Rect.unit (s := S1x1024) ![0, 0] S1x1024.size inb_S1x1024_S1x1024_0_0).toLoadRect ((hs0_2 t).unread (iblk m c 2 t))
@[inherit_doc ldA]
def ldH (x : Vec Ideal S2048x1024 .bf16) : Vec Ideal S2048x1024 .bf16 := View.readAt (Elt Ideal) scM0_0.view
  (Rect.unit (s := S2048x1024) ![0, 0] S2048x1024.size inb_S2048x1024_S2048x1024_0_0).toLoadRect
    ((Memref.isWhole_whole _ : scM0_0.IsWhole).unread x)

/-- The load of the rows. -/
theorem ldA_apply (r : Fin 1024) (k : Fin 2048) : ldA m c t (ix2 r k) =
    m ((c : Thread nD τ).loc main_arg0) (ix2 ⟨1024 * (t.val % 8) + r, by omega⟩ k) := by
  refine (((hs0_0 t).readAt_unread _ _ _).trans (congrArg (iblk m c 0 t) ?_)).trans (blkA m c t r k)
  funext a; fin_cases a <;> refine Fin.ext ?_ <;> simp [LoadRect.idx, ix2]
/-- The load of the columns. -/
theorem ldW_apply (k : Fin 2048) (n : Fin 1024) : ldW m c t (ix2 k n) =
    m ((c : Thread nD τ).loc main_arg1) (ix2 k ⟨3072 + 1024 * (t.val / 8) + n, by have := t_lt t; omega⟩) := by
  refine (((hs0_1 t).readAt_unread _ _ _).trans (congrArg (iblk m c 1 t) ?_)).trans (blkW m c t k n)
  funext a; fin_cases a <;> refine Fin.ext ?_ <;> simp [LoadRect.idx, ix2]
/-- The load of the scale. -/
theorem ldS_apply (n : Fin 1024) : ldS m c t (ix2 0 n) = (1 : EReal) := by
  refine (((hs0_2 t).readAt_unread _ _ _).trans (congrArg (iblk m c 2 t) ?_)).trans (blkS m c t n)
  funext a; fin_cases a <;> refine Fin.ext ?_ <;> simp [LoadRect.idx, ix2]
/-- The load of the scratch. -/
theorem ldH_apply (x : Vec Ideal S2048x1024 .bf16) (k : Fin 2048) (n : Fin 1024) : ldH x (ix2 k n) = x (ix2 k n) := by
  refine ((Memref.isWhole_whole _ : scM0_0.IsWhole).readAt_unread _ _ _).trans (congrArg x ?_)
  funext a; fin_cases a <;> refine Fin.ext ?_ <;> simp [LoadRect.idx, ix2]

/-- The weight the first row block stores. -/
def sPieces : List (View.Piece (Elt Ideal) S2048x1024 .bf16) :=
  [⟨Rect.unit (s := S2048x1024) ![0, 0] S2048x1024.size inb_S2048x1024_S2048x1024_0_0, k0_pay1 (ldW m c t) (ldS m c t)⟩]
/-- What the first row block reads back of it. -/
def ldNew : Vec Ideal S2048x1024 .bf16 := scM0_0.view.readCov (sPieces m c t)
  (Rect.unit (s := S2048x1024) ![0, 0] S2048x1024.size inb_S2048x1024_S2048x1024_0_0).toLoadRect
/-- What a row block stores in the output, from a weight. -/
def oPieces (h : Vec Ideal S2048x1024 .bf16) : List (View.Piece (Elt Ideal) S1024x1024 .f32) :=
  [⟨Rect.unit (s := S1024x1024) ![0, 0] S1024x1024.size inb_S1024x1024_S1024x1024_0_0, k0_pay2 (ldA m c t) h⟩]

set_option maxHeartbeats 4000000 in
/-- The first row block stores the weight. -/
theorem scr_A (h : t.val % 8 = 0) : (outsAt0 m c t.val t.isLt).2 = View.canon (sPieces m c t) := by
  rw [outsAt0_A m c t h]
  dsimp only
  unfold sout0_A_0
  rw [View.read_writes_eq_canon _ _ _ (scover0_A_0 c _ _ _ _ _ _ _ _ _ _ _ _ _ _ _)]
  unfold kernelRun0_A
  dsimp only
  exact congrArg View.canon (by with_unfolding_all rfl)

set_option maxHeartbeats 4000000 in
/-- The first row block stores its product. -/
theorem out_A (h : t.val % 8 = 0) : (outsAt0 m c t.val t.isLt).1 = View.canon (oPieces m c t (ldNew m c t)) := by
  rw [outsAt0_A m c t h]
  dsimp only
  unfold out0_A_3
  rw [View.read_writes_eq_canon _ _ _ (cover0_A_3 c _ _ _ _ _ _ _ _ _ _ _ _ _ _ _)]
  unfold kernelRun0_A
  dsimp only
  exact congrArg View.canon (by with_unfolding_all rfl)

/-- The outputs before a grid point. -/
abbrev prev : Vec Ideal S1024x1024 .f32 × Vec Ideal S2048x1024 .bf16 :=
  outsAt0 m c (t.val - 1) (Nat.lt_of_le_of_lt (Nat.sub_le _ _) t.isLt)

set_option maxHeartbeats 4000000 in
/-- A later row block stores its product. -/
theorem out_B (h : ¬t.val % 8 = 0) : (outsAt0 m c t.val t.isLt).1 = View.canon (oPieces m c t (ldH (prev m c t).2)) := by
  rw [outsAt0_B m c t h]
  dsimp only
  unfold out0_B_3
  rw [View.read_writes_eq_canon _ _ _ (cover0_B_3 c _ _ _ _ _ _ _ _ _ _ _ _ _ _ _ _)]
  unfold kernelRun0_B
  dsimp only
  exact congrArg View.canon (by with_unfolding_all rfl)

/-- A later row block keeps the weight. -/
theorem scr_B (h : ¬t.val % 8 = 0) : (outsAt0 m c t.val t.isLt).2 = (prev m c t).2 := by
  rw [outsAt0_B m c t h]
  rfl

/-- The weight of a grid point's columns. -/
def wgt (k : Fin 2048) (n : Fin 1024) : EReal :=
  a1 m c (ix2 k ⟨3072 + 1024 * (t.val / 8) + n, by have := t_lt t; omega⟩)

/-- An index of a matrix, by its coordinates. -/
theorem ix2_of {a b : ℕ} (x : Shape.Idx ⟨2, ![a, b]⟩) : ∃ (r : Fin a) (k : Fin b), x = ix2 r k :=
  ⟨x 0, x 1, by funext e; fin_cases e <;> rfl⟩
/-- A whole array lies in itself. -/
theorem embS (k : Fin 2048) (n : Fin 1024) :
    (Rect.unit (s := S2048x1024) ![0, 0] S2048x1024.size inb_S2048x1024_S2048x1024_0_0).emb (ix2 k n) = ix2 k n := by
  funext a
  fin_cases a <;> refine Fin.ext ?_
  · show 0 + 1 * k.val = k.val; omega
  · show 0 + 1 * n.val = n.val; omega
/-- A whole block lies in itself. -/
theorem embO (r n : Fin 1024) :
    (Rect.unit (s := S1024x1024) ![0, 0] S1024x1024.size inb_S1024x1024_S1024x1024_0_0).emb (ix2 r n) = ix2 r n := by
  funext a
  fin_cases a <;> refine Fin.ext ?_
  · show 0 + 1 * r.val = r.val; omega
  · show 0 + 1 * n.val = n.val; omega

/-- The stored weight. -/
theorem sPieces_canon (k : Fin 2048) (n : Fin 1024) : View.canon (sPieces m c t) (ix2 k n) = wgt m c t k n := by
  refine View.canon_apply_of_pieces (fun y => wgt m c t (y 0) (y 1)) _ ?_ (ix2 k n)
    (View.cover_of_tiledL (sPieces m c t) S2048x1024.size (by sl_kernel_rfl) (ix2 k n))
  intro p hp
  simp only [sPieces, List.mem_cons, List.not_mem_nil, or_false] at hp
  subst hp
  intro x
  obtain ⟨k, n, rfl⟩ := ix2_of x
  refine (pay1 _ _ k n).trans ?_
  rw [ldW_apply, ldS_apply, mul_one, embS]
  rfl
/-- What is read back of it. -/
theorem ldNew_apply (k : Fin 2048) (n : Fin 1024) : ldNew m c t (ix2 k n) = wgt m c t k n := by
  unfold ldNew
  rw [View.readCov_eq_canon']
  refine (congrArg (View.canon (sPieces m c t)) ?_).trans (sPieces_canon m c t k n)
  funext a; fin_cases a <;> refine Fin.ext ?_ <;> simp [LoadRect.idx, ix2]

/-- The scratch holds the weight of the grid point's columns. -/
theorem scr (p : ℕ) : ∀ (hp : p < cfg0.N) (k : Fin 2048) (n : Fin 1024), (outsAt0 m c p hp).2 (ix2 k n) = wgt m c ⟨p, hp⟩ k n := by
  induction p with
  | zero =>
    intro hp k n
    rw [scr_A m c ⟨0, hp⟩ rfl]; exact sPieces_canon m c _ k n
  | succ p ih =>
    intro hp k n
    by_cases h0 : (p + 1) % 8 = 0
    · rw [scr_A m c ⟨p + 1, hp⟩ h0]; exact sPieces_canon m c _ k n
    · rw [scr_B m c ⟨p + 1, hp⟩ h0]
      refine (ih (by omega) k n).trans ?_
      have e : p / 8 = (p + 1) / 8 := by omega
      unfold wgt
      simp only [e]

/-- The product stored from a weight. -/
theorem oPieces_canon (h : Vec Ideal S2048x1024 .bf16) (e : ∀ k n, h (ix2 k n) = wgt m c t k n) (r n : Fin 1024) :
    View.canon (oPieces m c t h) (ix2 r n) =
      ∑ k, a0 m c (ix2 ⟨1024 * (t.val % 8) + r, by omega⟩ k) * wgt m c t k n := by
  refine View.canon_apply_of_pieces (fun y : S1024x1024.Idx => ∑ k, a0 m c
    (ix2 ⟨1024 * (t.val % 8) + (y 0).val, by have : (y 0).val < 1024 := (y 0).isLt; omega⟩ k) * wgt m c t k (y 1)) _ ?_ (ix2 r n)
    (View.cover_of_tiledL (oPieces m c t h) S1024x1024.size (by sl_kernel_rfl) (ix2 r n))
  intro p hp
  simp only [oPieces, List.mem_cons, List.not_mem_nil, or_false] at hp
  subst hp
  intro x
  obtain ⟨r, n, rfl⟩ := ix2_of x
  refine (pay2 _ _ r n).trans ?_
  simp only [ldA_apply, e]
  rw [embO]
  rfl

/-- What a grid point stores. -/
theorem out_apply (r n : Fin 1024) : (outsAt0 m c t.val t.isLt).1 (ix2 r n) =
    ∑ k, a0 m c (ix2 ⟨1024 * (t.val % 8) + r, by omega⟩ k) * wgt m c t k n := by
  by_cases h0 : t.val % 8 = 0
  · rw [out_A m c t h0]; exact oPieces_canon m c t _ (ldNew_apply m c t) r n
  · rw [out_B m c t h0]
    refine oPieces_canon m c t _ (fun k n => ?_) r n
    refine (ldH_apply _ k n).trans ((scr m c (t.val - 1) (Nat.lt_of_le_of_lt (Nat.sub_le _ _) t.isLt) k n).trans ?_)
    have e : (t.val - 1) / 8 = t.val / 8 := by omega
    unfold wgt
    simp only [e]

/-- The result array, entry by entry. -/
theorem result (i : S8192x4096.Idx) : (Value.G3 m c i : EReal) = ∑ k : Fin 2048, a0 m c (ix2 (i 0) k) *
    a1 m c (ix2 k ⟨3072 + (i 1).val, by have : (i 1).val < 4096 := (i 1).isLt; omega⟩) := by
  have h0 : (i 0).val < 8192 := (i 0).isLt
  have h1 : (i 1).val < 4096 := (i 1).isLt
  have hp : Value.pt3Of i = (i 0).val / 1024 + 8 * ((i 1).val / 1024) := by
    unfold Value.pt3Of Value.run3Of
    omega
  have hlt : Value.pt3Of i < cfg0.N := by rw [hp, show cfg0.N = 32 from N_0]; omega
  unfold Value.G3
  rw [dif_pos hlt, ← Value.outsAt0_sweep m c _ hlt]
  have hl : Value.loc3Of i = ix2 ⟨(i 0).val % 1024, by omega⟩ ⟨(i 1).val % 1024, by omega⟩ := by
    funext a
    fin_cases a <;> rfl
  rw [hl]
  refine (out_apply m c ⟨Value.pt3Of i, hlt⟩ _ _).trans ?_
  have er : (⟨1024 * (Value.pt3Of i % 8) + (i 0).val % 1024, by omega⟩ : Fin 8192) = i 0 := Fin.ext (by
    show 1024 * (Value.pt3Of i % 8) + (i 0).val % 1024 = (i 0).val; omega)
  have en : 3072 + 1024 * (Value.pt3Of i / 8) + (i 1).val % 1024 = 3072 + (i 1).val := by omega
  refine Finset.sum_congr rfl fun k _ => congrArg₂ (fun p q : EReal => p * q) ?_ ?_
  · exact congrArg (fun q : Fin 8192 => a0 m c (ix2 q k)) er
  · exact congrArg (fun q : Fin 7168 => a1 m c (ix2 k q)) (Fin.ext en)

/-- The result is the reference's. -/
theorem result_ref : Value.G3 m c = Cert.RecRefIdeal.Read.val_main_v2 (F := Ideal) (m ((c : Thread nD τ).loc main_arg0)) (m ((c : Thread nD τ).loc main_arg1)) := by
  funext i
  rw [result m c i]
  rw [Cert.RecRefIdeal.Read.val_main_v2_apply, Cert.RecRefIdeal.Read.val_main_v1_apply]
  show (_ : EReal) = _
  refine Finset.sum_congr rfl fun k _ => congrArg₂ (fun p q : EReal => p * q) ?_ ?_
  · refine congrArg (m ((c : Thread nD τ).loc main_arg0)) ?_
    funext a; fin_cases a <;> rfl
  · refine congrArg (m ((c : Thread nD τ).loc main_arg1)) ?_
    funext a; fin_cases a <;> rfl

end Cert.RecIdeal.Own
end
-- ==== Proof.KvResult.lean ====
module

public import proofs.«01_k».proof.Proof.Gen.KvIdeal.Value
public import proofs.«01_k».proof.Proof.Gen.KvRefIdeal.Read
public import Idealize.ShloMosaic.Lib.Pipeline.ValueKit
public import Idealize.ShloMosaic.Lib.WholeRead

/-! The projection to keys and values: the call's result is the reference's. -/

@[expose] public section

set_option maxRecDepth 16384

noncomputable section

namespace Cert.KvIdeal.Own

open Cert.KvIdeal Cert.KvIdeal.Gen Idealize.ShloMosaic Idealize.ShloMosaic.TcCoe Idealize.SL.Sem Idealize.ShloMosaic.Tactic

/-- The scaled weight. -/
theorem pay1 (W : Vec Ideal S2048x1024 .f32) (S : Vec Ideal S1x1024 .f32) (k : Fin 2048) (n : Fin 1024) :
    k0_pay1 (F := Ideal) W S (ix2 k n) = W (ix2 k n) * S (ix2 0 n) := by
  pointwise [k0_pay1]

/-- The product of a block of rows and a block of columns. -/
theorem pay2 (A : Vec Ideal S1024x2048 .bf16) (H : Vec Ideal S2048x1024 .bf16) (r n : Fin 1024) :
    k0_pay2 (F := Ideal) A H (ix2 r n) = ∑ k, A (ix2 r k) * H (ix2 k n) := by
  pointwise [k0_pay2]

variable (m : (ℓ : Loc nD τ sig) → Buf (Elt Ideal) ℓ) (c : Dev nD) (t : Fin cfg0.N)

/-- The rows, as extended reals. -/
abbrev a0 : S8192x2048.Idx → EReal := m ((c : Thread nD τ).loc main_arg0)
/-- The weight, as extended reals. -/
abbrev a1 : S2048x7168.Idx → EReal := m ((c : Thread nD τ).loc main_arg1)

/-- There are 16 grid points. -/
theorem t_lt : t.val < 16 := lt_of_lt_of_eq t.isLt (show cfg0.N = 16 from N_0)

/-- The blocks a grid point stages: rows and columns, the columns outermost. -/
theorem idx : ∀ t : Fin cfg0.N, win0_0.index t = ![t.val % 8, 0] ∧ win0_1.index t = ![0, 1 + t.val / 8] ∧
    win0_2.index t = ![0, 1 + t.val / 8] :=
  (by decide +kernel : ∀ t : Fin grid0.N, _)

/-- The staged rows. -/
theorem blkA (r : Fin 1024) (k : Fin 2048) : iblk m c 0 t (ix2 r k) =
    m ((c : Thread nD τ).loc main_arg0) (ix2 ⟨1024 * (t.val % 8) + r, by omega⟩ k) := by
  blk_ext [iblk, V, idx t]
/-- The staged columns of the weight. -/
theorem blkW (k : Fin 2048) (n : Fin 1024) : iblk m c 1 t (ix2 k n) =
    m ((c : Thread nD τ).loc main_arg1) (ix2 k ⟨1024 + 1024 * (t.val / 8) + n, by have := t_lt t; omega⟩) := by
  blk_ext [iblk, V, idx t]
/-- The scale of a column that is not a query's is one. -/
theorem host_s (n : Fin 7168) (h : 1024 ≤ n.val) : V m c main_v5 (ix2 0 n) = (1 : EReal) := by
  simp only [V, hostOps0, hostOps0_1, hostOps0_2, List.flatten_cons, List.flatten_nil, List.append_nil, List.cons_append, List.nil_append]
  entry_read
  have e : IntOp.cmpi CmpIPredicate.slt (BitVec.ofNat 32 n.val) 1024#32 = 0#1 := by
    have hn : (BitVec.ofNat 32 n.val).toNat = n.val := by rw [BitVec.toNat_ofNat]; omega
    have h1 : (BitVec.ofNat 32 n.val).toInt = (n.val : ℤ) := by
      rw [BitVec.toInt_eq_toNat_of_lt (by rw [hn]; omega), hn]
    have h2 : ¬ ((n.val : ℤ) < 1024) := by omega
    simp [IntOp.cmpi, BitVec.slt, h1, h2]
  simp only [StableHlo.TRef.ofBuf_toBuf]
  simp only [StableHlo.TRef.ofBuf, StableHlo.TRef.toBuf, StableHlo.TRef.of, cast_eq, eqRec_eq_cast]
  pointwise
  rw [e]
  exact if_neg (by decide)

/-- The staged scale is one. -/
theorem blkS (n : Fin 1024) : iblk m c 2 t (ix2 0 n) = (1 : EReal) := by
  refine Eq.trans ?_ (host_s m c ⟨1024 + 1024 * (t.val / 8) + n, by have := t_lt t; omega⟩ (by show 1024 ≤ 1024 + 1024 * (t.val / 8) + n.val; omega))
  blk_ext [iblk, idx t]

/-- The loads of a grid point. -/
def ldA : Vec Ideal S1024x2048 .bf16 := View.readAt (Elt Ideal) (ms0_0 t).view
  (Rect.unit (s := S1024x2048) ![0, 0] S1024x2048.size inb_S1024x2048_S1024x2048_0_0).toLoadRect ((hs0_0 t).unread (iblk m c 0 t))
@[inherit_doc ldA]
def ldW : Vec Ideal S2048x1024 .f32 := View.readAt (Elt Ideal) (ms0_1 t).view
  (Rect.unit (s := S2048x1024) ![0, 0] S2048x1024.size inb_S2048x1024_S2048x1024_0_0).toLoadRect ((hs0_1 t).unread (iblk m c 1 t))
@[inherit_doc ldA]
def ldS : Vec Ideal S1x1024 .f32 := View.readAt (Elt Ideal) (ms0_2 t).view
  (Rect.unit (s := S1x1024) ![0, 0] S1x1024.size inb_S1x1024_S1x1024_0_0).toLoadRect ((hs0_2 t).unread (iblk m c 2 t))
@[inherit_doc ldA]
def ldH (x : Vec Ideal S2048x1024 .bf16) : Vec Ideal S2048x1024 .bf16 := View.readAt (Elt Ideal) scM0_0.view
  (Rect.unit (s := S2048x1024) ![0, 0] S2048x1024.size inb_S2048x1024_S2048x1024_0_0).toLoadRect
    ((Memref.isWhole_whole _ : scM0_0.IsWhole).unread x)

/-- The load of the rows. -/
theorem ldA_apply (r : Fin 1024) (k : Fin 2048) : ldA m c t (ix2 r k) =
    m ((c : Thread nD τ).loc main_arg0) (ix2 ⟨1024 * (t.val % 8) + r, by omega⟩ k) := by
  refine (((hs0_0 t).readAt_unread _ _ _).trans (congrArg (iblk m c 0 t) ?_)).trans (blkA m c t r k)
  funext a; fin_cases a <;> refine Fin.ext ?_ <;> simp [LoadRect.idx, ix2]
/-- The load of the columns. -/
theorem ldW_apply (k : Fin 2048) (n : Fin 1024) : ldW m c t (ix2 k n) =
    m ((c : Thread nD τ).loc main_arg1) (ix2 k ⟨1024 + 1024 * (t.val / 8) + n, by have := t_lt t; omega⟩) := by
  refine (((hs0_1 t).readAt_unread _ _ _).trans (congrArg (iblk m c 1 t) ?_)).trans (blkW m c t k n)
  funext a; fin_cases a <;> refine Fin.ext ?_ <;> simp [LoadRect.idx, ix2]
/-- The load of the scale. -/
theorem ldS_apply (n : Fin 1024) : ldS m c t (ix2 0 n) = (1 : EReal) := by
  refine (((hs0_2 t).readAt_unread _ _ _).trans (congrArg (iblk m c 2 t) ?_)).trans (blkS m c t n)
  funext a; fin_cases a <;> refine Fin.ext ?_ <;> simp [LoadRect.idx, ix2]
/-- The load of the scratch. -/
theorem ldH_apply (x : Vec Ideal S2048x1024 .bf16) (k : Fin 2048) (n : Fin 1024) : ldH x (ix2 k n) = x (ix2 k n) := by
  refine ((Memref.isWhole_whole _ : scM0_0.IsWhole).readAt_unread _ _ _).trans (congrArg x ?_)
  funext a; fin_cases a <;> refine Fin.ext ?_ <;> simp [LoadRect.idx, ix2]

/-- The weight the first row block stores. -/
def sPieces : List (View.Piece (Elt Ideal) S2048x1024 .bf16) :=
  [⟨Rect.unit (s := S2048x1024) ![0, 0] S2048x1024.size inb_S2048x1024_S2048x1024_0_0, k0_pay1 (ldW m c t) (ldS m c t)⟩]
/-- What the first row block reads back of it. -/
def ldNew : Vec Ideal S2048x1024 .bf16 := scM0_0.view.readCov (sPieces m c t)
  (Rect.unit (s := S2048x1024) ![0, 0] S2048x1024.size inb_S2048x1024_S2048x1024_0_0).toLoadRect
/-- What a row block stores in the output, from a weight. -/
def oPieces (h : Vec Ideal S2048x1024 .bf16) : List (View.Piece (Elt Ideal) S1024x1024 .bf16) :=
  [⟨Rect.unit (s := S1024x1024) ![0, 0] S1024x1024.size inb_S1024x1024_S1024x1024_0_0, k0_pay2 (ldA m c t) h⟩]

set_option maxHeartbeats 4000000 in
/-- The first row block stores the weight. -/
theorem scr_A (h : t.val % 8 = 0) : (outsAt0 m c t.val t.isLt).2 = View.canon (sPieces m c t) := by
  rw [outsAt0_A m c t h]
  dsimp only
  unfold sout0_A_0
  rw [View.read_writes_eq_canon _ _ _ (scover0_A_0 c _ _ _ _ _ _ _ _ _ _ _ _ _ _ _)]
  unfold kernelRun0_A
  dsimp only
  exact congrArg View.canon (by with_unfolding_all rfl)

set_option maxHeartbeats 4000000 in
/-- The first row block stores its product. -/
theorem out_A (h : t.val % 8 = 0) : (outsAt0 m c t.val t.isLt).1 = View.canon (oPieces m c t (ldNew m c t)) := by
  rw [outsAt0_A m c t h]
  dsimp only
  unfold out0_A_3
  rw [View.read_writes_eq_canon _ _ _ (cover0_A_3 c _ _ _ _ _ _ _ _ _ _ _ _ _ _ _)]
  unfold kernelRun0_A
  dsimp only
  exact congrArg View.canon (by with_unfolding_all rfl)

/-- The outputs before a grid point. -/
abbrev prev : Vec Ideal S1024x1024 .bf16 × Vec Ideal S2048x1024 .bf16 :=
  outsAt0 m c (t.val - 1) (Nat.lt_of_le_of_lt (Nat.sub_le _ _) t.isLt)

set_option maxHeartbeats 4000000 in
/-- A later row block stores its product. -/
theorem out_B (h : ¬t.val % 8 = 0) : (outsAt0 m c t.val t.isLt).1 = View.canon (oPieces m c t (ldH (prev m c t).2)) := by
  rw [outsAt0_B m c t h]
  dsimp only
  unfold out0_B_3
  rw [View.read_writes_eq_canon _ _ _ (cover0_B_3 c _ _ _ _ _ _ _ _ _ _ _ _ _ _ _ _)]
  unfold kernelRun0_B
  dsimp only
  exact congrArg View.canon (by with_unfolding_all rfl)

/-- A later row block keeps the weight. -/
theorem scr_B (h : ¬t.val % 8 = 0) : (outsAt0 m c t.val t.isLt).2 = (prev m c t).2 := by
  rw [outsAt0_B m c t h]
  rfl

/-- The weight of a grid point's columns. -/
def wgt (k : Fin 2048) (n : Fin 1024) : EReal :=
  a1 m c (ix2 k ⟨1024 + 1024 * (t.val / 8) + n, by have := t_lt t; omega⟩)

/-- An index of a matrix, by its coordinates. -/
theorem ix2_of {a b : ℕ} (x : Shape.Idx ⟨2, ![a, b]⟩) : ∃ (r : Fin a) (k : Fin b), x = ix2 r k :=
  ⟨x 0, x 1, by funext e; fin_cases e <;> rfl⟩
/-- A whole array lies in itself. -/
theorem embS (k : Fin 2048) (n : Fin 1024) :
    (Rect.unit (s := S2048x1024) ![0, 0] S2048x1024.size inb_S2048x1024_S2048x1024_0_0).emb (ix2 k n) = ix2 k n := by
  funext a
  fin_cases a <;> refine Fin.ext ?_
  · show 0 + 1 * k.val = k.val; omega
  · show 0 + 1 * n.val = n.val; omega
/-- A whole block lies in itself. -/
theorem embO (r n : Fin 1024) :
    (Rect.unit (s := S1024x1024) ![0, 0] S1024x1024.size inb_S1024x1024_S1024x1024_0_0).emb (ix2 r n) = ix2 r n := by
  funext a
  fin_cases a <;> refine Fin.ext ?_
  · show 0 + 1 * r.val = r.val; omega
  · show 0 + 1 * n.val = n.val; omega

/-- The stored weight. -/
theorem sPieces_canon (k : Fin 2048) (n : Fin 1024) : View.canon (sPieces m c t) (ix2 k n) = wgt m c t k n := by
  refine View.canon_apply_of_pieces (fun y => wgt m c t (y 0) (y 1)) _ ?_ (ix2 k n)
    (View.cover_of_tiledL (sPieces m c t) S2048x1024.size (by sl_kernel_rfl) (ix2 k n))
  intro p hp
  simp only [sPieces, List.mem_cons, List.not_mem_nil, or_false] at hp
  subst hp
  intro x
  obtain ⟨k, n, rfl⟩ := ix2_of x
  refine (pay1 _ _ k n).trans ?_
  rw [ldW_apply, ldS_apply, mul_one, embS]
  rfl
/-- What is read back of it. -/
theorem ldNew_apply (k : Fin 2048) (n : Fin 1024) : ldNew m c t (ix2 k n) = wgt m c t k n := by
  unfold ldNew
  rw [View.readCov_eq_canon']
  refine (congrArg (View.canon (sPieces m c t)) ?_).trans (sPieces_canon m c t k n)
  funext a; fin_cases a <;> refine Fin.ext ?_ <;> simp [LoadRect.idx, ix2]

/-- The scratch holds the weight of the grid point's columns. -/
theorem scr (p : ℕ) : ∀ (hp : p < cfg0.N) (k : Fin 2048) (n : Fin 1024), (outsAt0 m c p hp).2 (ix2 k n) = wgt m c ⟨p, hp⟩ k n := by
  induction p with
  | zero =>
    intro hp k n
    rw [scr_A m c ⟨0, hp⟩ rfl]; exact sPieces_canon m c _ k n
  | succ p ih =>
    intro hp k n
    by_cases h0 : (p + 1) % 8 = 0
    · rw [scr_A m c ⟨p + 1, hp⟩ h0]; exact sPieces_canon m c _ k n
    · rw [scr_B m c ⟨p + 1, hp⟩ h0]
      refine (ih (by omega) k n).trans ?_
      have e : p / 8 = (p + 1) / 8 := by omega
      unfold wgt
      simp only [e]

/-- The product stored from a weight. -/
theorem oPieces_canon (h : Vec Ideal S2048x1024 .bf16) (e : ∀ k n, h (ix2 k n) = wgt m c t k n) (r n : Fin 1024) :
    View.canon (oPieces m c t h) (ix2 r n) =
      ∑ k, a0 m c (ix2 ⟨1024 * (t.val % 8) + r, by omega⟩ k) * wgt m c t k n := by
  refine View.canon_apply_of_pieces (fun y : S1024x1024.Idx => ∑ k, a0 m c
    (ix2 ⟨1024 * (t.val % 8) + (y 0).val, by have : (y 0).val < 1024 := (y 0).isLt; omega⟩ k) * wgt m c t k (y 1)) _ ?_ (ix2 r n)
    (View.cover_of_tiledL (oPieces m c t h) S1024x1024.size (by sl_kernel_rfl) (ix2 r n))
  intro p hp
  simp only [oPieces, List.mem_cons, List.not_mem_nil, or_false] at hp
  subst hp
  intro x
  obtain ⟨r, n, rfl⟩ := ix2_of x
  refine (pay2 _ _ r n).trans ?_
  simp only [ldA_apply, e]
  rw [embO]
  rfl

/-- What a grid point stores. -/
theorem out_apply (r n : Fin 1024) : (outsAt0 m c t.val t.isLt).1 (ix2 r n) =
    ∑ k, a0 m c (ix2 ⟨1024 * (t.val % 8) + r, by omega⟩ k) * wgt m c t k n := by
  by_cases h0 : t.val % 8 = 0
  · rw [out_A m c t h0]; exact oPieces_canon m c t _ (ldNew_apply m c t) r n
  · rw [out_B m c t h0]
    refine oPieces_canon m c t _ (fun k n => ?_) r n
    refine (ldH_apply _ k n).trans ((scr m c (t.val - 1) (Nat.lt_of_le_of_lt (Nat.sub_le _ _) t.isLt) k n).trans ?_)
    have e : (t.val - 1) / 8 = t.val / 8 := by omega
    unfold wgt
    simp only [e]

/-- The result array, entry by entry. -/
theorem result (i : S8192x2048.Idx) : (Value.G3 m c i : EReal) = ∑ k : Fin 2048, a0 m c (ix2 (i 0) k) *
    a1 m c (ix2 k ⟨1024 + (i 1).val, by have : (i 1).val < 2048 := (i 1).isLt; omega⟩) := by
  have h0 : (i 0).val < 8192 := (i 0).isLt
  have h1 : (i 1).val < 2048 := (i 1).isLt
  have hp : Value.pt3Of i = (i 0).val / 1024 + 8 * ((i 1).val / 1024) := by
    unfold Value.pt3Of Value.run3Of
    omega
  have hlt : Value.pt3Of i < cfg0.N := by rw [hp, show cfg0.N = 16 from N_0]; omega
  unfold Value.G3
  rw [dif_pos hlt, ← Value.outsAt0_sweep m c _ hlt]
  have hl : Value.loc3Of i = ix2 ⟨(i 0).val % 1024, by omega⟩ ⟨(i 1).val % 1024, by omega⟩ := by
    funext a
    fin_cases a <;> rfl
  rw [hl]
  refine (out_apply m c ⟨Value.pt3Of i, hlt⟩ _ _).trans ?_
  have er : (⟨1024 * (Value.pt3Of i % 8) + (i 0).val % 1024, by omega⟩ : Fin 8192) = i 0 := Fin.ext (by
    show 1024 * (Value.pt3Of i % 8) + (i 0).val % 1024 = (i 0).val; omega)
  have en : 1024 + 1024 * (Value.pt3Of i / 8) + (i 1).val % 1024 = 1024 + (i 1).val := by omega
  refine Finset.sum_congr rfl fun k _ => congrArg₂ (fun p q : EReal => p * q) ?_ ?_
  · exact congrArg (fun q : Fin 8192 => a0 m c (ix2 q k)) er
  · exact congrArg (fun q : Fin 7168 => a1 m c (ix2 k q)) (Fin.ext en)

/-- The result is the reference's. -/
theorem result_ref : Value.G3 m c = Cert.KvRefIdeal.Read.val_main_v3 (F := Ideal) (m ((c : Thread nD τ).loc main_arg0)) (m ((c : Thread nD τ).loc main_arg1)) := by
  funext i
  rw [result m c i]
  refine Eq.trans ?_ (Cert.KvRefIdeal.Read.val_main_v3_apply (F := Ideal) _ _ i).symm
  show _ = Cert.KvRefIdeal.Read.val_main_v2 (F := Ideal) (m ((c : Thread nD τ).loc main_arg0)) (m ((c : Thread nD τ).loc main_arg1)) i
  rw [Cert.KvRefIdeal.Read.val_main_v2_apply, Cert.KvRefIdeal.Read.val_main_v1_apply]
  show (_ : EReal) = _
  refine Finset.sum_congr rfl fun k _ => congrArg₂ (fun p q : EReal => p * q) ?_ ?_
  · refine congrArg (m ((c : Thread nD τ).loc main_arg0)) ?_
    funext a; fin_cases a <;> rfl
  · refine congrArg (m ((c : Thread nD τ).loc main_arg1)) ?_
    funext a; fin_cases a <;> rfl

end Cert.KvIdeal.Own
end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.Rec
public import proofs.«01_k».proof.Proof.Gen.Rec.Frame
public import proofs.«01_k».proof.Proof.Gen.RecIdeal
public import proofs.«01_k».proof.Proof.Gen.RecIdeal.Frame
public import proofs.«01_k».proof.Proof.Gen.RecRefIdeal
public import proofs.«01_k».proof.Proof.Gen.RecRefIdeal.Run
public import proofs.«01_k».proof.Proof.Gen.RecRefIdeal.Read
public import proofs.«01_k».proof.Proof.Gen.RecIdeal.Value
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Gen.KvIdeal.Value
public import proofs.«01_k».proof.Proof.Results
public import proofs.«01_k».proof.Proof.Weights
public import proofs.«01_k».proof.Proof.Modulation
public import proofs.«01_k».proof.Proof.Finite
public import proofs.«01_k».proof.Proof.FfnResult
public import proofs.«01_k».proof.Proof.RecResult
public import proofs.«01_k».proof.Proof.KvResult
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem frame_ref : Cert.quiescent_AttnRefIdeal := fun m ρ _ =>
  (θ_run Cert.AttnRefIdeal.defs _ _).mono (fun r h => ⟨fun c => (h c).2.2.2.2,
      Idealize.ShloMosaic.sem_eq_zero_of_no_sems (by decide) r.2⟩)
    (Cert.AttnRefIdeal.Value.run (F := Ideal) m ρ)

/-- The two named constants print what the kernel computes with. -/
theorem preserved : Cert.preserves_Attn_AttnIdeal :=
  ⟨IdealRules.named_const.statement Cert.AttnIdeal.κ "log2e" .f32 0x3FB8AA3B#32 _ rfl,
   IdealRules.named_const.statement Cert.AttnIdeal.κ "mask" .f32 0xF149F2CA#32 _ rfl⟩

/-- The shape relations the precondition's text states. -/
theorem facts_finite : Cert.Pre_finite.Facts where
  bcast_S_S4x2048x1024 := by decide
  slices_S4x2048x2048_S4x2048x1024_0_0_0 := by decide
  bcast_S_S16x513 := by decide
  bcast_S_S4x2048 := by decide
  slices_S2048x12288_S2048x8192_0_4096 := by decide
  bcast_S_S2048x8192 := by decide

/-- On finite inputs the kernel and the reference end with the same four results. -/
theorem algebraic [hPre_finite : Cert.Pre_finite.Facts] : Cert.algebraic_AttnIdeal_AttnRefIdeal_pre_finite := by
  intro m g m' g' hpre hargs
  refine ⟨fun c => Cert.AttnIdeal.Value.G10 m c, fun c => Cert.AttnIdeal.Value.G13 m c, fun c => Cert.AttnIdeal.Value.G11 m c,
    fun c => Cert.AttnIdeal.Value.G12 m c, ?_, ?_⟩
  · refine (θ_run _ _ _).mono (fun r h c => ?_) (Cert.AttnIdeal.Value.run (F := Ideal) m g)
    obtain ⟨h0, h1, h2, h3, h4⟩ := h c
    exact ⟨h0, h3, h1, h2, h4⟩
  · refine (θ_run _ _ _).mono (fun r h c => ?_) (Cert.AttnRefIdeal.Value.run (F := Ideal) m' g')
    obtain ⟨h0, h1, h2, h3, h4⟩ := h c
    obtain ⟨a0, a1, a2, a3, a4, a5, a6, a7, a8⟩ := hargs c
    choose q hq using Cert.AttnIdeal.Own.real_q m c hpre
    choose k hk using Cert.AttnIdeal.Own.real_k m c hpre
    choose b hb using Cert.AttnIdeal.Own.real_r m c hpre
    choose x hx using Cert.AttnIdeal.Own.real_c m c hpre
    choose w hw using Cert.AttnIdeal.Own.real_w m c hpre
    refine ⟨h0.trans ?_, h1.trans ?_, h2.trans ?_, h3.trans ?_, h4⟩
    · rw [Cert.AttnRefIdeal.Read.val_main_v82_eq, a0, a1, a2, a3]
      exact (Cert.AttnIdeal.Own.result_o m c q k b hq hk hb).symm
    · rw [Cert.AttnRefIdeal.Read.val_main_v81_eq, a6, a7, a8]
      exact (Cert.AttnIdeal.Own.result_m m c x w hx hw).symm
    · rw [Cert.AttnRefIdeal.Read.val_main_v83_eq, a4]
      exact (Cert.AttnIdeal.Own.result_u m c).symm
    · rw [Cert.AttnRefIdeal.Read.val_main_v84_eq, a5]
      exact (Cert.AttnIdeal.Own.result_f m c).symm

/-- The reference of the feed-forward call runs, its arguments end unchanged, and it has no semaphore. -/
theorem frame_ref_ffn : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The shape relations the second precondition's text states. -/
theorem facts_finite_ffn : Cert.Pre_finite_ffn.Facts where
  slices_S2048x11264_S2048x5632_0_0 := by decide
  bcast_S_S2048x5632 := by decide
  slices_S4x8192_S4x4096_0_2048 := by decide
  bcast_S_S4x4096 := by decide

/-- Where the gates are finite the feed-forward call and its reference end with the same result. -/
theorem algebraic_ffn [hPre_finite_ffn : Cert.Pre_finite_ffn.Facts] : Cert.algebraic_FfnIdeal_FfnRefIdeal_pre_finite_ffn := by
  intro m g m' g' hpre hargs
  refine ⟨fun c => Cert.FfnIdeal.Value.G7 m c, Cert.FfnIdeal.Value.run (F := Ideal) m g, ?_⟩
  refine (θ_run _ _ _).mono (fun r h c => ?_) (Cert.FfnRefIdeal.Value.run (F := Ideal) m' g')
  obtain ⟨h0, h1⟩ := h c
  obtain ⟨a0, a1, a2, a3, a4, a5⟩ := hargs c
  refine ⟨h0.trans ?_, h1⟩
  rw [Cert.FfnRefIdeal.Read.val_main_v66_eq, a0, a1, a2, a3, a4, a5]
  exact (Cert.FfnIdeal.Own.result_ffn m c hpre).symm

/-- The reference of the projection to the recurrence runs, its arguments end unchanged, and it has no semaphore. -/
theorem frame_ref_rec : Cert.quiescent_RecRefIdeal := fun m ρ _ =>
  (θ_run Cert.RecRefIdeal.defs _ _).mono (fun r h => ⟨fun c => (h c).2,
      Idealize.ShloMosaic.sem_eq_zero_of_no_sems (by decide) r.2⟩)
    (Cert.RecRefIdeal.Value.run (F := Ideal) m ρ)

/-- On every input the projection to the recurrence and its reference end with the same result. -/
theorem algebraic_rec : Cert.algebraic_RecIdeal_RecRefIdeal := by
  intro m g m' g' _ hargs
  refine ⟨fun c => Cert.RecIdeal.Value.G3 m c, Cert.RecIdeal.Value.run (F := Ideal) m g, ?_⟩
  refine (θ_run _ _ _).mono (fun r h c => ?_) (Cert.RecRefIdeal.Value.run (F := Ideal) m' g')
  obtain ⟨h0, h1⟩ := h c
  obtain ⟨a0, a1⟩ := hargs c
  refine ⟨h0.trans ?_, h1⟩
  rw [Cert.RecRefIdeal.Read.val_main_v2_eq, a0, a1]
  exact (Cert.RecIdeal.Own.result_ref m c).symm

/-- The reference of the projection to keys and values runs, its arguments end unchanged, and it has no semaphore. -/
theorem frame_ref_kv : Cert.quiescent_KvRefIdeal := fun m ρ _ =>
  (θ_run Cert.KvRefIdeal.defs _ _).mono (fun r h => ⟨fun c => (h c).2,
      Idealize.ShloMosaic.sem_eq_zero_of_no_sems (by decide) r.2⟩)
    (Cert.KvRefIdeal.Value.run (F := Ideal) m ρ)

/-- On every input the projection to keys and values and its reference end with the same result. -/
theorem algebraic_kv : Cert.algebraic_KvIdeal_KvRefIdeal := by
  intro m g m' g' _ hargs
  refine ⟨fun c => Cert.KvIdeal.Value.G3 m c, Cert.KvIdeal.Value.run (F := Ideal) m g, ?_⟩
  refine (θ_run _ _ _).mono (fun r h c => ?_) (Cert.KvRefIdeal.Value.run (F := Ideal) m' g')
  obtain ⟨h0, h1⟩ := h c
  obtain ⟨a0, a1⟩ := hargs c
  refine ⟨h0.trans ?_, h1⟩
  rw [Cert.KvRefIdeal.Read.val_main_v3_eq, a0, a1]
  exact (Cert.KvIdeal.Own.result_ref m c).symm

/-- The claims of the certificate, under the side conditions their programs state. -/
theorem claim : Cert.Claim :=
  ⟨Cert.Attn.Gen.facts, Cert.AttnIdeal.Gen.facts, Cert.AttnRefIdeal.Gen.facts,
   Cert.Ffn.Gen.facts, Cert.FfnIdeal.Gen.facts, Cert.FfnRefIdeal.Gen.facts,
   Cert.Rec.Gen.facts, Cert.RecIdeal.Gen.facts, Cert.RecRefIdeal.Gen.facts,
   Cert.Kv.Gen.facts, Cert.KvIdeal.Gen.facts, Cert.KvRefIdeal.Gen.facts, facts_finite, facts_finite_ffn,
   fun m ρ _ => Cert.Attn.Gen.frame m ρ, fun m ρ _ => Cert.AttnIdeal.Gen.frame m ρ, fun m ρ _ => Cert.AttnIdeal.Gen.frame m ρ,
   frame_ref, fun m ρ _ => frame_ref m ρ trivial,
   fun m ρ _ => Cert.Ffn.Gen.frame m ρ, fun m ρ _ => Cert.FfnIdeal.Gen.frame m ρ, fun m ρ _ => Cert.FfnIdeal.Gen.frame m ρ,
   frame_ref_ffn, fun m ρ _ => frame_ref_ffn m ρ trivial,
   fun m ρ _ => Cert.Rec.Gen.frame m ρ, fun m ρ _ => Cert.RecIdeal.Gen.frame m ρ, frame_ref_rec,
   fun m ρ _ => Cert.Kv.Gen.frame m ρ, fun m ρ _ => Cert.KvIdeal.Gen.frame m ρ, frame_ref_kv, preserved,
   algebraic (hPre_finite := facts_finite), trivial, algebraic_ffn (hPre_finite_ffn := facts_finite_ffn),
   trivial, algebraic_rec, trivial, algebraic_kv⟩

end Cert.Proof

end
